-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_on_in_sequence [hKernelIdeal : Cert.KernelIdeal.Facts] [hReferenceIdeal : Cert.ReferenceIdeal.Facts] [hOn_in_sequence : Cert.On_in_sequence.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)) (v6 : (c : Dev Cert.KernelIdeal.nD) → Buf (Elt Ideal) ((c.tc : Thread Cert.KernelIdeal.nD Cert.KernelIdeal.τ).loc Cert.KernelIdeal.main_v4_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![16, 4096]⟩ : Shape).Idx, (Cert.On_in_sequence.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v4_0) i = v0 c i)
          ∧ (∀ i : (⟨2, ![16, 2048]⟩ : Shape).Idx, (Cert.On_in_sequence.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.KernelIdeal.nD Cert.KernelIdeal.τ).loc Cert.KernelIdeal.main_v4_1) i = v1 c i)
          ∧ (∀ i : (⟨2, ![16, 2048]⟩ : Shape).Idx, (Cert.On_in_sequence.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.KernelIdeal.nD Cert.KernelIdeal.τ).loc Cert.KernelIdeal.main_v4_2) i = v2 c i)
          ∧ (∀ i : (⟨3, ![16, 2048, 3584]⟩ : Shape).Idx, (Cert.On_in_sequence.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.KernelIdeal.nD Cert.KernelIdeal.τ).loc Cert.KernelIdeal.main_v4_3) i = v3 c i)
          ∧ (∀ i : (⟨2, ![16, 2047]⟩ : Shape).Idx, (Cert.On_in_sequence.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 i = 1#1 → r.2.mem ((c.tc : Thread Cert.KernelIdeal.nD Cert.KernelIdeal.τ).loc Cert.KernelIdeal.main_v4_4) i = v4 c i)
          ∧ (∀ i : (⟨3, ![16, 2048, 4096]⟩ : Shape).Idx, (Cert.On_in_sequence.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 i = 1#1 → r.2.mem ((c.tc : Thread Cert.KernelIdeal.nD Cert.KernelIdeal.τ).loc Cert.KernelIdeal.main_v4_5) i = v5 c i)
          ∧ (∀ i : (⟨2, ![16, 2047]⟩ : Shape).Idx, (Cert.On_in_sequence.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 i = 1#1 → r.2.mem ((c.tc : Thread Cert.KernelIdeal.nD Cert.KernelIdeal.τ).loc Cert.KernelIdeal.main_v4_6) i = v6 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![16, 4096]⟩ : Shape).Idx, (Cert.On_in_sequence.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v10) i = v0 c i)
          ∧ (∀ i : (⟨2, ![16, 2048]⟩ : Shape).Idx, (Cert.On_in_sequence.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.ReferenceIdeal.nD Cert.ReferenceIdeal.τ).loc Cert.ReferenceIdeal.main_v40) i = v1 c i)
          ∧ (∀ i : (⟨2, ![16, 2048]⟩ : Shape).Idx, (Cert.On_in_sequence.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.ReferenceIdeal.nD Cert.ReferenceIdeal.τ).loc Cert.ReferenceIdeal.main_v31) i = v2 c i)
          ∧ (∀ i : (⟨3, ![16, 2048, 3584]⟩ : Shape).Idx, (Cert.On_in_sequence.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.ReferenceIdeal.nD Cert.ReferenceIdeal.τ).loc Cert.ReferenceIdeal.main_v55_0) i = v3 c i)
          ∧ (∀ i : (⟨2, ![16, 2047]⟩ : Shape).Idx, (Cert.On_in_sequence.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 i = 1#1 → r.2.mem ((c.tc : Thread Cert.ReferenceIdeal.nD Cert.ReferenceIdeal.τ).loc Cert.ReferenceIdeal.main_v55_1) i = v4 c i)
          ∧ (∀ i : (⟨3, ![16, 2048, 4096]⟩ : Shape).Idx, (Cert.On_in_sequence.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 i = 1#1 → r.2.mem ((c.tc : Thread Cert.ReferenceIdeal.nD Cert.ReferenceIdeal.τ).loc Cert.ReferenceIdeal.main_v55_2) i = v5 c i)
          ∧ (∀ i : (⟨2, ![16, 2047]⟩ : Shape).Idx, (Cert.On_in_sequence.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 i = 1#1 → r.2.mem ((c.tc : Thread Cert.ReferenceIdeal.nD Cert.ReferenceIdeal.τ).loc Cert.ReferenceIdeal.main_v55_3) i = v6 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hOn_in_sequence : Cert.On_in_sequence.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_in_sequence (hKernelIdeal := hKernelIdeal) (hReferenceIdeal := hReferenceIdeal) (hOn_in_sequence := hOn_in_sequence)
-- ==== On_in_sequence.lean ====
abbrev S16x2048x4096 : Shape := ⟨3, ![16, 2048, 4096]⟩
abbrev S16 : Shape := ⟨1, ![16]⟩
abbrev S16x2048 : Shape := ⟨2, ![16, 2048]⟩
abbrev S4096 : Shape := ⟨1, ![4096]⟩
abbrev S1 : Shape := ⟨1, ![1]⟩
abbrev S4096x3584 : Shape := ⟨2, ![4096, 3584]⟩
abbrev S3584 : Shape := ⟨1, ![3584]⟩
abbrev S_ : Shape := ⟨0, ![]⟩
abbrev S16x4096 : Shape := ⟨2, ![16, 4096]⟩
abbrev S2048 : Shape := ⟨1, ![2048]⟩
abbrev S1x2048x1 : Shape := ⟨3, ![1, 2048, 1]⟩
abbrev S16x2048x3584 : Shape := ⟨3, ![16, 2048, 3584]⟩
abbrev S16x2047 : Shape := ⟨2, ![16, 2047]⟩

class Facts : Prop where
  bcast_S_S16x4096 : S_.BroadcastsInDim S16x4096 (![] : Fin 0 → Fin S16x4096.rank)
  bcast_S_S16x2048 : S_.BroadcastsInDim S16x2048 (![] : Fin 0 → Fin S16x2048.rank)
  bcast_S2048_S1x2048x1_1 : S2048.BroadcastsInDim S1x2048x1 (![1] : Fin 1 → Fin S1x2048x1.rank)
  bcast_S_S16x2048x3584 : S_.BroadcastsInDim S16x2048x3584 (![] : Fin 0 → Fin S16x2048x3584.rank)
  bcast_S1x2048x1_S16x2048x3584_0_1_2 : S1x2048x1.BroadcastsInDim S16x2048x3584 (![0, 1, 2] : Fin 3 → Fin S16x2048x3584.rank)
  bcast_S_S16x2047 : S_.BroadcastsInDim S16x2047 (![] : Fin 0 → Fin S16x2047.rank)
  bcast_S_S16x2048x4096 : S_.BroadcastsInDim S16x2048x4096 (![] : Fin 0 → Fin S16x2048x4096.rank)
  bcast_S1x2048x1_S16x2048x4096_0_1_2 : S1x2048x1.BroadcastsInDim S16x2048x4096 (![0, 1, 2] : Fin 3 → Fin S16x2048x4096.rank)

variable [Facts]

def fn {F : FTy → Type} [FloatOps F] (main_arg0 : FVec F S16x2048x4096 .bf16) (main_arg1 : IVec S16 32) (main_arg2 : IVec S16x2048 32) (main_arg3 : FVec F S4096 .f32) (main_arg4 : FVec F S1 .f32) (main_arg5 : FVec F S4096x3584 .fp8e4m3) (main_arg6 : FVec F S3584 .f32) (main_arg7 : FVec F S3584 .f32) : IVec S16x4096 1 × IVec S16x2048 1 × IVec S16x2048 1 × IVec S16x2048x3584 1 × IVec S16x2047 1 × IVec S16x2048x4096 1 × IVec S16x2047 1 :=
  let main_c : IVec S_ 1 := constantI S_ 1 1#1
  let main_v0 : IVec S16x4096 1 := broadcastInDim S16x4096 ![] bcast_S_S16x4096 main_c
  let main_c_0 : IVec S_ 1 := constantI S_ 1 1#1
  let main_v1 : IVec S16x2048 1 := broadcastInDim S16x2048 ![] bcast_S_S16x2048 main_c_0
  let main_c_1 : IVec S_ 1 := constantI S_ 1 1#1
  let main_v2 : IVec S16x2048 1 := broadcastInDim S16x2048 ![] bcast_S_S16x2048 main_c_1
  let main_v3 : IVec S2048 32 := iotaInDim S2048 32 0
  let main_v4 : IVec S1x2048x1 32 := broadcastInDim S1x2048x1 ![1] bcast_S2048_S1x2048x1_1 main_v3
  let main_c_2 : IVec S_ 32 := constantI S_ 32 2047#32
  let main_v5 : IVec S16x2048x3584 32 := broadcastInDim S16x2048x3584 ![] bcast_S_S16x2048x3584 main_c_2
  let main_v6 : IVec S16x2048x3584 32 := broadcastInDim S16x2048x3584 ![0, 1, 2] bcast_S1x2048x1_S16x2048x3584_0_1_2 main_v4
  let main_v7 : IVec S16x2048x3584 1 := cmpi .slt main_v6 main_v5
  let main_c_3 : IVec S_ 1 := constantI S_ 1 1#1
  let main_v8 : IVec S16x2047 1 := broadcastInDim S16x2047 ![] bcast_S_S16x2047 main_c_3
  let main_v9 : IVec S2048 32 := iotaInDim S2048 32 0
  let main_v10 : IVec S1x2048x1 32 := broadcastInDim S1x2048x1 ![1] bcast_S2048_S1x2048x1_1 main_v9
  let main_c_4 : IVec S_ 32 := constantI S_ 32 2047#32
  let main_v11 : IVec S16x2048x4096 32 := broadcastInDim S16x2048x4096 ![] bcast_S_S16x2048x4096 main_c_4
  let main_v12 : IVec S16x2048x4096 32 := broadcastInDim S16x2048x4096 ![0, 1, 2] bcast_S1x2048x1_S16x2048x4096_0_1_2 main_v10
  let main_v13 : IVec S16x2048x4096 1 := cmpi .slt main_v12 main_v11
  let main_c_5 : IVec S_ 1 := constantI S_ 1 1#1
  let main_v14 : IVec S16x2047 1 := broadcastInDim S16x2047 ![] bcast_S_S16x2047 main_c_5
  (main_v0, main_v1, main_v2, main_v7, main_v8, main_v13, main_v14)
-- ==== Kernel.lean ====
abbrev S16x2048x4096 : Shape := ⟨3, ![16, 2048, 4096]⟩
abbrev S16 : Shape := ⟨1, ![16]⟩
abbrev S16x2048 : Shape := ⟨2, ![16, 2048]⟩
abbrev S4096 : Shape := ⟨1, ![4096]⟩
abbrev S1 : Shape := ⟨1, ![1]⟩
abbrev S4096x3584 : Shape := ⟨2, ![4096, 3584]⟩
abbrev S3584 : Shape := ⟨1, ![3584]⟩
abbrev S16x1x2048 : Shape := ⟨3, ![16, 1, 2048]⟩
abbrev S1x4096 : Shape := ⟨2, ![1, 4096]⟩
abbrev S1x3584 : Shape := ⟨2, ![1, 3584]⟩
abbrev S16x4096 : Shape := ⟨2, ![16, 4096]⟩
abbrev S16x2048x3584 : Shape := ⟨3, ![16, 2048, 3584]⟩
abbrev S16x2047 : Shape := ⟨2, ![16, 2047]⟩
abbrev S1x256x4096 : Shape := ⟨3, ![1, 256, 4096]⟩
abbrev S1x16x4096 : Shape := ⟨3, ![1, 16, 4096]⟩
abbrev S1x1x256 : Shape := ⟨3, ![1, 1, 256]⟩
abbrev S1x256x3584 : Shape := ⟨3, ![1, 256, 3584]⟩
abbrev S256x3584 : Shape := ⟨2, ![256, 3584]⟩
abbrev S1x2048 : Shape := ⟨2, ![1, 2048]⟩
abbrev S256x4096 : Shape := ⟨2, ![256, 4096]⟩
abbrev S1x1x4096 : Shape := ⟨3, ![1, 1, 4096]⟩
abbrev S1x1 : Shape := ⟨2, ![1, 1]⟩
abbrev S256x128 : Shape := ⟨2, ![256, 128]⟩
abbrev S1x128 : Shape := ⟨2, ![1, 128]⟩
abbrev S256 : Shape := ⟨1, ![256]⟩
abbrev S256x1 : Shape := ⟨2, ![256, 1]⟩
abbrev S128x128 : Shape := ⟨2, ![128, 128]⟩
abbrev S128x1 : Shape := ⟨2, ![128, 1]⟩
abbrev S128 : Shape := ⟨1, ![128]⟩
abbrev S1x256 : Shape := ⟨2, ![1, 256]⟩
abbrev S16x128 : Shape := ⟨2, ![16, 128]⟩
abbrev S16x1 : Shape := ⟨2, ![16, 1]⟩
abbrev S255x4096 : Shape := ⟨2, ![255, 4096]⟩
abbrev S1x255 : Shape := ⟨2, ![1, 255]⟩
abbrev S4096x512 : Shape := ⟨2, ![4096, 512]⟩
abbrev S256x512 : Shape := ⟨2, ![256, 512]⟩
abbrev S1x512 : Shape := ⟨2, ![1, 512]⟩
abbrev S1x256x512 : Shape := ⟨3, ![1, 256, 512]⟩

abbrev nBuf : Space → Nat
  | .hbm => 18
  | .vmem => 21
  | .smem => 2
  | _ => 0

abbrev bufTy : (tb : Table) → Fin (tcTables nBuf tb) → BufTy
  | .hbm, ⟨0, _⟩ => ⟨S16x2048x4096, .bf16⟩
  | .hbm, ⟨1, _⟩ => ⟨S16x2048, .i32⟩
  | .hbm, ⟨2, _⟩ => ⟨S4096, .f32⟩
  | .hbm, ⟨3, _⟩ => ⟨S1, .f32⟩
  | .hbm, ⟨4, _⟩ => ⟨S4096x3584, .fp8e4m3⟩
  | .hbm, ⟨5, _⟩ => ⟨S3584, .f32⟩
  | .hbm, ⟨6, _⟩ => ⟨S3584, .f32⟩
  | .hbm, ⟨7, _⟩ => ⟨S16x1x2048, .i32⟩
  | .hbm, ⟨8, _⟩ => ⟨S1x4096, .f32⟩
  | .hbm, ⟨9, _⟩ => ⟨S1x3584, .f32⟩
  | .hbm, ⟨10, _⟩ => ⟨S1x3584, .f32⟩
  | .hbm, ⟨11, _⟩ => ⟨S16x4096, .f32⟩
  | .hbm, ⟨12, _⟩ => ⟨S16x2048, .f32⟩
  | .hbm, ⟨13, _⟩ => ⟨S16x2048, .f32⟩
  | .hbm, ⟨14, _⟩ => ⟨S16x2048x3584, .fp8e4m3⟩
  | .hbm, ⟨15, _⟩ => ⟨S16x2047, .f32⟩
  | .hbm, ⟨16, _⟩ => ⟨S16x2048x4096, .fp8e4m3⟩
  | .hbm, ⟨17, _⟩ => ⟨S16x2047, .f32⟩
  | .local _ .vmem, ⟨0, _⟩ => ⟨S1x256x4096, .bf16⟩
  | .local _ .vmem, ⟨1, _⟩ => ⟨S1x256x4096, .bf16⟩
  | .local _ .vmem, ⟨2, _⟩ => ⟨S1x16x4096, .bf16⟩
  | .local _ .vmem, ⟨3, _⟩ => ⟨S1x16x4096, .bf16⟩
  | .local _ .vmem, ⟨4, _⟩ => ⟨S1x1x256, .i32⟩
  | .local _ .vmem, ⟨5, _⟩ => ⟨S1x1x256, .i32⟩
  | .local _ .vmem, ⟨6, _⟩ => ⟨S1x4096, .f32⟩
  | .local _ .vmem, ⟨7, _⟩ => ⟨S4096x3584, .fp8e4m3⟩
  | .local _ .vmem, ⟨8, _⟩ => ⟨S1x3584, .f32⟩
  | .local _ .vmem, ⟨9, _⟩ => ⟨S1x3584, .f32⟩
  | .local _ .vmem, ⟨10, _⟩ => ⟨S16x4096, .f32⟩
  | .local _ .vmem, ⟨11, _⟩ => ⟨S16x2048, .f32⟩
  | .local _ .vmem, ⟨12, _⟩ => ⟨S16x2048, .f32⟩
  | .local _ .vmem, ⟨13, _⟩ => ⟨S1x256x3584, .fp8e4m3⟩
  | .local _ .vmem, ⟨14, _⟩ => ⟨S1x256x3584, .fp8e4m3⟩
  | .local _ .vmem, ⟨15, _⟩ => ⟨S16x2047, .f32⟩
  | .local _ .vmem, ⟨16, _⟩ => ⟨S1x256x4096, .fp8e4m3⟩
  | .local _ .vmem, ⟨17, _⟩ => ⟨S1x256x4096, .fp8e4m3⟩
  | .local _ .vmem, ⟨18, _⟩ => ⟨S16x2047, .f32⟩
  | .local _ .vmem, ⟨19, _⟩ => ⟨S256x3584, .f32⟩
  | .local _ .vmem, ⟨20, _⟩ => ⟨S1x2048, .f32⟩
  | .local _ .smem, ⟨0, _⟩ => ⟨S16, .i32⟩
  | .local _ .smem, ⟨1, _⟩ => ⟨S1, .f32⟩
  | _, _ => ⟨S16x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev main_v4_6 : Ref sig .tc := ⟨.hbm, 17, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_scratch0 : Ref sig .tc := ⟨.vmem, 19, rfl⟩
abbrev cc0_scratch1 : Ref sig .tc := ⟨.vmem, 20, rfl⟩
abbrev cc0_stg4_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem13_0 : DmaSem sig := 17
abbrev cc0_sem13_1 : DmaSem sig := 18
abbrev cc0_sem14_0 : DmaSem sig := 19

abbrev nD : Nat := 1
abbrev τ : Topo := Topo.v7x

variable {F : FTy → Type} [FloatOps F]

abbrev grid0 : Pipeline.Grid := ⟨2, ![16, 8], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c0_i32_3 : BitVec 32 := 0#32
  let v8 : BitVec 1 := Scalar.cmpi .eq arg1 c0_i32_3
  let v9 : BitVec 32 := Scalar.extui v8
  let c0_i32_4 : BitVec 32 := 0#32
  let v10 : BitVec 1 := Scalar.cmpi .ne v9 c0_i32_4
  v10

def k0_off2 (i : grid0.Coords) : Fin 2 → Nat :=
  let arg0 : BitVec 32 := BitVec.ofNat 32 (i 0).val
  let v922 : Index := Scalar.indexCast arg0
  let c0_221 : Index := 0#32
  ![v922.toNat, 0]
def k0_mult1 (i : grid0.Coords) : BitVec 32 :=
  let arg1 : BitVec 32 := BitVec.ofNat 32 (i 1).val
  let c256_i32 : BitVec 32 := 256#32
  let v2 : BitVec 32 := Scalar.muli arg1 c256_i32
  v2
def k0_off3 (i : grid0.Coords) : Fin 2 → Nat :=
  let arg0 : BitVec 32 := BitVec.ofNat 32 (i 0).val
  let v273 : Index := Scalar.indexCast arg0
  let arg1 : BitVec 32 := BitVec.ofNat 32 (i 1).val
  let c256_i32 : BitVec 32 := 256#32
  let v2 : BitVec 32 := Scalar.muli arg1 c256_i32
  let v272 : BitVec 32 := v2
  let v274 : Index := Scalar.indexCast v272
  ![v273.toNat, v274.toNat]
def k0_cond3 (i : grid0.Coords) : BitVec 1 :=
  let arg1 : BitVec 32 := BitVec.ofNat 32 (i 1).val
  let c7_i32 : BitVec 32 := 7#32
  let v555 : BitVec 1 := Scalar.cmpi .eq arg1 c7_i32
  let v556 : BitVec 32 := Scalar.extui v555
  let c0_i32_151 : BitVec 32 := 0#32
  let v557 : BitVec 1 := Scalar.cmpi .ne v556 c0_i32_151
  v557

def k0_off4 (i : grid0.Coords) : Fin 2 → Nat :=
  let arg0 : BitVec 32 := BitVec.ofNat 32 (i 0).val
  let v912 : Index := Scalar.indexCast arg0
  let c0_218 : Index := 0#32
  ![v912.toNat, 0]
def k0_cond4 (i : grid0.Coords) : BitVec 1 :=
  let arg1 : BitVec 32 := BitVec.ofNat 32 (i 1).val
  let c7_i32_209 : BitVec 32 := 7#32
  let v898 : BitVec 1 := Scalar.cmpi .slt arg1 c7_i32_209
  let v899 : BitVec 32 := Scalar.extui v898
  let c0_i32_210 : BitVec 32 := 0#32
  let v900 : BitVec 1 := Scalar.cmpi .ne v899 c0_i32_210
  v900

def k0_mult2 (i : grid0.Coords) : BitVec 32 :=
  let arg1 : BitVec 32 := BitVec.ofNat 32 (i 1).val
  let c256_i32 : BitVec 32 := 256#32
  let v2 : BitVec 32 := Scalar.muli arg1 c256_i32
  v2
def k0_off5 (i : grid0.Coords) : Fin 2 → Nat :=
  let arg0 : BitVec 32 := BitVec.ofNat 32 (i 0).val
  let v912 : Index := Scalar.indexCast arg0
  let arg1 : BitVec 32 := BitVec.ofNat 32 (i 1).val
  let c256_i32 : BitVec 32 := 256#32
  let v2 : BitVec 32 := Scalar.muli arg1 c256_i32
  let v911 : BitVec 32 := v2
  let v913 : Index := Scalar.indexCast v911
  ![v912.toNat, v913.toNat]
def k0_cond5 (i : grid0.Coords) : BitVec 1 :=
  let arg1 : BitVec 32 := BitVec.ofNat 32 (i 1).val
  let c7_i32_211 : BitVec 32 := 7#32
  let v901 : BitVec 1 := Scalar.cmpi .eq arg1 c7_i32_211
  let v902 : BitVec 32 := Scalar.extui v901
  let c0_i32_212 : BitVec 32 := 0#32
  let v903 : BitVec 1 := Scalar.cmpi .ne v902 c0_i32_212
  v903

def k0_off6 (i : grid0.Coords) : Fin 2 → Nat :=
  let arg0 : BitVec 32 := BitVec.ofNat 32 (i 0).val
  let v912 : Index := Scalar.indexCast arg0
  let c1792_216 : Index := 1792#32
  ![v912.toNat, 1792]
def k0_cond7 (i : grid0.Coords) : BitVec 1 :=
  let arg1 : BitVec 32 := BitVec.ofNat 32 (i 1).val
  let c7_i32_221 : BitVec 32 := 7#32
  let v916 : BitVec 1 := Scalar.cmpi .slt arg1 c7_i32_221
  let v917 : BitVec 32 := Scalar.extui v916
  let c0_i32_222 : BitVec 32 := 0#32
  let v918 : BitVec 1 := Scalar.cmpi .ne v917 c0_i32_222
  v918

def k0_mult3 (i : grid0.Coords) : BitVec 32 :=
  let arg1 : BitVec 32 := BitVec.ofNat 32 (i 1).val
  let c256_i32 : BitVec 32 := 256#32
  let v2 : BitVec 32 := Scalar.muli arg1 c256_i32
  v2
def k0_off7 (i : grid0.Coords) : Fin 2 → Nat :=
  let arg0 : BitVec 32 := BitVec.ofNat 32 (i 0).val
  let v923 : Index := Scalar.indexCast arg0
  let arg1 : BitVec 32 := BitVec.ofNat 32 (i 1).val
  let c256_i32 : BitVec 32 := 256#32
  let v2 : BitVec 32 := Scalar.muli arg1 c256_i32
  let v922 : BitVec 32 := v2
  let v924 : Index := Scalar.indexCast v922
  ![v923.toNat, v924.toNat]
def k0_cond8 (i : grid0.Coords) : BitVec 1 :=
  let arg1 : BitVec 32 := BitVec.ofNat 32 (i 1).val
  let c7_i32_223 : BitVec 32 := 7#32
  let v919 : BitVec 1 := Scalar.cmpi .eq arg1 c7_i32_223
  let v920 : BitVec 32 := Scalar.extui v919
  let c0_i32_224 : BitVec 32 := 0#32
  let v921 : BitVec 1 := Scalar.cmpi .ne v920 c0_i32_224
  v921

def k0_off8 (i : grid0.Coords) : Fin 2 → Nat :=
  let arg0 : BitVec 32 := BitVec.ofNat 32 (i 0).val
  let v923 : Index := Scalar.indexCast arg0
  let c1792_225 : Index := 1792#32
  ![v923.toNat, 1792]
def k0_cond10 (i : grid0.Coords) : BitVec 1 :=
  let arg1 : BitVec 32 := BitVec.ofNat 32 (i 1).val
  let c7_i32_392 : BitVec 32 := 7#32
  let v1374 : BitVec 1 := Scalar.cmpi .slt arg1 c7_i32_392
  let v1375 : BitVec 32 := Scalar.extui v1374
  let c0_i32_393 : BitVec 32 := 0#32
  let v1376 : BitVec 1 := Scalar.cmpi .ne v1375 c0_i32_393
  v1376

def k0_mult4 (i : grid0.Coords) : BitVec 32 :=
  let arg1 : BitVec 32 := BitVec.ofNat 32 (i 1).val
  let c256_i32 : BitVec 32 := 256#32
  let v2 : BitVec 32 := Scalar.muli arg1 c256_i32
  v2
def k0_off9 (i : grid0.Coords) : Fin 2 → Nat :=
  let arg0 : BitVec 32 := BitVec.ofNat 32 (i 0).val
  let v1381 : Index := Scalar.indexCast arg0
  let arg1 : BitVec 32 := BitVec.ofNat 32 (i 1).val
  let c256_i32 : BitVec 32 := 256#32
  let v2 : BitVec 32 := Scalar.muli arg1 c256_i32
  let v1380 : BitVec 32 := v2
  let v1382 : Index := Scalar.indexCast v1380
  ![v1381.toNat, v1382.toNat]
def k0_cond11 (i : grid0.Coords) : BitVec 1 :=
  let arg1 : BitVec 32 := BitVec.ofNat 32 (i 1).val
  let c7_i32_394 : BitVec 32 := 7#32
  let v1377 : BitVec 1 := Scalar.cmpi .eq arg1 c7_i32_394
  let v1378 : BitVec 32 := Scalar.extui v1377
  let c0_i32_395 : BitVec 32 := 0#32
  let v1379 : BitVec 1 := Scalar.cmpi .ne v1378 c0_i32_395
  v1379

def k0_off10 (i : grid0.Coords) : Fin 2 → Nat :=
  let arg0 : BitVec 32 := BitVec.ofNat 32 (i 0).val
  let v1381 : Index := Scalar.indexCast arg0
  let c1792_396 : Index := 1792#32
  ![v1381.toNat, 1792]
def k0_cond6 (i : grid0.Coords) (v1 : BitVec 32) : BitVec 1 :=
  let arg1 : BitVec 32 := BitVec.ofNat 32 (i 1).val
  let c256_i32 : BitVec 32 := 256#32
  let v2 : BitVec 32 := Scalar.muli arg1 c256_i32
  let c1_i32_213 : BitVec 32 := 1#32
  let v904 : BitVec 32 := Scalar.addi v2 c1_i32_213
  let v905 : BitVec 1 := Scalar.cmpi .slt v904 v1
  let v_true : BitVec 1 := 1#1
  let v906 : BitVec 1 := Scalar.xori v905 v_true
  let v907 : BitVec 32 := Scalar.extui v906
  let c0_i32_214 : BitVec 32 := 0#32
  let v908 : BitVec 1 := Scalar.cmpi .ne v907 c0_i32_214
  v908

def k0_cond9 (i : grid0.Coords) (v1 : BitVec 32) : BitVec 1 :=
  let arg1 : BitVec 32 := BitVec.ofNat 32 (i 1).val
  let c256_i32 : BitVec 32 := 256#32
  let v2 : BitVec 32 := Scalar.muli arg1 c256_i32
  let c1_i32_213 : BitVec 32 := 1#32
  let v904 : BitVec 32 := Scalar.addi v2 c1_i32_213
  let v905 : BitVec 1 := Scalar.cmpi .slt v904 v1
  let v909 : BitVec 32 := Scalar.extui v905
  let c0_i32_215 : BitVec 32 := 0#32
  let v910 : BitVec 1 := Scalar.cmpi .ne v909 c0_i32_215
  v910

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x3584 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x3584 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x3584 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x3584 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S16x2047 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x4096 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S16x2047 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== ReferenceIdeal.lean ====
abbrev S16x2048x4096 : Shape := ⟨3, ![16, 2048, 4096]⟩
abbrev S16 : Shape := ⟨1, ![16]⟩
abbrev S16x2048 : Shape := ⟨2, ![16, 2048]⟩
abbrev S4096 : Shape := ⟨1, ![4096]⟩
abbrev S1 : Shape := ⟨1, ![1]⟩
abbrev S4096x3584 : Shape := ⟨2, ![4096, 3584]⟩
abbrev S3584 : Shape := ⟨1, ![3584]⟩
abbrev S16x1x4096 : Shape := ⟨3, ![16, 1, 4096]⟩
abbrev S16x4096 : Shape := ⟨2, ![16, 4096]⟩
abbrev S_ : Shape := ⟨0, ![]⟩
abbrev S16x1 : Shape := ⟨2, ![16, 1]⟩
abbrev S2048 : Shape := ⟨1, ![2048]⟩
abbrev S1x2048 : Shape := ⟨2, ![1, 2048]⟩
abbrev S1x1x4096 : Shape := ⟨3, ![1, 1, 4096]⟩
abbrev S16x2048x1 : Shape := ⟨3, ![16, 2048, 1]⟩
abbrev S1x1x2048 : Shape := ⟨3, ![1, 1, 2048]⟩
abbrev S16x2048x2048 : Shape := ⟨3, ![16, 2048, 2048]⟩
abbrev S16x2047x4096 : Shape := ⟨3, ![16, 2047, 4096]⟩
abbrev S16x2048x3584 : Shape := ⟨3, ![16, 2048, 3584]⟩
abbrev S16x2047 : Shape := ⟨2, ![16, 2047]⟩
abbrev S32768x4096 : Shape := ⟨2, ![32768, 4096]⟩
abbrev S32768x3584 : Shape := ⟨2, ![32768, 3584]⟩
abbrev S1x1x3584 : Shape := ⟨3, ![1, 1, 3584]⟩

abbrev nBuf : Space → Nat
  | .hbm => 82
  | .vmem => 9
  | .smem => 0
  | _ => 0

abbrev bufTy : (tb : Table) → Fin (tcTables nBuf tb) → BufTy
  | .hbm, ⟨0, _⟩ => ⟨S16x2048x4096, .bf16⟩
  | .hbm, ⟨1, _⟩ => ⟨S16, .i32⟩
  | .hbm, ⟨2, _⟩ => ⟨S16x2048, .i32⟩
  | .hbm, ⟨3, _⟩ => ⟨S4096, .f32⟩
  | .hbm, ⟨4, _⟩ => ⟨S1, .f32⟩
  | .hbm, ⟨5, _⟩ => ⟨S4096x3584, .fp8e4m3⟩
  | .hbm, ⟨6, _⟩ => ⟨S3584, .f32⟩
  | .hbm, ⟨7, _⟩ => ⟨S3584, .f32⟩
  | .hbm, ⟨8, _⟩ => ⟨S16x1x4096, .bf16⟩
  | .hbm, ⟨9, _⟩ => ⟨S16x4096, .bf16⟩
  | .hbm, ⟨10, _⟩ => ⟨S16x4096, .f32⟩
  | .hbm, ⟨11, _⟩ => ⟨S16x4096, .f32⟩
  | .hbm, ⟨12, _⟩ => ⟨S_, .f32⟩
  | .hbm, ⟨13, _⟩ => ⟨S16, .f32⟩
  | .hbm, ⟨14, _⟩ => ⟨S16x1, .f32⟩
  | .hbm, ⟨15, _⟩ => ⟨S16x1, .f32⟩
  | .hbm, ⟨16, _⟩ => ⟨S_, .f32⟩
  | .hbm, ⟨17, _⟩ => ⟨S16x1, .f32⟩
  | .hbm, ⟨18, _⟩ => ⟨S16x1, .f32⟩
  | .hbm, ⟨19, _⟩ => ⟨S16x4096, .f32⟩
  | .hbm, ⟨20, _⟩ => ⟨S16x4096, .f32⟩
  | .hbm, ⟨21, _⟩ => ⟨S2048, .i32⟩
  | .hbm, ⟨22, _⟩ => ⟨S1x2048, .i32⟩
  | .hbm, ⟨23, _⟩ => ⟨S16x2048x4096, .f32⟩
  | .hbm, ⟨24, _⟩ => ⟨S1x1x4096, .f32⟩
  | .hbm, ⟨25, _⟩ => ⟨S16x2048x4096, .f32⟩
  | .hbm, ⟨26, _⟩ => ⟨S16x2048x4096, .f32⟩
  | .hbm, ⟨27, _⟩ => ⟨S_, .f32⟩
  | .hbm, ⟨28, _⟩ => ⟨S16x2048, .f32⟩
  | .hbm, ⟨29, _⟩ => ⟨S_, .f32⟩
  | .hbm, ⟨30, _⟩ => ⟨S16x2048, .f32⟩
  | .hbm, ⟨31, _⟩ => ⟨S16x2048, .f32⟩
  | .hbm, ⟨32, _⟩ => ⟨S_, .f32⟩
  | .hbm, ⟨33, _⟩ => ⟨S16x2048, .f32⟩
  | .hbm, ⟨34, _⟩ => ⟨S16x2048, .f32⟩
  | .hbm, ⟨35, _⟩ => ⟨S_, .i32⟩
  | .hbm, ⟨36, _⟩ => ⟨S1x2048, .i32⟩
  | .hbm, ⟨37, _⟩ => ⟨S1x2048, .i1⟩
  | .hbm, ⟨38, _⟩ => ⟨S16x1, .i32⟩
  | .hbm, ⟨39, _⟩ => ⟨S16x2048, .i32⟩
  | .hbm, ⟨40, _⟩ => ⟨S16x2048, .i32⟩
  | .hbm, ⟨41, _⟩ => ⟨S16x2048, .i1⟩
  | .hbm, ⟨42, _⟩ => ⟨S16x2048, .i1⟩
  | .hbm, ⟨43, _⟩ => ⟨S16x2048, .i1⟩
  | .hbm, ⟨44, _⟩ => ⟨S_, .f32⟩
  | .hbm, ⟨45, _⟩ => ⟨S_, .f32⟩
  | .hbm, ⟨46, _⟩ => ⟨S16x2048, .f32⟩
  | .hbm, ⟨47, _⟩ => ⟨S16x2048, .f32⟩
  | .hbm, ⟨48, _⟩ => ⟨S16x2048x1, .i32⟩
  | .hbm, ⟨49, _⟩ => ⟨S2048, .i32⟩
  | .hbm, ⟨50, _⟩ => ⟨S1x1x2048, .i32⟩
  | .hbm, ⟨51, _⟩ => ⟨S16x2048x2048, .i32⟩
  | .hbm, ⟨52, _⟩ => ⟨S16x2048x2048, .i32⟩
  | .hbm, ⟨53, _⟩ => ⟨S16x2048x2048, .i1⟩
  | .hbm, ⟨54, _⟩ => ⟨S16x2048x1, .f32⟩
  | .hbm, ⟨55, _⟩ => ⟨S_, .f32⟩
  | .hbm, ⟨56, _⟩ => ⟨S_, .f32⟩
  | .hbm, ⟨57, _⟩ => ⟨S16x2048x2048, .f32⟩
  | .hbm, ⟨58, _⟩ => ⟨S16x2048x2048, .f32⟩
  | .hbm, ⟨59, _⟩ => ⟨S16x2048x2048, .f32⟩
  | .hbm, ⟨60, _⟩ => ⟨S_, .f32⟩
  | .hbm, ⟨61, _⟩ => ⟨S16x2048, .f32⟩
  | .hbm, ⟨62, _⟩ => ⟨S16x2047x4096, .bf16⟩
  | .hbm, ⟨63, _⟩ => ⟨S16x1x4096, .bf16⟩
  | .hbm, ⟨64, _⟩ => ⟨S_, .bf16⟩
  | .hbm, ⟨65, _⟩ => ⟨S16x1x4096, .bf16⟩
  | .hbm, ⟨66, _⟩ => ⟨S16x2048x4096, .bf16⟩
  | .hbm, ⟨67, _⟩ => ⟨S2048, .i32⟩
  | .hbm, ⟨68, _⟩ => ⟨S_, .i32⟩
  | .hbm, ⟨69, _⟩ => ⟨S2048, .i32⟩
  | .hbm, ⟨70, _⟩ => ⟨S2048, .i32⟩
  | .hbm, ⟨71, _⟩ => ⟨S1x2048, .i32⟩
  | .hbm, ⟨72, _⟩ => ⟨S16x1, .i32⟩
  | .hbm, ⟨73, _⟩ => ⟨S16x2048, .i32⟩
  | .hbm, ⟨74, _⟩ => ⟨S16x2048, .i32⟩
  | .hbm, ⟨75, _⟩ => ⟨S16x2048, .i1⟩
  | .hbm, ⟨76, _⟩ => ⟨S16x2048, .i32⟩
  | .hbm, ⟨77, _⟩ => ⟨S16x2048x1, .i32⟩
  | .hbm, ⟨78, _⟩ => ⟨S16x2048x3584, .fp8e4m3⟩
  | .hbm, ⟨79, _⟩ => ⟨S16x2047, .f32⟩
  | .hbm, ⟨80, _⟩ => ⟨S16x2048x4096, .fp8e4m3⟩
  | .hbm, ⟨81, _⟩ => ⟨S16x2047, .f32⟩
  | .local _ .vmem, ⟨0, _⟩ => ⟨S16x2048x4096, .bf16⟩
  | .local _ .vmem, ⟨1, _⟩ => ⟨S16x2048x1, .i32⟩
  | .local _ .vmem, ⟨2, _⟩ => ⟨S4096x3584, .fp8e4m3⟩
  | .local _ .vmem, ⟨3, _⟩ => ⟨S3584, .f32⟩
  | .local _ .vmem, ⟨4, _⟩ => ⟨S3584, .f32⟩
  | .local _ .vmem, ⟨5, _⟩ => ⟨S16x2048x3584, .fp8e4m3⟩
  | .local _ .vmem, ⟨6, _⟩ => ⟨S16x2047, .f32⟩
  | .local _ .vmem, ⟨7, _⟩ => ⟨S16x2048x4096, .fp8e4m3⟩
  | .local _ .vmem, ⟨8, _⟩ => ⟨S16x2047, .f32⟩
  | _, _ => ⟨S16x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_c : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_call0_v0 : Ref sig .tc := ⟨.hbm, 45, rfl⟩
abbrev main_call0_v1 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55_0 : Ref sig .tc := ⟨.hbm, 78, rfl⟩
abbrev main_v55_1 : Ref sig .tc := ⟨.hbm, 79, rfl⟩
abbrev main_v55_2 : Ref sig .tc := ⟨.hbm, 80, rfl⟩
abbrev main_v55_3 : Ref sig .tc := ⟨.hbm, 81, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S16x2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x2048x3584 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x2047 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x2048x4096 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x2047 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Run.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.ArrRel
public import Idealize.ShloMosaic.Lib.Claim
public import Idealize.ShloMosaic.Lib.Tactic

/-! # The launch of the kernel from its body at a grid point

The proof data are relational: of each output buffer a relation between what the body finds in it and what it leaves, of the
second scratch buffer a predicate that moves from point to point, of each input the block that it holds. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: after the four reshapes. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The prefetched table as the region finds it. -/
def tbl : pre0.Contents (Elt F) := fun k => V m 0 (pre0.ref k)

/-- The table, admitted by the region. -/
abbrev adm : (p : Fin 1) → (pcfgs (F := F) p).Adm := fun _ => ⟨tbl m, trivial⟩

/-- The pipeline at the table. -/
abbrev cfgM : Cfg sig Λ₀ := cfg0 (adm m 0)

set_option maxHeartbeats 800000 in
/-- The program up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The block of window `w` at point `t`, read from the arrays as the region finds them. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- What is known of the buffers: `R w t Y X` of an output buffer found at `Y` and left at `X`, `L k l` of the second scratch
    buffer before point `k`. -/
structure Known where
  R : (w : Fin (cfgM m).W) → Fin (cfgM m).N → (((cfgM m).win w).block.Idx → Elt F ((cfgM m).win w).elt) →
    (((cfgM m).win w).block.Idx → Elt F ((cfgM m).win w).elt) → Prop
  L : ℕ → Vec F S1x2048 .f32 → Prop
  L0 : ∀ l, L 0 l

variable {m}
variable (kn : Known m)

/-- What the region holds beside the windows before point `k`. -/
def Phi (c : Dev nD) (k : ℕ) : sProp 𝕄 :=
  iprop(owns (c : Thread nD τ) (Memref.whole main_arg1) fullShare.right (V m 0 main_arg1)
    ∗ (∃ y, owns (c : Thread nD τ) (Memref.whole cc0_scratch0) fullShare y)
    ∗ (∃ l, ⌜kn.L k l⌝ ∗ owns (c : Thread nD τ) (Memref.whole cc0_scratch1) fullShare l)
    ∗ ∃ r, prngReg c r)

/-- The proof data of the launch. -/
def rdat (c : Dev nD) : RDat τ (Elt F) Unit ℕ (UR sig nD τ) ℕ (cfgM m) c where
  A w := V m c (Pipeline.arrRef spec0 w)
  after w t Y X := (((cfgM m).win w).isOut = false → X = Y) ∧ (((cfgM m).win w).isOut = true → kn.R w t Y X)
  Φ k := Phi kn c k.val
  q := Pipeline.shareOf spec0
  owed _ := 0

/-- The body at point `t`, as the pipeline calls it. -/
abbrev bodyAt (t : Fin (cfgM m).N) := defs₀ (F := F) .tc (cfgM m).body ((cfgM m).bodyArgs t ((cfgM m).slots t))

/-- The staging buffer of window `w` at point `t`. -/
abbrev st (m : (ℓ : Loc nD τ sig) → Buf (Elt F) ℓ) (w : Fin (cfgM m).W) (t : Fin (cfgM m).N) := (spec0 w).stage ((cfgM m).slots t w)

theorem finds_0 (c : Dev nD) (t : Fin (cfgM m).N) (Y) (h : (rdat kn c).Finds 0 t Y) : Y = iblk m c 0 t := by
  obtain ⟨d, rfl⟩ := (rdat kn c).finds_in_eq_fetched 0 rfl (fun _ _ _ => rfl) (fun _ _ _ h => h.1 rfl) t Y h
  rfl

theorem finds_1 (c : Dev nD) (t : Fin (cfgM m).N) (Y) (h : (rdat kn c).Finds 1 t Y) : Y = iblk m c 1 t := by
  obtain ⟨d, rfl⟩ := (rdat kn c).finds_in_eq_fetched 1 rfl (fun _ _ _ => rfl) (fun _ _ _ h => h.1 rfl) t Y h
  rfl

theorem finds_2 (c : Dev nD) (t : Fin (cfgM m).N) (Y) (h : (rdat kn c).Finds 2 t Y) : Y = iblk m c 2 t := by
  obtain ⟨d, rfl⟩ := (rdat kn c).finds_in_eq_fetched 2 rfl (fun _ _ _ => rfl) (fun _ _ _ h => h.1 rfl) t Y h
  rfl

theorem finds_3 (c : Dev nD) (t : Fin (cfgM m).N) (Y) (h : (rdat kn c).Finds 3 t Y) : Y = iblk m c 3 t := by
  obtain ⟨d, rfl⟩ := (rdat kn c).finds_in_eq_fetched 3 rfl (fun _ _ _ => rfl) (fun _ _ _ h => h.1 rfl) t Y h
  rfl

theorem finds_4 (c : Dev nD) (t : Fin (cfgM m).N) (Y) (h : (rdat kn c).Finds 4 t Y) : Y = iblk m c 4 t := by
  obtain ⟨d, rfl⟩ := (rdat kn c).finds_in_eq_fetched 4 rfl (fun _ _ _ => rfl) (fun _ _ _ h => h.1 rfl) t Y h
  rfl

theorem finds_5 (c : Dev nD) (t : Fin (cfgM m).N) (Y) (h : (rdat kn c).Finds 5 t Y) : Y = iblk m c 5 t := by
  obtain ⟨d, rfl⟩ := (rdat kn c).finds_in_eq_fetched 5 rfl (fun _ _ _ => rfl) (fun _ _ _ h => h.1 rfl) t Y h
  rfl

theorem finds_6 (c : Dev nD) (t : Fin (cfgM m).N) (Y) (h : (rdat kn c).Finds 6 t Y) : Y = iblk m c 6 t := by
  obtain ⟨d, rfl⟩ := (rdat kn c).finds_in_eq_fetched 6 rfl (fun _ _ _ => rfl) (fun _ _ _ h => h.1 rfl) t Y h
  rfl

theorem finds_7 (c : Dev nD) (t : Fin (cfgM m).N) (Y) (h : (rdat kn c).Finds 7 t Y) : Y = iblk m c 7 t := by
  obtain ⟨d, rfl⟩ := (rdat kn c).finds_in_eq_fetched 7 rfl (fun _ _ _ => rfl) (fun _ _ _ h => h.1 rfl) t Y h
  rfl

/-- The body at every grid point, as a triple: from the blocks of the inputs, whatever the outputs' buffers are found at and the
    second scratch buffer as it is known before the point, to contents that meet the relations and the predicate after it. -/
def BodyRuns : Prop :=
  ∀ (c : Dev nD) (t : Fin (cfgM m).N) (Y : (w : Fin (cfgM m).W) → ((cfgM m).win w).block.Idx → Elt F ((cfgM m).win w).elt)
    (y : Vec F S256x3584 .f32) (l : Vec F S1x2048 .f32) (K : PUnit → sProp 𝕄),
    (∀ w, (rdat kn c).Finds w t (Y w)) → kn.L t.val l →
    iprop(owns (c : Thread nD τ) (Memref.whole main_arg1) fullShare.right (V m 0 main_arg1)
      ∗ owns (c : Thread nD τ) (st m 0 t) fullShare (Y 0)
      ∗ owns (c : Thread nD τ) (st m 1 t) fullShare (Y 1)
      ∗ owns (c : Thread nD τ) (st m 2 t) fullShare (Y 2)
      ∗ owns (c : Thread nD τ) (st m 3 t) fullShare (Y 3)
      ∗ owns (c : Thread nD τ) (st m 4 t) fullShare (Y 4)
      ∗ owns (c : Thread nD τ) (st m 5 t) fullShare (Y 5)
      ∗ owns (c : Thread nD τ) (st m 6 t) fullShare (Y 6)
      ∗ owns (c : Thread nD τ) (st m 7 t) fullShare (Y 7)
      ∗ owns (c : Thread nD τ) (st m 8 t) fullShare (Y 8)
      ∗ owns (c : Thread nD τ) (st m 9 t) fullShare (Y 9)
      ∗ owns (c : Thread nD τ) (st m 10 t) fullShare (Y 10)
      ∗ owns (c : Thread nD τ) (st m 11 t) fullShare (Y 11)
      ∗ owns (c : Thread nD τ) (st m 12 t) fullShare (Y 12)
      ∗ owns (c : Thread nD τ) (st m 13 t) fullShare (Y 13)
      ∗ owns (c : Thread nD τ) (st m 14 t) fullShare (Y 14)
      ∗ owns (c : Thread nD τ) (Memref.whole cc0_scratch0) fullShare y
      ∗ owns (c : Thread nD τ) (Memref.whole cc0_scratch1) fullShare l
      ∗ (∀ X8 X9 X10 X11 X12 X13 X14 y' l', ⌜kn.R 8 t (Y 8) X8 ∧ kn.R 9 t (Y 9) X9 ∧ kn.R 10 t (Y 10) X10 ∧ kn.R 11 t (Y 11) X11 ∧ kn.R 12 t (Y 12) X12 ∧ kn.R 13 t (Y 13) X13 ∧ kn.R 14 t (Y 14) X14 ∧ kn.L (t.val + 1) l'⌝
        -∗ owns (c : Thread nD τ) (Memref.whole main_arg1) fullShare.right (V m 0 main_arg1)
        -∗ owns (c : Thread nD τ) (st m 0 t) fullShare (Y 0)
        -∗ owns (c : Thread nD τ) (st m 1 t) fullShare (Y 1)
        -∗ owns (c : Thread nD τ) (st m 2 t) fullShare (Y 2)
        -∗ owns (c : Thread nD τ) (st m 3 t) fullShare (Y 3)
        -∗ owns (c : Thread nD τ) (st m 4 t) fullShare (Y 4)
        -∗ owns (c : Thread nD τ) (st m 5 t) fullShare (Y 5)
        -∗ owns (c : Thread nD τ) (st m 6 t) fullShare (Y 6)
        -∗ owns (c : Thread nD τ) (st m 7 t) fullShare (Y 7)
        -∗ owns (c : Thread nD τ) (st m 8 t) fullShare X8
        -∗ owns (c : Thread nD τ) (st m 9 t) fullShare X9
        -∗ owns (c : Thread nD τ) (st m 10 t) fullShare X10
        -∗ owns (c : Thread nD τ) (st m 11 t) fullShare X11
        -∗ owns (c : Thread nD τ) (st m 12 t) fullShare X12
        -∗ owns (c : Thread nD τ) (st m 13 t) fullShare X13
        -∗ owns (c : Thread nD τ) (st m 14 t) fullShare X14
        -∗ owns (c : Thread nD τ) (Memref.whole cc0_scratch0) fullShare y'
        -∗ owns (c : Thread nD τ) (Memref.whole cc0_scratch1) fullShare l' -∗ K ⟨⟩))
    ⊢ wp frame (wpE (defs₀ (F := F)) Variants.none c none) Set.univ (bodyAt t) K

variable {kn}

set_option maxHeartbeats 1600000 in
/-- The library's body obligation from the body's triple. -/
theorem body_obligation (hb : BodyRuns kn) (c : Dev nD) : (rdat kn c).BodyObligation defs₀ Variants.none () Set.univ := by
  intro t Y hY
  rw [bigSep_W0, bigSep_W0, show (rdat kn c).Φ t.castSucc = Phi kn c t.val from rfl, show (rdat kn c).Φ t.succ = Phi kn c (t.val + 1) from rfl,
    show (rdat kn c).owesAt () t.succ = (rdat kn c).owesAt () t.castSucc from rfl]
  unfold Phi
  iintro ⟨⟨HT, ⟨%y, Hy⟩, ⟨%l, %hl, Hl⟩, Hp⟩, HO, H0, H1, H2, H3, H4, H5, H6, H7, H8, H9, H10, H11, H12, H13, H14⟩
  iapply (hb c t Y y l _ hY hl)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [Hy]; · iexact Hy
  isplitl [Hl]; · iexact Hl
  iintro %X8 %X9 %X10 %X11 %X12 %X13 %X14 %y' %l' %h HT H0 H1 H2 H3 H4 H5 H6 H7 H8 H9 H10 H11 H12 H13 H14 Hy Hl
  obtain ⟨h8, h9, h10, h11, h12, h13, h14, hl'⟩ := h
  isplitl [HT Hy Hl Hp]
  · isplitl [HT]; · iexact HT
    isplitl [Hy]; · iexists y'; iexact Hy
    isplitl [Hl]
    · iexists l'; isplitr; · ipureintro; exact hl'
      iexact Hl
    iexact Hp
  isplitl [HO]; · iexact HO
  isplitl [H0]
  · iexists (Y 0); isplitr; · ipureintro; exact ⟨fun _ => rfl, fun h => (Bool.false_ne_true h).elim⟩
    iexact H0
  isplitl [H1]
  · iexists (Y 1); isplitr; · ipureintro; exact ⟨fun _ => rfl, fun h => (Bool.false_ne_true h).elim⟩
    iexact H1
  isplitl [H2]
  · iexists (Y 2); isplitr; · ipureintro; exact ⟨fun _ => rfl, fun h => (Bool.false_ne_true h).elim⟩
    iexact H2
  isplitl [H3]
  · iexists (Y 3); isplitr; · ipureintro; exact ⟨fun _ => rfl, fun h => (Bool.false_ne_true h).elim⟩
    iexact H3
  isplitl [H4]
  · iexists (Y 4); isplitr; · ipureintro; exact ⟨fun _ => rfl, fun h => (Bool.false_ne_true h).elim⟩
    iexact H4
  isplitl [H5]
  · iexists (Y 5); isplitr; · ipureintro; exact ⟨fun _ => rfl, fun h => (Bool.false_ne_true h).elim⟩
    iexact H5
  isplitl [H6]
  · iexists (Y 6); isplitr; · ipureintro; exact ⟨fun _ => rfl, fun h => (Bool.false_ne_true h).elim⟩
    iexact H6
  isplitl [H7]
  · iexists (Y 7); isplitr; · ipureintro; exact ⟨fun _ => rfl, fun h => (Bool.false_ne_true h).elim⟩
    iexact H7
  isplitl [H8]
  · iexists X8; isplitr; · ipureintro; exact ⟨fun h => (Bool.false_ne_true h.symm).elim, fun _ => h8⟩
    iexact H8
  isplitl [H9]
  · iexists X9; isplitr; · ipureintro; exact ⟨fun h => (Bool.false_ne_true h.symm).elim, fun _ => h9⟩
    iexact H9
  isplitl [H10]
  · iexists X10; isplitr; · ipureintro; exact ⟨fun h => (Bool.false_ne_true h.symm).elim, fun _ => h10⟩
    iexact H10
  isplitl [H11]
  · iexists X11; isplitr; · ipureintro; exact ⟨fun h => (Bool.false_ne_true h.symm).elim, fun _ => h11⟩
    iexact H11
  isplitl [H12]
  · iexists X12; isplitr; · ipureintro; exact ⟨fun h => (Bool.false_ne_true h.symm).elim, fun _ => h12⟩
    iexact H12
  isplitl [H13]
  · iexists X13; isplitr; · ipureintro; exact ⟨fun h => (Bool.false_ne_true h.symm).elim, fun _ => h13⟩
    iexact H13
  iexists X14; isplitr; · ipureintro; exact ⟨fun h => (Bool.false_ne_true h.symm).elim, fun _ => h14⟩
  iexact H14

theorem PhiT_eq (c : Dev nD) : Pipeline.ΦT (Val := Elt F) (U := UR sig nD τ) pre0 (tbl m) c
    = owns (c : Thread nD τ) (Memref.whole main_arg1) fullShare.right (V m 0 main_arg1) := by
  unfold Pipeline.ΦT Pipeline.prefHeld
  rw [show (Finset.univ : Finset (Fin pre0.K)) = {(0 : Fin 1)} from by decide, bigSep_singleton, owns_whole]
  rfl

theorem hin (c : Dev nD) : iprop(Pipeline.ΦA spec0 c ∗ Pipeline.ΦT pre0 (tbl m) c) ⊢ (rdat kn c).Φ 0 := by
  rw [PhiT_eq, show (rdat kn c).Φ 0 = Phi kn c 0 from rfl]
  unfold Phi Pipeline.ΦA
  rw [scopedRest0_eq]
  iintro ⟨⟨⟨⟨%f0, H0⟩, ⟨%f1, H1⟩⟩, Hp⟩, HT⟩
  isplitl [HT]; · iexact HT
  isplitl [H0]
  · iexists f0; rw [owns_whole]; iexact H0
  isplitl [H1]
  · iexists f1; isplitr; · ipureintro; exact kn.L0 _
    rw [owns_whole]; iexact H1
  iexact Hp

theorem hout (c : Dev nD) : (rdat kn c).Φ (Fin.last (cfgM m).N) ⊢ Pipeline.ΦA spec0 c := by
  rw [show (rdat kn c).Φ (Fin.last (cfgM m).N) = Phi kn c 128 from rfl]
  unfold Phi Pipeline.ΦA
  rw [scopedRest0_eq]
  simp only [owns_whole]
  iintro ⟨-, ⟨%f0, H0⟩, ⟨%f1, %h, H1⟩, Hp⟩
  isplitl [H0 H1]
  · isplitl [H0]
    · iexists f0; iexact H0
    iexists f1; iexact H1
  iexact Hp

set_option backward.isDefEq.respectTransparency.types false in
set_option maxHeartbeats 1600000 in
/-- Every weakly fair execution terminates; at the end the arrays hold what the relations allow, every other buffer what the region
    found in it, and every semaphore is at zero. -/
theorem run_main (hb : BodyRuns kn) :
    θ_run defs (onTc (τ := τ) (main (F := F))) (s₀ m ρ)
      (fun r => RDat.FramePost (cfgM m) (rdat kn) (V m) r ∧ r.2.sem = fun _ => 0) :=
  RDat.θ_run_frameP_track_shared (Q' := _) pcfgs (adm m) (0 : Fin 1) launch₀0 defs₀ Variants.none (rdat kn) m ρ main
    (hbody := body_obligation hb) (hq := fun _ _ _ => rfl) (howed := fun _ _ => rfl) (V := V m) (hmain := hmain m Variants.none) (hA := fun _ _ => rfl)
    (hpf := fun c k => by rw [Subsingleton.elim c 0]; rfl)
    (hin := hin) (hout := hout)

variable {ρ}

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.reshape_writes, Finset.mem_singleton]
    repeat' apply And.intro
    all_goals exact StableHlo.devRef_ne_of_ne (by decide)))

theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.reshape_writes, Finset.mem_singleton]
    repeat' apply And.intro
    all_goals exact StableHlo.devRef_ne_of_ne (by decide)))

/-- At the end of the run every argument of the kernel holds what it held at the launch. -/
theorem args_kept {r : PUnit × MemSt nD τ sig (Elt F)} (h : RDat.FramePost (cfgM m) (rdat kn) (V m) r) (c : Dev nD) :
    r.2.mem ((c.tc : Thread nD τ).loc main_arg0) = m ((c.tc : Thread nD τ).loc main_arg0)
      ∧     r.2.mem ((c.tc : Thread nD τ).loc main_arg1) = m ((c.tc : Thread nD τ).loc main_arg1)
      ∧     r.2.mem ((c.tc : Thread nD τ).loc main_arg2) = m ((c.tc : Thread nD τ).loc main_arg2)
      ∧     r.2.mem ((c.tc : Thread nD τ).loc main_arg3) = m ((c.tc : Thread nD τ).loc main_arg3)
      ∧     r.2.mem ((c.tc : Thread nD τ).loc main_arg4) = m ((c.tc : Thread nD τ).loc main_arg4)
      ∧     r.2.mem ((c.tc : Thread nD τ).loc main_arg5) = m ((c.tc : Thread nD τ).loc main_arg5)
      ∧     r.2.mem ((c.tc : Thread nD τ).loc main_arg6) = m ((c.tc : Thread nD τ).loc main_arg6)
      ∧     r.2.mem ((c.tc : Thread nD τ).loc main_arg7) = m ((c.tc : Thread nD τ).loc main_arg7) :=
  ⟨(h.arr_in c 0 rfl).trans (show V m c main_arg0 = _ from V_main_arg0 c),
    ((h c).2 main_arg1 (Pipeline.mem_restRefs_of main_arg1 (by decide) (show ∀ w, (spec0 w).arr.view.ref ≠ main_arg1 from by decide))).trans (V_main_arg1 c),
    ((h c).2 main_arg2 (Pipeline.mem_restRefs_of main_arg2 (by decide) (show ∀ w, (spec0 w).arr.view.ref ≠ main_arg2 from by decide))).trans (V_main_arg2 c),
    ((h c).2 main_arg3 (Pipeline.mem_restRefs_of main_arg3 (by decide) (show ∀ w, (spec0 w).arr.view.ref ≠ main_arg3 from by decide))).trans (V_main_arg3 c),
    (h.arr_in c 4 rfl).trans (show V m c main_arg4 = _ from V_main_arg4 c),
    (h.arr_in c 5 rfl).trans (show V m c main_arg5 = _ from V_main_arg5 c),
    ((h c).2 main_arg6 (Pipeline.mem_restRefs_of main_arg6 (by decide) (show ∀ w, (spec0 w).arr.view.ref ≠ main_arg6 from by decide))).trans (V_main_arg6 c),
    ((h c).2 main_arg7 (Pipeline.mem_restRefs_of main_arg7 (by decide) (show ∀ w, (spec0 w).arr.view.ref ≠ main_arg7 from by decide))).trans (V_main_arg7 c)⟩

end Cert.KernelIdeal.Hand

end
-- ==== Proof.FrameIdeal.lean ====
module

public import proofs.«01_k».proof.Proof.Run

/-! # The body runs from any contents, so the kernel leaves its arguments as they were -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)
open Cert.KernelIdeal.Gen

variable {F : FTy → Type} [FloatOps F]

local notation "𝕄" => MT nD τ sig Unit (Elt F) ℕ (UR sig nD τ) ℕ

/-- A memref's region at contents `f` is owned at what is read of them. -/
theorem owns_read_of {spc : Space} {s : Shape} {e : EltTy} (c : Dev nD) (a : Memref sig .tc spc s e) (q : PosShare TreeShare)
    (f : a.view.ty.Contents (Elt F)) : (a.view.loc (c : Thread nD τ) ↦[a.view.set]{q} f : sProp 𝕄) ⊢ owns (c : Thread nD τ) a q (a.view.read (Elt F) f) := by
  unfold owns
  iintro H; iexists f; isplitr; · ipureintro; rfl
  iexact H

/-- A memref's region at any contents is owned at some contents. -/
theorem owns_some_of {spc : Space} {s : Shape} {e : EltTy} (c : Dev nD) (a : Memref sig .tc spc s e) (q : PosShare TreeShare)
    (f : a.view.ty.Contents (Elt F)) : (a.view.loc (c : Thread nD τ) ↦[a.view.set]{q} f : sProp 𝕄) ⊢ iprop(∃ y, owns (c : Thread nD τ) a q y) := by
  iintro H; iexists _; iapply (owns_read_of c a q f); iexact H

set_option sl_exec.parts true in
set_option sl_exec.resultNames true in
set_option maxHeartbeats 4000000 in
/-- From any contents the body runs to its end; it leaves the inputs' buffers as it found them. -/
theorem sound_any (c : Dev nD) (E : Set ℕ) (i : grid0.Coords) (arg2 : Memref sig .tc .smem S16 .i32) (harg2 : arg2.IsWhole) (arg3 : Memref sig .tc .vmem S1x256x4096 .bf16) (harg3 : arg3.IsWhole) (arg4 : Memref sig .tc .vmem S1x16x4096 .bf16) (harg4 : arg4.IsWhole) (arg5 : Memref sig .tc .vmem S1x1x256 .i32) (harg5 : arg5.IsWhole) (arg6 : Memref sig .tc .vmem S1x4096 .f32) (harg6 : arg6.IsWhole) (arg7 : Memref sig .tc .smem S1 .f32) (harg7 : arg7.IsWhole) (arg8 : Memref sig .tc .vmem S4096x3584 .fp8e4m3) (harg8 : arg8.IsWhole) (arg9 : Memref sig .tc .vmem S1x3584 .f32) (harg9 : arg9.IsWhole) (arg10 : Memref sig .tc .vmem S1x3584 .f32) (harg10 : arg10.IsWhole) (arg11 : Memref sig .tc .vmem S16x4096 .f32) (harg11 : arg11.IsWhole) (arg12 : Memref sig .tc .vmem S16x2048 .f32) (harg12 : arg12.IsWhole) (arg13 : Memref sig .tc .vmem S16x2048 .f32) (harg13 : arg13.IsWhole) (arg14 : Memref sig .tc .vmem S1x256x3584 .fp8e4m3) (harg14 : arg14.IsWhole) (arg15 : Memref sig .tc .vmem S16x2047 .f32) (harg15 : arg15.IsWhole) (arg16 : Memref sig .tc .vmem S1x256x4096 .fp8e4m3) (harg16 : arg16.IsWhole) (arg17 : Memref sig .tc .vmem S16x2047 .f32) (harg17 : arg17.IsWhole) (arg18 : Memref sig .tc .vmem S256x3584 .f32) (harg18 : arg18.IsWhole) (arg19 : Memref sig .tc .vmem S1x2048 .f32) (harg19 : arg19.IsWhole)
    (q : PosShare TreeShare) (x2 : Vec F S16 .i32) (x3 : Vec F S1x256x4096 .bf16) (x4 : Vec F S1x16x4096 .bf16) (x5 : Vec F S1x1x256 .i32) (x6 : Vec F S1x4096 .f32) (x7 : Vec F S1 .f32) (x8 : Vec F S4096x3584 .fp8e4m3) (x9 : Vec F S1x3584 .f32) (x10 : Vec F S1x3584 .f32) (x11 : Vec F S16x4096 .f32) (x12 : Vec F S16x2048 .f32) (x13 : Vec F S16x2048 .f32) (x14 : Vec F S1x256x3584 .fp8e4m3) (x15 : Vec F S16x2047 .f32) (x16 : Vec F S1x256x4096 .fp8e4m3) (x17 : Vec F S16x2047 .f32) (x18 : Vec F S256x3584 .f32) (x19 : Vec F S1x2048 .f32)
    (K : PUnit → sProp 𝕄) :
    iprop(owns (c : Thread nD τ) arg2 q x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ (iprop(owns (c : Thread nD τ) arg2 q x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ y, owns (c : Thread nD τ) arg11 fullShare y) ∗ (∃ y, owns (c : Thread nD τ) arg12 fullShare y) ∗ (∃ y, owns (c : Thread nD τ) arg13 fullShare y) ∗ (∃ y, owns (c : Thread nD τ) arg14 fullShare y) ∗ (∃ y, owns (c : Thread nD τ) arg15 fullShare y) ∗ (∃ y, owns (c : Thread nD τ) arg16 fullShare y) ∗ (∃ y, owns (c : Thread nD τ) arg17 fullShare y) ∗ (∃ y, owns (c : Thread nD τ) arg18 fullShare y) ∗ (∃ y, owns (c : Thread nD τ) arg19 fullShare y)) -∗ K ⟨⟩))
 ⊢ wp frame (wpE (defs₀ (F := F)) Variants.none c none) E (cc0_bge_m3_heads i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_bge_m3_heads_eq_skeleton]; unfold cc0_bge_m3_heads_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
  subst hf2 hf3 hf4 hf5 hf6 hf7 hf8 hf9 hf10 hf11 hf12 hf13 hf14 hf15 hf16 hf17 hf18 hf19
  sl_exec
  sl_step
  iapply Hk
  isplitl [H2]; · iexists f2; isplitr; (ipureintro; rfl); iexact H2
  isplitl [H3]; · iexists f3; isplitr; (ipureintro; rfl); iexact H3
  isplitl [H4]; · iexists f4; isplitr; (ipureintro; rfl); iexact H4
  isplitl [H5]; · iexists f5; isplitr; (ipureintro; rfl); iexact H5
  isplitl [H6]; · iexists f6; isplitr; (ipureintro; rfl); iexact H6
  isplitl [H7]; · iexists f7; isplitr; (ipureintro; rfl); iexact H7
  isplitl [H8]; · iexists f8; isplitr; (ipureintro; rfl); iexact H8
  isplitl [H9]; · iexists f9; isplitr; (ipureintro; rfl); iexact H9
  isplitl [H10]; · iexists f10; isplitr; (ipureintro; rfl); iexact H10
  isplitl [H11]; · iapply (owns_some_of c arg11 fullShare _); iexact H11
  isplitl [H12]; · iapply (owns_some_of c arg12 fullShare _); iexact H12
  isplitl [H13]; · iapply (owns_some_of c arg13 fullShare _); iexact H13
  isplitl [H14]; · iapply (owns_some_of c arg14 fullShare _); iexact H14
  isplitl [H15]; · iapply (owns_some_of c arg15 fullShare _); iexact H15
  isplitl [H16]; · iapply (owns_some_of c arg16 fullShare _); iexact H16
  isplitl [H17]; · iapply (owns_some_of c arg17 fullShare _); iexact H17
  isplitl [H18]; · iapply (owns_some_of c arg18 fullShare _); iexact H18
  iapply (owns_some_of c arg19 fullShare _); iexact H19

/-- Nothing known of the outputs' buffers. -/
def knNone (m : (ℓ : Loc nD τ sig) → Buf (Elt F) ℓ) : Known m := ⟨fun _ _ _ _ => True, fun _ _ => True, fun _ => trivial⟩

/-- The body's row at a point is the body called with that point's buffers. -/
theorem body_row (m : (ℓ : Loc nD τ sig) → Buf (Elt F) ℓ) (t : Fin (cfgM m).N) : bodyAt (m := m) t
    = cc0_bge_m3_heads (grid0.coords t) (Memref.whole main_arg1) (Memref.isWhole_whole _)
        (st m 0 t) (stage_whole0 0 _)
        (st m 1 t) (stage_whole0 1 _)
        (st m 2 t) (stage_whole0 2 _)
        (st m 3 t) (stage_whole0 3 _)
        (st m 4 t) (stage_whole0 4 _)
        (st m 5 t) (stage_whole0 5 _)
        (st m 6 t) (stage_whole0 6 _)
        (st m 7 t) (stage_whole0 7 _)
        (st m 8 t) (stage_whole0 8 _)
        (st m 9 t) (stage_whole0 9 _)
        (st m 10 t) (stage_whole0 10 _)
        (st m 11 t) (stage_whole0 11 _)
        (st m 12 t) (stage_whole0 12 _)
        (st m 13 t) (stage_whole0 13 _)
        (st m 14 t) (stage_whole0 14 _)
        (Memref.whole cc0_scratch0) (Memref.isWhole_whole _) (Memref.whole cc0_scratch1) (Memref.isWhole_whole _) := by
  unfold bodyAt defs₀; rw [Defs.onTc_tc]; rfl

set_option maxHeartbeats 1600000 in
theorem bodyRuns_none (m : (ℓ : Loc nD τ sig) → Buf (Elt F) ℓ) : BodyRuns (knNone m) := by
  intro c t Y y l K hY hl
  rw [body_row]
  refine .trans ?_ (sound_any (F := F) c Set.univ (grid0.coords t) _ _ _ _ _ _ _ _ _ _ _ _ _ _ _ _ _ _ _ _ _ _ _ _ _ _ _ _ _ _ _ _ _ _ _ _ fullShare.right (V m 0 main_arg1) (Y 0) (Y 1) (Y 2) (Y 3) (Y 4) (Y 5) (Y 6) (Y 7) (Y 8) (Y 9) (Y 10) (Y 11) (Y 12) (Y 13) (Y 14) y l K)
  iintro ⟨HT, H0, H1, H2, H3, H4, H5, H6, H7, H8, H9, H10, H11, H12, H13, H14, Hy, Hl, Hk⟩
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [Hy]; · iexact Hy
  isplitl [Hl]; · iexact Hl
  iintro ⟨HT, H0, H1, H2, H3, H4, H5, H6, H7, ⟨%y8, H8⟩, ⟨%y9, H9⟩, ⟨%y10, H10⟩, ⟨%y11, H11⟩, ⟨%y12, H12⟩, ⟨%y13, H13⟩, ⟨%y14, H14⟩, ⟨%yy, Hy⟩, ⟨%ll, Hl⟩⟩
  iapply Hk $$ %y8 %y9 %y10 %y11 %y12 %y13 %y14 %yy %ll [] [HT] [H0] [H1] [H2] [H3] [H4] [H5] [H6] [H7] [H8] [H9] [H10] [H11] [H12] [H13] [H14] [Hy] [Hl]
  · ipureintro; exact ⟨trivial, trivial, trivial, trivial, trivial, trivial, trivial, trivial⟩
  · iexact HT
  · iexact H0
  · iexact H1
  · iexact H2
  · iexact H3
  · iexact H4
  · iexact H5
  · iexact H6
  · iexact H7
  · iexact H8
  · iexact H9
  · iexact H10
  · iexact H11
  · iexact H12
  · iexact H13
  · iexact H14
  · iexact Hy
  · iexact Hl

/-- The kernel runs to its end from any memory, leaves its arguments as they were and every semaphore at zero. -/
theorem frame_any (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7))
      ∧ r.2.sem = fun _ => 0) :=
  (θ_run (defs (F := F)) _ _).mono (fun r h => ⟨args_kept h.1, h.2⟩) (run_main (kn := knNone m) ρ (bodyRuns_none m))

end Cert.KernelIdeal.Hand

end
-- ==== Proof.RunKernel.lean ====
module

public import proofs.«01_k».proof.Proof.Gen.Kernel.Launch
public import proofs.«01_k».proof.Proof.Gen.Kernel.Skeleton
public import Idealize.ShloMosaic.Lib.Pipeline.FrameBody
public import Idealize.ShloMosaic.Lib.Pipeline.ArrRel
public import Idealize.ShloMosaic.Lib.Claim
public import Idealize.ShloMosaic.Lib.Tactic

/-! # The launch of the kernel from its body at a grid point

The proof data are relational: of each output buffer a relation between what the body finds in it and what it leaves, of the
second scratch buffer a predicate that moves from point to point, of each input the block that it holds. -/

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: after the four reshapes. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The prefetched table as the region finds it. -/
def tbl : pre0.Contents (Elt F) := fun k => V m 0 (pre0.ref k)

/-- The table, admitted by the region. -/
abbrev adm : (p : Fin 1) → (pcfgs (F := F) p).Adm := fun _ => ⟨tbl m, trivial⟩

/-- The pipeline at the table. -/
abbrev cfgM : Cfg sig Λ₀ := cfg0 (adm m 0)

set_option maxHeartbeats 800000 in
/-- The program up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The block of window `w` at point `t`, read from the arrays as the region finds them. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- What is known of the buffers: `R w t Y X` of an output buffer found at `Y` and left at `X`, `L k l` of the second scratch
    buffer before point `k`. -/
structure Known where
  R : (w : Fin (cfgM m).W) → Fin (cfgM m).N → (((cfgM m).win w).block.Idx → Elt F ((cfgM m).win w).elt) →
    (((cfgM m).win w).block.Idx → Elt F ((cfgM m).win w).elt) → Prop
  L : ℕ → Vec F S1x2048 .f32 → Prop
  L0 : ∀ l, L 0 l

variable {m}
variable (kn : Known m)

/-- What the region holds beside the windows before point `k`. -/
def Phi (c : Dev nD) (k : ℕ) : sProp 𝕄 :=
  iprop(owns (c : Thread nD τ) (Memref.whole main_arg1) fullShare.right (V m 0 main_arg1)
    ∗ (∃ y, owns (c : Thread nD τ) (Memref.whole cc0_scratch0) fullShare y)
    ∗ (∃ l, ⌜kn.L k l⌝ ∗ owns (c : Thread nD τ) (Memref.whole cc0_scratch1) fullShare l)
    ∗ ∃ r, prngReg c r)

/-- The proof data of the launch. -/
def rdat (c : Dev nD) : RDat τ (Elt F) Unit ℕ (UR sig nD τ) ℕ (cfgM m) c where
  A w := V m c (Pipeline.arrRef spec0 w)
  after w t Y X := (((cfgM m).win w).isOut = false → X = Y) ∧ (((cfgM m).win w).isOut = true → kn.R w t Y X)
  Φ k := Phi kn c k.val
  q := Pipeline.shareOf spec0
  owed _ := 0

/-- The body at point `t`, as the pipeline calls it. -/
abbrev bodyAt (t : Fin (cfgM m).N) := defs₀ (F := F) .tc (cfgM m).body ((cfgM m).bodyArgs t ((cfgM m).slots t))

/-- The staging buffer of window `w` at point `t`. -/
abbrev st (m : (ℓ : Loc nD τ sig) → Buf (Elt F) ℓ) (w : Fin (cfgM m).W) (t : Fin (cfgM m).N) := (spec0 w).stage ((cfgM m).slots t w)

theorem finds_0 (c : Dev nD) (t : Fin (cfgM m).N) (Y) (h : (rdat kn c).Finds 0 t Y) : Y = iblk m c 0 t := by
  obtain ⟨d, rfl⟩ := (rdat kn c).finds_in_eq_fetched 0 rfl (fun _ _ _ => rfl) (fun _ _ _ h => h.1 rfl) t Y h
  rfl

theorem finds_1 (c : Dev nD) (t : Fin (cfgM m).N) (Y) (h : (rdat kn c).Finds 1 t Y) : Y = iblk m c 1 t := by
  obtain ⟨d, rfl⟩ := (rdat kn c).finds_in_eq_fetched 1 rfl (fun _ _ _ => rfl) (fun _ _ _ h => h.1 rfl) t Y h
  rfl

theorem finds_2 (c : Dev nD) (t : Fin (cfgM m).N) (Y) (h : (rdat kn c).Finds 2 t Y) : Y = iblk m c 2 t := by
  obtain ⟨d, rfl⟩ := (rdat kn c).finds_in_eq_fetched 2 rfl (fun _ _ _ => rfl) (fun _ _ _ h => h.1 rfl) t Y h
  rfl

theorem finds_3 (c : Dev nD) (t : Fin (cfgM m).N) (Y) (h : (rdat kn c).Finds 3 t Y) : Y = iblk m c 3 t := by
  obtain ⟨d, rfl⟩ := (rdat kn c).finds_in_eq_fetched 3 rfl (fun _ _ _ => rfl) (fun _ _ _ h => h.1 rfl) t Y h
  rfl

theorem finds_4 (c : Dev nD) (t : Fin (cfgM m).N) (Y) (h : (rdat kn c).Finds 4 t Y) : Y = iblk m c 4 t := by
  obtain ⟨d, rfl⟩ := (rdat kn c).finds_in_eq_fetched 4 rfl (fun _ _ _ => rfl) (fun _ _ _ h => h.1 rfl) t Y h
  rfl

theorem finds_5 (c : Dev nD) (t : Fin (cfgM m).N) (Y) (h : (rdat kn c).Finds 5 t Y) : Y = iblk m c 5 t := by
  obtain ⟨d, rfl⟩ := (rdat kn c).finds_in_eq_fetched 5 rfl (fun _ _ _ => rfl) (fun _ _ _ h => h.1 rfl) t Y h
  rfl

theorem finds_6 (c : Dev nD) (t : Fin (cfgM m).N) (Y) (h : (rdat kn c).Finds 6 t Y) : Y = iblk m c 6 t := by
  obtain ⟨d, rfl⟩ := (rdat kn c).finds_in_eq_fetched 6 rfl (fun _ _ _ => rfl) (fun _ _ _ h => h.1 rfl) t Y h
  rfl

theorem finds_7 (c : Dev nD) (t : Fin (cfgM m).N) (Y) (h : (rdat kn c).Finds 7 t Y) : Y = iblk m c 7 t := by
  obtain ⟨d, rfl⟩ := (rdat kn c).finds_in_eq_fetched 7 rfl (fun _ _ _ => rfl) (fun _ _ _ h => h.1 rfl) t Y h
  rfl

/-- The body at every grid point, as a triple: from the blocks of the inputs, whatever the outputs' buffers are found at and the
    second scratch buffer as it is known before the point, to contents that meet the relations and the predicate after it. -/
def BodyRuns : Prop :=
  ∀ (c : Dev nD) (t : Fin (cfgM m).N) (Y : (w : Fin (cfgM m).W) → ((cfgM m).win w).block.Idx → Elt F ((cfgM m).win w).elt)
    (y : Vec F S256x3584 .f32) (l : Vec F S1x2048 .f32) (K : PUnit → sProp 𝕄),
    (∀ w, (rdat kn c).Finds w t (Y w)) → kn.L t.val l →
    iprop(owns (c : Thread nD τ) (Memref.whole main_arg1) fullShare.right (V m 0 main_arg1)
      ∗ owns (c : Thread nD τ) (st m 0 t) fullShare (Y 0)
      ∗ owns (c : Thread nD τ) (st m 1 t) fullShare (Y 1)
      ∗ owns (c : Thread nD τ) (st m 2 t) fullShare (Y 2)
      ∗ owns (c : Thread nD τ) (st m 3 t) fullShare (Y 3)
      ∗ owns (c : Thread nD τ) (st m 4 t) fullShare (Y 4)
      ∗ owns (c : Thread nD τ) (st m 5 t) fullShare (Y 5)
      ∗ owns (c : Thread nD τ) (st m 6 t) fullShare (Y 6)
      ∗ owns (c : Thread nD τ) (st m 7 t) fullShare (Y 7)
      ∗ owns (c : Thread nD τ) (st m 8 t) fullShare (Y 8)
      ∗ owns (c : Thread nD τ) (st m 9 t) fullShare (Y 9)
      ∗ owns (c : Thread nD τ) (st m 10 t) fullShare (Y 10)
      ∗ owns (c : Thread nD τ) (st m 11 t) fullShare (Y 11)
      ∗ owns (c : Thread nD τ) (st m 12 t) fullShare (Y 12)
      ∗ owns (c : Thread nD τ) (st m 13 t) fullShare (Y 13)
      ∗ owns (c : Thread nD τ) (st m 14 t) fullShare (Y 14)
      ∗ owns (c : Thread nD τ) (Memref.whole cc0_scratch0) fullShare y
      ∗ owns (c : Thread nD τ) (Memref.whole cc0_scratch1) fullShare l
      ∗ (∀ X8 X9 X10 X11 X12 X13 X14 y' l', ⌜kn.R 8 t (Y 8) X8 ∧ kn.R 9 t (Y 9) X9 ∧ kn.R 10 t (Y 10) X10 ∧ kn.R 11 t (Y 11) X11 ∧ kn.R 12 t (Y 12) X12 ∧ kn.R 13 t (Y 13) X13 ∧ kn.R 14 t (Y 14) X14 ∧ kn.L (t.val + 1) l'⌝
        -∗ owns (c : Thread nD τ) (Memref.whole main_arg1) fullShare.right (V m 0 main_arg1)
        -∗ owns (c : Thread nD τ) (st m 0 t) fullShare (Y 0)
        -∗ owns (c : Thread nD τ) (st m 1 t) fullShare (Y 1)
        -∗ owns (c : Thread nD τ) (st m 2 t) fullShare (Y 2)
        -∗ owns (c : Thread nD τ) (st m 3 t) fullShare (Y 3)
        -∗ owns (c : Thread nD τ) (st m 4 t) fullShare (Y 4)
        -∗ owns (c : Thread nD τ) (st m 5 t) fullShare (Y 5)
        -∗ owns (c : Thread nD τ) (st m 6 t) fullShare (Y 6)
        -∗ owns (c : Thread nD τ) (st m 7 t) fullShare (Y 7)
        -∗ owns (c : Thread nD τ) (st m 8 t) fullShare X8
        -∗ owns (c : Thread nD τ) (st m 9 t) fullShare X9
        -∗ owns (c : Thread nD τ) (st m 10 t) fullShare X10
        -∗ owns (c : Thread nD τ) (st m 11 t) fullShare X11
        -∗ owns (c : Thread nD τ) (st m 12 t) fullShare X12
        -∗ owns (c : Thread nD τ) (st m 13 t) fullShare X13
        -∗ owns (c : Thread nD τ) (st m 14 t) fullShare X14
        -∗ owns (c : Thread nD τ) (Memref.whole cc0_scratch0) fullShare y'
        -∗ owns (c : Thread nD τ) (Memref.whole cc0_scratch1) fullShare l' -∗ K ⟨⟩))
    ⊢ wp frame (wpE (defs₀ (F := F)) Variants.none c none) Set.univ (bodyAt t) K

variable {kn}

set_option maxHeartbeats 1600000 in
/-- The library's body obligation from the body's triple. -/
theorem body_obligation (hb : BodyRuns kn) (c : Dev nD) : (rdat kn c).BodyObligation defs₀ Variants.none () Set.univ := by
  intro t Y hY
  rw [bigSep_W0, bigSep_W0, show (rdat kn c).Φ t.castSucc = Phi kn c t.val from rfl, show (rdat kn c).Φ t.succ = Phi kn c (t.val + 1) from rfl,
    show (rdat kn c).owesAt () t.succ = (rdat kn c).owesAt () t.castSucc from rfl]
  unfold Phi
  iintro ⟨⟨HT, ⟨%y, Hy⟩, ⟨%l, %hl, Hl⟩, Hp⟩, HO, H0, H1, H2, H3, H4, H5, H6, H7, H8, H9, H10, H11, H12, H13, H14⟩
  iapply (hb c t Y y l _ hY hl)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [Hy]; · iexact Hy
  isplitl [Hl]; · iexact Hl
  iintro %X8 %X9 %X10 %X11 %X12 %X13 %X14 %y' %l' %h HT H0 H1 H2 H3 H4 H5 H6 H7 H8 H9 H10 H11 H12 H13 H14 Hy Hl
  obtain ⟨h8, h9, h10, h11, h12, h13, h14, hl'⟩ := h
  isplitl [HT Hy Hl Hp]
  · isplitl [HT]; · iexact HT
    isplitl [Hy]; · iexists y'; iexact Hy
    isplitl [Hl]
    · iexists l'; isplitr; · ipureintro; exact hl'
      iexact Hl
    iexact Hp
  isplitl [HO]; · iexact HO
  isplitl [H0]
  · iexists (Y 0); isplitr; · ipureintro; exact ⟨fun _ => rfl, fun h => (Bool.false_ne_true h).elim⟩
    iexact H0
  isplitl [H1]
  · iexists (Y 1); isplitr; · ipureintro; exact ⟨fun _ => rfl, fun h => (Bool.false_ne_true h).elim⟩
    iexact H1
  isplitl [H2]
  · iexists (Y 2); isplitr; · ipureintro; exact ⟨fun _ => rfl, fun h => (Bool.false_ne_true h).elim⟩
    iexact H2
  isplitl [H3]
  · iexists (Y 3); isplitr; · ipureintro; exact ⟨fun _ => rfl, fun h => (Bool.false_ne_true h).elim⟩
    iexact H3
  isplitl [H4]
  · iexists (Y 4); isplitr; · ipureintro; exact ⟨fun _ => rfl, fun h => (Bool.false_ne_true h).elim⟩
    iexact H4
  isplitl [H5]
  · iexists (Y 5); isplitr; · ipureintro; exact ⟨fun _ => rfl, fun h => (Bool.false_ne_true h).elim⟩
    iexact H5
  isplitl [H6]
  · iexists (Y 6); isplitr; · ipureintro; exact ⟨fun _ => rfl, fun h => (Bool.false_ne_true h).elim⟩
    iexact H6
  isplitl [H7]
  · iexists (Y 7); isplitr; · ipureintro; exact ⟨fun _ => rfl, fun h => (Bool.false_ne_true h).elim⟩
    iexact H7
  isplitl [H8]
  · iexists X8; isplitr; · ipureintro; exact ⟨fun h => (Bool.false_ne_true h.symm).elim, fun _ => h8⟩
    iexact H8
  isplitl [H9]
  · iexists X9; isplitr; · ipureintro; exact ⟨fun h => (Bool.false_ne_true h.symm).elim, fun _ => h9⟩
    iexact H9
  isplitl [H10]
  · iexists X10; isplitr; · ipureintro; exact ⟨fun h => (Bool.false_ne_true h.symm).elim, fun _ => h10⟩
    iexact H10
  isplitl [H11]
  · iexists X11; isplitr; · ipureintro; exact ⟨fun h => (Bool.false_ne_true h.symm).elim, fun _ => h11⟩
    iexact H11
  isplitl [H12]
  · iexists X12; isplitr; · ipureintro; exact ⟨fun h => (Bool.false_ne_true h.symm).elim, fun _ => h12⟩
    iexact H12
  isplitl [H13]
  · iexists X13; isplitr; · ipureintro; exact ⟨fun h => (Bool.false_ne_true h.symm).elim, fun _ => h13⟩
    iexact H13
  iexists X14; isplitr; · ipureintro; exact ⟨fun h => (Bool.false_ne_true h.symm).elim, fun _ => h14⟩
  iexact H14

theorem PhiT_eq (c : Dev nD) : Pipeline.ΦT (Val := Elt F) (U := UR sig nD τ) pre0 (tbl m) c
    = owns (c : Thread nD τ) (Memref.whole main_arg1) fullShare.right (V m 0 main_arg1) := by
  unfold Pipeline.ΦT Pipeline.prefHeld
  rw [show (Finset.univ : Finset (Fin pre0.K)) = {(0 : Fin 1)} from by decide, bigSep_singleton, owns_whole]
  rfl

theorem hin (c : Dev nD) : iprop(Pipeline.ΦA spec0 c ∗ Pipeline.ΦT pre0 (tbl m) c) ⊢ (rdat kn c).Φ 0 := by
  rw [PhiT_eq, show (rdat kn c).Φ 0 = Phi kn c 0 from rfl]
  unfold Phi Pipeline.ΦA
  rw [scopedRest0_eq]
  iintro ⟨⟨⟨⟨%f0, H0⟩, ⟨%f1, H1⟩⟩, Hp⟩, HT⟩
  isplitl [HT]; · iexact HT
  isplitl [H0]
  · iexists f0; rw [owns_whole]; iexact H0
  isplitl [H1]
  · iexists f1; isplitr; · ipureintro; exact kn.L0 _
    rw [owns_whole]; iexact H1
  iexact Hp

theorem hout (c : Dev nD) : (rdat kn c).Φ (Fin.last (cfgM m).N) ⊢ Pipeline.ΦA spec0 c := by
  rw [show (rdat kn c).Φ (Fin.last (cfgM m).N) = Phi kn c 128 from rfl]
  unfold Phi Pipeline.ΦA
  rw [scopedRest0_eq]
  simp only [owns_whole]
  iintro ⟨-, ⟨%f0, H0⟩, ⟨%f1, %h, H1⟩, Hp⟩
  isplitl [H0 H1]
  · isplitl [H0]
    · iexists f0; iexact H0
    iexists f1; iexact H1
  iexact Hp

set_option backward.isDefEq.respectTransparency.types false in
set_option maxHeartbeats 1600000 in
/-- Every weakly fair execution terminates; at the end the arrays hold what the relations allow, every other buffer what the region
    found in it, and every semaphore is at zero. -/
theorem run_main (hb : BodyRuns kn) :
    θ_run defs (onTc (τ := τ) (main (F := F))) (s₀ m ρ)
      (fun r => RDat.FramePost (cfgM m) (rdat kn) (V m) r ∧ r.2.sem = fun _ => 0) :=
  RDat.θ_run_frameP_track_shared (Q' := _) pcfgs (adm m) (0 : Fin 1) launch₀0 defs₀ Variants.none (rdat kn) m ρ main
    (hbody := body_obligation hb) (hq := fun _ _ _ => rfl) (howed := fun _ _ => rfl) (V := V m) (hmain := hmain m Variants.none) (hA := fun _ _ => rfl)
    (hpf := fun c k => by rw [Subsingleton.elim c 0]; rfl)
    (hin := hin) (hout := hout)

variable {ρ}

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.reshape_writes, Finset.mem_singleton]
    repeat' apply And.intro
    all_goals exact StableHlo.devRef_ne_of_ne (by decide)))

theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.reshape_writes, Finset.mem_singleton]
    repeat' apply And.intro
    all_goals exact StableHlo.devRef_ne_of_ne (by decide)))

/-- At the end of the run every argument of the kernel holds what it held at the launch. -/
theorem args_kept {r : PUnit × MemSt nD τ sig (Elt F)} (h : RDat.FramePost (cfgM m) (rdat kn) (V m) r) (c : Dev nD) :
    r.2.mem ((c.tc : Thread nD τ).loc main_arg0) = m ((c.tc : Thread nD τ).loc main_arg0)
      ∧     r.2.mem ((c.tc : Thread nD τ).loc main_arg1) = m ((c.tc : Thread nD τ).loc main_arg1)
      ∧     r.2.mem ((c.tc : Thread nD τ).loc main_arg2) = m ((c.tc : Thread nD τ).loc main_arg2)
      ∧     r.2.mem ((c.tc : Thread nD τ).loc main_arg3) = m ((c.tc : Thread nD τ).loc main_arg3)
      ∧     r.2.mem ((c.tc : Thread nD τ).loc main_arg4) = m ((c.tc : Thread nD τ).loc main_arg4)
      ∧     r.2.mem ((c.tc : Thread nD τ).loc main_arg5) = m ((c.tc : Thread nD τ).loc main_arg5)
      ∧     r.2.mem ((c.tc : Thread nD τ).loc main_arg6) = m ((c.tc : Thread nD τ).loc main_arg6)
      ∧     r.2.mem ((c.tc : Thread nD τ).loc main_arg7) = m ((c.tc : Thread nD τ).loc main_arg7) :=
  ⟨(h.arr_in c 0 rfl).trans (show V m c main_arg0 = _ from V_main_arg0 c),
    ((h c).2 main_arg1 (Pipeline.mem_restRefs_of main_arg1 (by decide) (show ∀ w, (spec0 w).arr.view.ref ≠ main_arg1 from by decide))).trans (V_main_arg1 c),
    ((h c).2 main_arg2 (Pipeline.mem_restRefs_of main_arg2 (by decide) (show ∀ w, (spec0 w).arr.view.ref ≠ main_arg2 from by decide))).trans (V_main_arg2 c),
    ((h c).2 main_arg3 (Pipeline.mem_restRefs_of main_arg3 (by decide) (show ∀ w, (spec0 w).arr.view.ref ≠ main_arg3 from by decide))).trans (V_main_arg3 c),
    (h.arr_in c 4 rfl).trans (show V m c main_arg4 = _ from V_main_arg4 c),
    (h.arr_in c 5 rfl).trans (show V m c main_arg5 = _ from V_main_arg5 c),
    ((h c).2 main_arg6 (Pipeline.mem_restRefs_of main_arg6 (by decide) (show ∀ w, (spec0 w).arr.view.ref ≠ main_arg6 from by decide))).trans (V_main_arg6 c),
    ((h c).2 main_arg7 (Pipeline.mem_restRefs_of main_arg7 (by decide) (show ∀ w, (spec0 w).arr.view.ref ≠ main_arg7 from by decide))).trans (V_main_arg7 c)⟩

end Cert.Kernel.Hand

end
-- ==== Proof.FrameKernel.lean ====
module

public import proofs.«01_k».proof.Proof.RunKernel

/-! # The body runs from any contents, so the kernel leaves its arguments as they were -/

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)
open Cert.Kernel.Gen

variable {F : FTy → Type} [FloatOps F]

local notation "𝕄" => MT nD τ sig Unit (Elt F) ℕ (UR sig nD τ) ℕ

/-- A memref's region at contents `f` is owned at what is read of them. -/
theorem owns_read_of {spc : Space} {s : Shape} {e : EltTy} (c : Dev nD) (a : Memref sig .tc spc s e) (q : PosShare TreeShare)
    (f : a.view.ty.Contents (Elt F)) : (a.view.loc (c : Thread nD τ) ↦[a.view.set]{q} f : sProp 𝕄) ⊢ owns (c : Thread nD τ) a q (a.view.read (Elt F) f) := by
  unfold owns
  iintro H; iexists f; isplitr; · ipureintro; rfl
  iexact H

/-- A memref's region at any contents is owned at some contents. -/
theorem owns_some_of {spc : Space} {s : Shape} {e : EltTy} (c : Dev nD) (a : Memref sig .tc spc s e) (q : PosShare TreeShare)
    (f : a.view.ty.Contents (Elt F)) : (a.view.loc (c : Thread nD τ) ↦[a.view.set]{q} f : sProp 𝕄) ⊢ iprop(∃ y, owns (c : Thread nD τ) a q y) := by
  iintro H; iexists _; iapply (owns_read_of c a q f); iexact H

set_option sl_exec.parts true in
set_option sl_exec.resultNames true in
set_option maxHeartbeats 4000000 in
/-- From any contents the body runs to its end; it leaves the inputs' buffers as it found them. -/
theorem sound_any (c : Dev nD) (E : Set ℕ) (i : grid0.Coords) (arg2 : Memref sig .tc .smem S16 .i32) (harg2 : arg2.IsWhole) (arg3 : Memref sig .tc .vmem S1x256x4096 .bf16) (harg3 : arg3.IsWhole) (arg4 : Memref sig .tc .vmem S1x16x4096 .bf16) (harg4 : arg4.IsWhole) (arg5 : Memref sig .tc .vmem S1x1x256 .i32) (harg5 : arg5.IsWhole) (arg6 : Memref sig .tc .vmem S1x4096 .f32) (harg6 : arg6.IsWhole) (arg7 : Memref sig .tc .smem S1 .f32) (harg7 : arg7.IsWhole) (arg8 : Memref sig .tc .vmem S4096x3584 .fp8e4m3) (harg8 : arg8.IsWhole) (arg9 : Memref sig .tc .vmem S1x3584 .f32) (harg9 : arg9.IsWhole) (arg10 : Memref sig .tc .vmem S1x3584 .f32) (harg10 : arg10.IsWhole) (arg11 : Memref sig .tc .vmem S16x4096 .f32) (harg11 : arg11.IsWhole) (arg12 : Memref sig .tc .vmem S16x2048 .f32) (harg12 : arg12.IsWhole) (arg13 : Memref sig .tc .vmem S16x2048 .f32) (harg13 : arg13.IsWhole) (arg14 : Memref sig .tc .vmem S1x256x3584 .fp8e4m3) (harg14 : arg14.IsWhole) (arg15 : Memref sig .tc .vmem S16x2047 .f32) (harg15 : arg15.IsWhole) (arg16 : Memref sig .tc .vmem S1x256x4096 .fp8e4m3) (harg16 : arg16.IsWhole) (arg17 : Memref sig .tc .vmem S16x2047 .f32) (harg17 : arg17.IsWhole) (arg18 : Memref sig .tc .vmem S256x3584 .f32) (harg18 : arg18.IsWhole) (arg19 : Memref sig .tc .vmem S1x2048 .f32) (harg19 : arg19.IsWhole)
    (q : PosShare TreeShare) (x2 : Vec F S16 .i32) (x3 : Vec F S1x256x4096 .bf16) (x4 : Vec F S1x16x4096 .bf16) (x5 : Vec F S1x1x256 .i32) (x6 : Vec F S1x4096 .f32) (x7 : Vec F S1 .f32) (x8 : Vec F S4096x3584 .fp8e4m3) (x9 : Vec F S1x3584 .f32) (x10 : Vec F S1x3584 .f32) (x11 : Vec F S16x4096 .f32) (x12 : Vec F S16x2048 .f32) (x13 : Vec F S16x2048 .f32) (x14 : Vec F S1x256x3584 .fp8e4m3) (x15 : Vec F S16x2047 .f32) (x16 : Vec F S1x256x4096 .fp8e4m3) (x17 : Vec F S16x2047 .f32) (x18 : Vec F S256x3584 .f32) (x19 : Vec F S1x2048 .f32)
    (K : PUnit → sProp 𝕄) :
    iprop(owns (c : Thread nD τ) arg2 q x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ (iprop(owns (c : Thread nD τ) arg2 q x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ y, owns (c : Thread nD τ) arg11 fullShare y) ∗ (∃ y, owns (c : Thread nD τ) arg12 fullShare y) ∗ (∃ y, owns (c : Thread nD τ) arg13 fullShare y) ∗ (∃ y, owns (c : Thread nD τ) arg14 fullShare y) ∗ (∃ y, owns (c : Thread nD τ) arg15 fullShare y) ∗ (∃ y, owns (c : Thread nD τ) arg16 fullShare y) ∗ (∃ y, owns (c : Thread nD τ) arg17 fullShare y) ∗ (∃ y, owns (c : Thread nD τ) arg18 fullShare y) ∗ (∃ y, owns (c : Thread nD τ) arg19 fullShare y)) -∗ K ⟨⟩))
 ⊢ wp frame (wpE (defs₀ (F := F)) Variants.none c none) E (cc0_bge_m3_heads i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_bge_m3_heads_eq_skeleton]; unfold cc0_bge_m3_heads_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
  subst hf2 hf3 hf4 hf5 hf6 hf7 hf8 hf9 hf10 hf11 hf12 hf13 hf14 hf15 hf16 hf17 hf18 hf19
  sl_exec
  sl_step
  iapply Hk
  isplitl [H2]; · iexists f2; isplitr; (ipureintro; rfl); iexact H2
  isplitl [H3]; · iexists f3; isplitr; (ipureintro; rfl); iexact H3
  isplitl [H4]; · iexists f4; isplitr; (ipureintro; rfl); iexact H4
  isplitl [H5]; · iexists f5; isplitr; (ipureintro; rfl); iexact H5
  isplitl [H6]; · iexists f6; isplitr; (ipureintro; rfl); iexact H6
  isplitl [H7]; · iexists f7; isplitr; (ipureintro; rfl); iexact H7
  isplitl [H8]; · iexists f8; isplitr; (ipureintro; rfl); iexact H8
  isplitl [H9]; · iexists f9; isplitr; (ipureintro; rfl); iexact H9
  isplitl [H10]; · iexists f10; isplitr; (ipureintro; rfl); iexact H10
  isplitl [H11]; · iapply (owns_some_of c arg11 fullShare _); iexact H11
  isplitl [H12]; · iapply (owns_some_of c arg12 fullShare _); iexact H12
  isplitl [H13]; · iapply (owns_some_of c arg13 fullShare _); iexact H13
  isplitl [H14]; · iapply (owns_some_of c arg14 fullShare _); iexact H14
  isplitl [H15]; · iapply (owns_some_of c arg15 fullShare _); iexact H15
  isplitl [H16]; · iapply (owns_some_of c arg16 fullShare _); iexact H16
  isplitl [H17]; · iapply (owns_some_of c arg17 fullShare _); iexact H17
  isplitl [H18]; · iapply (owns_some_of c arg18 fullShare _); iexact H18
  iapply (owns_some_of c arg19 fullShare _); iexact H19

/-- Nothing known of the outputs' buffers. -/
def knNone (m : (ℓ : Loc nD τ sig) → Buf (Elt F) ℓ) : Known m := ⟨fun _ _ _ _ => True, fun _ _ => True, fun _ => trivial⟩

/-- The body's row at a point is the body called with that point's buffers. -/
theorem body_row (m : (ℓ : Loc nD τ sig) → Buf (Elt F) ℓ) (t : Fin (cfgM m).N) : bodyAt (m := m) t
    = cc0_bge_m3_heads (grid0.coords t) (Memref.whole main_arg1) (Memref.isWhole_whole _)
        (st m 0 t) (stage_whole0 0 _)
        (st m 1 t) (stage_whole0 1 _)
        (st m 2 t) (stage_whole0 2 _)
        (st m 3 t) (stage_whole0 3 _)
        (st m 4 t) (stage_whole0 4 _)
        (st m 5 t) (stage_whole0 5 _)
        (st m 6 t) (stage_whole0 6 _)
        (st m 7 t) (stage_whole0 7 _)
        (st m 8 t) (stage_whole0 8 _)
        (st m 9 t) (stage_whole0 9 _)
        (st m 10 t) (stage_whole0 10 _)
        (st m 11 t) (stage_whole0 11 _)
        (st m 12 t) (stage_whole0 12 _)
        (st m 13 t) (stage_whole0 13 _)
        (st m 14 t) (stage_whole0 14 _)
        (Memref.whole cc0_scratch0) (Memref.isWhole_whole _) (Memref.whole cc0_scratch1) (Memref.isWhole_whole _) := by
  unfold bodyAt defs₀; rw [Defs.onTc_tc]; rfl

set_option maxHeartbeats 1600000 in
theorem bodyRuns_none (m : (ℓ : Loc nD τ sig) → Buf (Elt F) ℓ) : BodyRuns (knNone m) := by
  intro c t Y y l K hY hl
  rw [body_row]
  refine .trans ?_ (sound_any (F := F) c Set.univ (grid0.coords t) _ _ _ _ _ _ _ _ _ _ _ _ _ _ _ _ _ _ _ _ _ _ _ _ _ _ _ _ _ _ _ _ _ _ _ _ fullShare.right (V m 0 main_arg1) (Y 0) (Y 1) (Y 2) (Y 3) (Y 4) (Y 5) (Y 6) (Y 7) (Y 8) (Y 9) (Y 10) (Y 11) (Y 12) (Y 13) (Y 14) y l K)
  iintro ⟨HT, H0, H1, H2, H3, H4, H5, H6, H7, H8, H9, H10, H11, H12, H13, H14, Hy, Hl, Hk⟩
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [Hy]; · iexact Hy
  isplitl [Hl]; · iexact Hl
  iintro ⟨HT, H0, H1, H2, H3, H4, H5, H6, H7, ⟨%y8, H8⟩, ⟨%y9, H9⟩, ⟨%y10, H10⟩, ⟨%y11, H11⟩, ⟨%y12, H12⟩, ⟨%y13, H13⟩, ⟨%y14, H14⟩, ⟨%yy, Hy⟩, ⟨%ll, Hl⟩⟩
  iapply Hk $$ %y8 %y9 %y10 %y11 %y12 %y13 %y14 %yy %ll [] [HT] [H0] [H1] [H2] [H3] [H4] [H5] [H6] [H7] [H8] [H9] [H10] [H11] [H12] [H13] [H14] [Hy] [Hl]
  · ipureintro; exact ⟨trivial, trivial, trivial, trivial, trivial, trivial, trivial, trivial⟩
  · iexact HT
  · iexact H0
  · iexact H1
  · iexact H2
  · iexact H3
  · iexact H4
  · iexact H5
  · iexact H6
  · iexact H7
  · iexact H8
  · iexact H9
  · iexact H10
  · iexact H11
  · iexact H12
  · iexact H13
  · iexact H14
  · iexact Hy
  · iexact Hl

/-- The kernel runs to its end from any memory, leaves its arguments as they were and every semaphore at zero. -/
theorem frame_any (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7))
      ∧ r.2.sem = fun _ => 0) :=
  (θ_run (defs (F := F)) _ _).mono (fun r h => ⟨args_kept h.1, h.2⟩) (run_main (kn := knNone m) ρ (bodyRuns_none m))

end Cert.Kernel.Hand

end
-- ==== Proof.Spec.lean ====
/- The quantiser's exponent, in the two ways the programs compute it, over the extended reals. -/
module

public import Idealize.ShloMosaic.Lib.Pointwise
public import Idealize.ShloMosaic.Lib.IdealHost
public import Mathlib.Analysis.SpecialFunctions.Log.Basic

@[expose] public section

noncomputable section

namespace Cert.Spec

open Idealize.ShloMosaic

/-- The float whose bits are the word `n` in the exponent field. -/
def pw (n : BitVec 32) : EReal := Ideal.ofBits .f32 (n <<< (23 : ℕ))

theorem pw_zero : pw 0#32 = 0 := by
  simp [pw, Ideal.ofBits, Ideal.ieee]

theorem ex_of (n : ℕ) (h : n < 256) :
    (((BitVec.ofNat 32 n) <<< (23 : ℕ)).extractLsb' 23 8).toNat = n := by
  have : ∀ n : Fin 256, (((BitVec.ofNat 32 n.val) <<< (23 : ℕ)).extractLsb' 23 8).toNat = n.val := by decide +kernel
  exact this ⟨n, h⟩

theorem fr_of (n : ℕ) (h : n < 256) :
    (((BitVec.ofNat 32 n) <<< (23 : ℕ)).extractLsb' 0 23).toNat = 0 := by
  have : ∀ n : Fin 256, (((BitVec.ofNat 32 n.val) <<< (23 : ℕ)).extractLsb' 0 23).toNat = 0 := by decide +kernel
  exact this ⟨n, h⟩

theorem sg_of (n : ℕ) (h : n < 256) :
    (((BitVec.ofNat 32 n) <<< (23 : ℕ)).extractLsb' (8 + 23) 1 == 1#1) = false := by
  have : ∀ n : Fin 256, (((BitVec.ofNat 32 n.val) <<< (23 : ℕ)).extractLsb' (8 + 23) 1 == 1#1) = false := by decide +kernel
  exact this ⟨n, h⟩

/-- A normal exponent field `n` gives `2 ^ (n - 127)`. -/
theorem pw_normal (n : ℕ) (h0 : 1 ≤ n) (h : n ≤ 254) :
    pw (BitVec.ofNat 32 n) = (((2 : ℝ) ^ ((n : ℤ) - 127) : ℝ) : EReal) := by
  unfold pw Ideal.ofBits Ideal.ieee
  simp only [ex_of n (by omega), fr_of n (by omega), sg_of n (by omega)]
  rw [if_neg (by omega), if_neg (by omega)]
  congr 1
  have e : ((n : ℤ) - 127) = 23 + ((n : ℤ) - (2 ^ (8 - 1) - 1) - ((23 : ℕ) : ℤ)) := by push_cast; norm_num
  rw [e, zpow_add₀ (by norm_num)]
  norm_num

/-- The all-ones exponent field is infinity. -/
theorem pw_top : pw (BitVec.ofNat 32 255) = ⊤ := by
  unfold pw Ideal.ofBits Ideal.ieee
  simp only [ex_of 255 (by omega), fr_of 255 (by omega), sg_of 255 (by omega)]
  norm_num

/-- One step of the search: keep the bit if the float of the word with it is at most `m`. -/
def step (m : EReal) (bit e : BitVec 32) : BitVec 32 :=
  Scalar.select (Ideal.cmp .oge m (pw (e + bit))) (e + bit) e

/-- The same on natural numbers. -/
def stepN (Q : ℕ → Prop) [DecidablePred Q] (bit e : ℕ) : ℕ := if Q (e + bit) then e + bit else e

theorem step_eq (m : EReal) (bit e : ℕ) :
    step m (BitVec.ofNat 32 bit) (BitVec.ofNat 32 e) =
      BitVec.ofNat 32 (stepN (fun n => pw (BitVec.ofNat 32 n) ≤ m) bit e) := by
  classical
  unfold step stepN
  rw [← BitVec.ofNat_add]
  by_cases h : pw (BitVec.ofNat 32 (e + bit)) ≤ m <;>
    simp [h, Scalar.select, Ideal.cmp]

/-- The search for the exponent field. -/
def bis (m : EReal) : BitVec 32 :=
  step m 1#32 (step m 2#32 (step m 4#32 (step m 8#32 (step m 16#32 (step m 32#32 (step m 64#32 (step m 128#32 0#32)))))))

theorem stepN_spec (Q : ℕ → Prop) [DecidablePred Q] (anti : ∀ a b, a ≤ b → b ≤ 255 → Q b → Q a) (bit e : ℕ)
    (hq : Q e) (hn : ∀ n, e + 2 * bit ≤ n → n ≤ 255 → ¬ Q n) (hb : e + bit ≤ 255) :
    Q (stepN Q bit e) ∧ (∀ n, stepN Q bit e + bit ≤ n → n ≤ 255 → ¬ Q n) ∧
      (stepN Q bit e = e ∨ stepN Q bit e = e + bit) := by
  unfold stepN
  split
  · rename_i h
    exact ⟨h, fun n h1 h2 => hn n (by omega) h2, .inr rfl⟩
  · rename_i h
    exact ⟨hq, fun n h1 h2 hqn => h (anti _ _ h1 h2 hqn), .inl rfl⟩

theorem pw_mono (a b : ℕ) (hab : a ≤ b) (hb : b ≤ 255) : pw (BitVec.ofNat 32 a) ≤ pw (BitVec.ofNat 32 b) := by
  rcases Nat.eq_zero_or_pos a with rfl | ha
  · rw [show BitVec.ofNat 32 0 = 0#32 from rfl, pw_zero]
    rcases Nat.eq_zero_or_pos b with rfl | hb0
    · rw [show BitVec.ofNat 32 0 = 0#32 from rfl, pw_zero]
    · rcases Nat.lt_or_ge b 255 with h | h
      · rw [pw_normal b hb0 (by omega)]
        exact EReal.coe_nonneg.mpr (zpow_nonneg (by norm_num) _)
      · obtain rfl : b = 255 := by omega
        rw [pw_top]; exact le_top
  · rcases Nat.lt_or_ge b 255 with h | h
    · rw [pw_normal a ha (by omega), pw_normal b (by omega) (by omega)]
      exact EReal.coe_le_coe_iff.mpr (zpow_le_zpow_right₀ (by norm_num) (by omega))
    · obtain rfl : b = 255 := by omega
      rw [pw_top]; exact le_top

/-- The search finds the largest exponent field whose float is at most `m`. -/
theorem bis_spec (m : EReal) (hm : 0 ≤ m) :
    ∃ e : ℕ, e ≤ 255 ∧ bis m = BitVec.ofNat 32 e ∧ pw (BitVec.ofNat 32 e) ≤ m ∧
      ∀ n, e + 1 ≤ n → n ≤ 255 → m < pw (BitVec.ofNat 32 n) := by
  classical
  let Q : ℕ → Prop := fun n => pw (BitVec.ofNat 32 n) ≤ m
  have anti : ∀ a b, a ≤ b → b ≤ 255 → Q b → Q a := fun a b h1 h2 h3 => (pw_mono a b h1 h2).trans h3
  have q0 : Q 0 := by show pw 0#32 ≤ m; rw [pw_zero]; exact hm
  obtain ⟨a1, b1, c1⟩ := stepN_spec Q anti 128 0 q0 (fun n h1 h2 => by omega) (by omega)
  obtain ⟨a2, b2, c2⟩ := stepN_spec Q anti 64 _ a1 b1 (by omega)
  obtain ⟨a3, b3, c3⟩ := stepN_spec Q anti 32 _ a2 b2 (by omega)
  obtain ⟨a4, b4, c4⟩ := stepN_spec Q anti 16 _ a3 b3 (by omega)
  obtain ⟨a5, b5, c5⟩ := stepN_spec Q anti 8 _ a4 b4 (by omega)
  obtain ⟨a6, b6, c6⟩ := stepN_spec Q anti 4 _ a5 b5 (by omega)
  obtain ⟨a7, b7, c7⟩ := stepN_spec Q anti 2 _ a6 b6 (by omega)
  obtain ⟨a8, b8, c8⟩ := stepN_spec Q anti 1 _ a7 b7 (by omega)
  refine ⟨_, by omega, ?_, a8, fun n h1 h2 => lt_of_not_ge (b8 n h1 h2)⟩
  unfold bis
  rw [show (0#32) = BitVec.ofNat 32 0 from rfl]
  simp only [step_eq]
  rfl

/-- The factor 1/448, rounded to a float. -/
def kq : EReal := Ideal.ofBits .f32 0x3B124925#32

theorem kq_pos : ∃ r : ℝ, 0 < r ∧ kq = (r : EReal) := by
  refine ⟨_, ?_, by unfold kq Ideal.ofBits Ideal.ieee; rfl⟩
  simp

/-- The exponent of the scale as the reference has it: 0 at zero, else the clipped floor of the logarithm, plus 1. -/
def qexp (a : EReal) : EReal :=
  Scalar.select (Ideal.cmp .oeq a 0) 0
    (min (Ideal.ofBits .f32 0x42FC0000#32) (max (Ideal.ofBits .f32 0xC2FC0000#32)
      (Ideal.liftRound Int.floor (Ideal.div (Ideal.log (a * kq)) (Ideal.log (Ideal.ofBits .f32 0x40000000#32))) + 1)))

/-- The exponent field as the kernel has it. -/
def biased (a : EReal) : BitVec 32 :=
  Scalar.select (Ideal.cmp .oeq a 0) 127#32 (IntOp.minsi (bis (a * kq)) 252#32 + 1#32)

theorem c126 : Ideal.ofBits .f32 0x42FC0000#32 = ((126 : ℝ) : EReal) := by
  simp [Ideal.ofBits, Ideal.ieee]; rw [← EReal.coe_mul]; norm_num

theorem cm126 : Ideal.ofBits .f32 0xC2FC0000#32 = ((-126 : ℝ) : EReal) := by
  simp [Ideal.ofBits, Ideal.ieee]; rw [← EReal.coe_mul]; norm_num

theorem c2 : Ideal.ofBits .f32 0x40000000#32 = ((2 : ℝ) : EReal) := by
  simp [Ideal.ofBits, Ideal.ieee]; rw [← EReal.coe_mul]; norm_num

/-- The reference's exponent of a positive real `m`. -/
theorem floor_log (m : ℝ) (hm : 0 < m) :
    Ideal.liftRound Int.floor (Ideal.div (Ideal.log (m : EReal)) (Ideal.log (Ideal.ofBits .f32 0x40000000#32)))
      = ((⌊Real.log m / Real.log 2⌋ : ℝ) : EReal) := by
  have h2 : Real.log 2 ≠ 0 := (Real.log_pos (by norm_num)).ne'
  rw [c2]
  have e1 : Ideal.log (m : EReal) = (Real.log m : EReal) := if_neg (not_le.mpr hm)
  have e2 : Ideal.log ((2 : ℝ) : EReal) = (Real.log 2 : EReal) := if_neg (by norm_num)
  rw [e1, e2, Ideal.div_coe h2, ← EReal.coe_mul, mul_one_div]
  rfl

theorem le_log {m : ℝ} (hm : 0 < m) (k : ℤ) (h : (2 : ℝ) ^ k ≤ m) : k ≤ ⌊Real.log m / Real.log 2⌋ := by
  have h2 : 0 < Real.log 2 := Real.log_pos (by norm_num)
  rw [Int.le_floor, le_div_iff₀ h2, ← Real.log_zpow]
  exact Real.log_le_log (by positivity) h

theorem log_lt {m : ℝ} (hm : 0 < m) (k : ℤ) (h : m < (2 : ℝ) ^ k) : ⌊Real.log m / Real.log 2⌋ < k := by
  have h2 : 0 < Real.log 2 := Real.log_pos (by norm_num)
  rw [Int.floor_lt, div_lt_iff₀ h2, ← Real.log_zpow]
  exact Real.log_lt_log hm h

theorem min252 (e : ℕ) (he : e ≤ 255) :
    IntOp.minsi (BitVec.ofNat 32 e) 252#32 + 1#32 = BitVec.ofNat 32 (min e 252 + 1) := by
  have : ∀ e : Fin 256, IntOp.minsi (BitVec.ofNat 32 e.val) 252#32 + 1#32 = BitVec.ofNat 32 (min e.val 252 + 1) := by
    decide +kernel
  exact this ⟨e, by omega⟩

/-- The two computations of the exponent agree: the field is the exponent plus 127, between 1 and 253. -/
theorem exponent (a : EReal) (ha : 0 ≤ a) : ∃ n : ℕ, 1 ≤ n ∧ n ≤ 253 ∧ biased a = BitVec.ofNat 32 n ∧
    qexp a = ((((n : ℤ) - 127 : ℤ) : ℝ) : EReal) := by
  by_cases h0 : a = 0
  · refine ⟨127, by omega, by omega, ?_, ?_⟩
    · unfold biased; simp [h0, Ideal.cmp, Scalar.select]
    · unfold qexp; simp [h0, Ideal.cmp, Scalar.select]
  have hb : biased a = IntOp.minsi (bis (a * kq)) 252#32 + 1#32 := by
    unfold biased; simp [h0, Ideal.cmp, Scalar.select]
  have hq : qexp a = min (Ideal.ofBits .f32 0x42FC0000#32) (max (Ideal.ofBits .f32 0xC2FC0000#32)
      (Ideal.liftRound Int.floor (Ideal.div (Ideal.log (a * kq)) (Ideal.log (Ideal.ofBits .f32 0x40000000#32))) + 1)) := by
    unfold qexp; simp [h0, Ideal.cmp, Scalar.select]
  have hpos : 0 < a := lt_of_le_of_ne ha (Ne.symm h0)
  obtain ⟨r, hr, hk⟩ := kq_pos
  have hm : 0 ≤ a * kq := by rw [hk]; exact mul_nonneg ha (EReal.coe_nonneg.mpr hr.le)
  obtain ⟨e, he, hbis, hle, hlt⟩ := bis_spec (a * kq) hm
  rw [hbis, min252 e he] at hb
  refine ⟨min e 252 + 1, by omega, by omega, hb, ?_⟩
  rw [hq, c126, cm126]
  induction a using EReal.rec with
  | bot => exact absurd ha (by simp)
  | top =>
    have ht : (⊤ : EReal) * kq = ⊤ := by rw [hk]; exact EReal.top_mul_coe_of_pos hr
    rw [ht] at hlt ⊢
    have : e = 255 := by
      by_contra hne
      exact absurd (hlt 255 (by omega) le_rfl) (by simp)
    subst this
    have e2 : Ideal.log (Ideal.ofBits .f32 0x40000000#32) = (Real.log 2 : EReal) := by rw [c2]; exact if_neg (by norm_num)
    have h2 : 0 < Real.log 2 := Real.log_pos (by norm_num)
    have e3 : Ideal.liftRound Int.floor (Ideal.div (Ideal.log ⊤) (Ideal.log (Ideal.ofBits .f32 0x40000000#32))) = ⊤ := by
      rw [e2, Ideal.div_coe h2.ne']
      have : Ideal.log ⊤ * ((1 / Real.log 2 : ℝ) : EReal) = ⊤ := EReal.top_mul_coe_of_pos (by positivity)
      rw [this]; rfl
    rw [e3, EReal.top_add_of_ne_bot (x := (1 : EReal)) (EReal.coe_ne_bot 1), max_eq_right le_top, min_eq_left le_top]
    norm_num
  | coe x =>
    have hx : 0 < x := EReal.coe_pos.mp hpos
    rw [hk, ← EReal.coe_mul] at hle hlt ⊢
    have hmr : 0 < x * r := mul_pos hx hr
    rw [floor_log _ hmr]
    have hlt255 : e ≤ 254 := by
      by_contra hne
      obtain rfl : e = 255 := by omega
      rw [pw_top] at hle
      exact absurd (top_le_iff.mp hle) (EReal.coe_ne_top _)
    have upper : e ≤ 253 → ⌊Real.log (x * r) / Real.log 2⌋ < (e : ℤ) + 1 - 127 := by
      intro h
      have := hlt (e + 1) le_rfl (by omega)
      rw [pw_normal (e + 1) (by omega) (by omega), EReal.coe_lt_coe_iff] at this
      exact_mod_cast log_lt hmr _ this
    have lower : 1 ≤ e → (e : ℤ) - 127 ≤ ⌊Real.log (x * r) / Real.log 2⌋ := by
      intro h
      rw [pw_normal e h (by omega), EReal.coe_le_coe_iff] at hle
      exact le_log hmr _ hle
    generalize ⌊Real.log (x * r) / Real.log 2⌋ = L at upper lower
    rw [← EReal.coe_one, ← EReal.coe_add, ← EReal.coe_strictMono.monotone.map_max, ← EReal.coe_strictMono.monotone.map_min]
    congr 1
    have : min 126 (max (-126) (L + 1)) = ((min e 252 + 1 : ℕ) : ℤ) - 127 := by
      rcases Nat.eq_zero_or_pos e with h | h
      · have := upper (by omega); omega
      · have := lower h
        by_cases h3 : e ≤ 253
        · have := upper h3; omega
        · omega
    rw [← this]
    push_cast
    rfl

/-- The kernel's scale is the power of two with the reference's exponent. -/
theorem scale_eq (a : EReal) (ha : 0 ≤ a) : pw (biased a) = Ideal.exp2 (qexp a) := by
  obtain ⟨n, h1, h2, hb, hq⟩ := exponent a ha
  rw [hb, hq, pw_normal n h1 (by omega)]
  show _ = ((Real.rpow 2 _ : ℝ) : EReal)
  congr 1
  exact (Real.rpow_intCast 2 _).symm

theorem sub254 (n : ℕ) (h : n ≤ 253) : 254#32 - BitVec.ofNat 32 n = BitVec.ofNat 32 (254 - n) := by
  have : ∀ n : Fin 254, 254#32 - BitVec.ofNat 32 n.val = BitVec.ofNat 32 (254 - n.val) := by decide +kernel
  exact this ⟨n, by omega⟩

/-- The kernel's inverse scale is the power of two with the opposite exponent. -/
theorem inv_eq (a : EReal) (ha : 0 ≤ a) : pw (254#32 - biased a) = Ideal.exp2 (0 - qexp a) := by
  obtain ⟨n, h1, h2, hb, hq⟩ := exponent a ha
  rw [hb, hq, sub254 n h2, pw_normal (254 - n) (by omega) (by omega), zero_sub, ← EReal.coe_neg]
  show _ = ((Real.rpow 2 _ : ℝ) : EReal)
  congr 1
  rw [← Int.cast_neg]
  refine Eq.trans ?_ (Real.rpow_intCast 2 _).symm
  congr 1
  omega

/-- The inverse scale is a positive real. -/
theorem inv_pos (a : EReal) (ha : 0 ≤ a) : 0 ≤ Ideal.exp2 (0 - qexp a) := by
  rw [← inv_eq a ha]
  obtain ⟨n, h1, h2, hb, hq⟩ := exponent a ha
  rw [hb, sub254 n h2, pw_normal (254 - n) (by omega) (by omega)]
  exact EReal.coe_nonneg.mpr (zpow_nonneg (by norm_num) _)

/-- The exponent with its constants spelt as floats. -/
theorem qexp_raw (a : EReal) : qexp a = Scalar.select (Ideal.cmp .oeq a (Ideal.ofBits .f32 0x00000000#32)) (Ideal.ofBits .f32 0x00000000#32)
    (min (Ideal.ofBits .f32 0x42FC0000#32) (max (Ideal.ofBits .f32 0xC2FC0000#32)
      (Ideal.liftRound Int.floor (Ideal.div (Ideal.log (a * Ideal.ofBits .f32 0x3B124925#32)) (Ideal.log (Ideal.ofBits .f32 0x40000000#32)))
        + Ideal.ofBits .f32 0x3F800000#32))) := by
  rw [Ideal.ofBits_zero_f32, Ideal.ofBits_one_f32]; rfl

/-! ## A row's quantities -/

/-- The largest absolute value of a row. -/
def amax {n : ℕ} (v : Fin n → EReal) : EReal :=
  (Finset.univ : Finset (Fin n)).fold max (Ideal.ofBits .f32 0xFF800000#32) fun k => max (v k) (-(v k))

/-- Clipping to the range of the 8-bit format. -/
def clampQ (v : EReal) : EReal := min (Ideal.ofBits .f32 0x43E00000#32) (max (Ideal.ofBits .f32 0xC3E00000#32) v)

/-- A row's quantised entries. -/
def code {n : ℕ} (v : Fin n → EReal) (k : Fin n) : EReal := clampQ (v k * Ideal.exp2 (0 - qexp (amax v)))

/-- A row's scale. -/
def scale {n : ℕ} (v : Fin n → EReal) : EReal := Ideal.exp2 (qexp (amax v))

/-- The smallest norm divided by. -/
def epsn : EReal := Ideal.ofBits .f32 0x2B8CBCCC#32

/-- A row divided by its norm. -/
def nrm {n : ℕ} (y : Fin n → EReal) (k : Fin n) : EReal := Ideal.div (y k) (max (Ideal.sqrt (∑ j, y j * y j)) epsn)

/-- One entry of the projected row: the codes' product with a column, scaled back, plus the bias. -/
def lin {n : ℕ} (x : Fin n → EReal) (w : Fin n → EReal) (s b : EReal) : EReal := (∑ d, code x d * w d) * scale x * s + b

end Cert.Spec

end
-- ==== Proof.Reads.lean ====
/- Maxima along the last axis, read at an index, at any extent. -/
module

public import Idealize.ShloMosaic.Lib.Pointwise

@[expose] public section

noncomputable section

namespace Cert.Reads

open Idealize.ShloMosaic

/-- A maximum along the last of three axes is the fold over that axis. -/
theorem max_last3 {a b c : ℕ} {φ : FTy} (src : FVec Ideal (⟨3, ![a, b, c]⟩ : Shape) φ) (acc : BitVec φ.bits)
    (h : (⟨3, ![a, b, c]⟩ : Shape).Reduces [2] (⟨2, ![a, b]⟩ : Shape)) (hφ : FKind.Formats φ) (hacc : acc = FKind.neutral .maximumf φ hφ)
    (i : Fin a) (j : Fin b) :
    multiReduction .maximumf [2] (⟨2, ![a, b]⟩ : Shape) src acc h hφ hacc (ix2 i j) =
      (Finset.univ : Finset (Fin c)).fold max (Ideal.ofBits φ acc) (fun k => src (ix3 i j k)) := by
  rw [multiReduction_maximumf_eq_fold, Shape.Reduces.fold_fiber_r3_a2]
  rfl

/-- A maximum along the last of two axes is the fold over that axis. -/
theorem max_last2 {a c : ℕ} {φ : FTy} (src : FVec Ideal (⟨2, ![a, c]⟩ : Shape) φ) (acc : BitVec φ.bits)
    (h : (⟨2, ![a, c]⟩ : Shape).Reduces [1] (⟨1, ![a]⟩ : Shape)) (hφ : FKind.Formats φ) (hacc : acc = FKind.neutral .maximumf φ hφ)
    (i : Fin a) :
    multiReduction .maximumf [1] (⟨1, ![a]⟩ : Shape) src acc h hφ hacc (ix1 i) =
      (Finset.univ : Finset (Fin c)).fold max (Ideal.ofBits φ acc) (fun k => src (ix2 i k)) := by
  rw [multiReduction_maximumf_eq_fold, Shape.Reduces.fold_fiber_r2_a1]
  rfl

end Cert.Reads

end
-- ==== Proof.Lanes.lean ====
/- Rows reduced in two steps: first over the 128-wide slices, lane by lane, then over the lanes. -/
module

public import proofs.«01_k».proof.Proof.Spec
public import proofs.«01_k».proof.Proof.Reads

@[expose] public section

set_option maxRecDepth 16384

noncomputable section

namespace Cert.Lanes

open Idealize.ShloMosaic Cert.Spec

/-- A slice of 128 lanes at an index. -/
theorem slice_apply {α : Type} {n N o : ℕ} (x : (⟨2, ![n, N]⟩ : Shape).Idx → α) (h : (⟨2, ![n, N]⟩ : Shape).Slices ![0, o] (⟨2, ![n, 128]⟩ : Shape)) (r : Fin n) (j : Fin 128) (hb : o + j.val < N) :
    extractStridedSlice (⟨2, ![n, 128]⟩ : Shape) ![0, o] x h (ix2 r j) = x (ix2 r ⟨o + j.val, hb⟩) := by
  unfold extractStridedSlice
  refine congrArg x (funext fun a => Fin.ext ?_)
  fin_cases a
  · exact Nat.zero_add _
  · rfl

/-- The largest of 32 values, as a chain. -/
def mx32 (v : Fin 32 → EReal) : EReal :=
  max (max (max (max (max (max (max (max (max (max (max (max (max (max (max (max (max (max (max (max (max (max (max (max (max (max (max (max (max (max (max (v 0) (v 1)) (v 2)) (v 3)) (v 4)) (v 5)) (v 6)) (v 7)) (v 8)) (v 9)) (v 10)) (v 11)) (v 12)) (v 13)) (v 14)) (v 15)) (v 16)) (v 17)) (v 18)) (v 19)) (v 20)) (v 21)) (v 22)) (v 23)) (v 24)) (v 25)) (v 26)) (v 27)) (v 28)) (v 29)) (v 30)) (v 31)

theorem mx32_eq (v : Fin 32 → EReal) : mx32 v = Finset.univ.sup v := by
  apply le_antisymm
  · unfold mx32
    repeat' apply max_le
    all_goals exact Finset.le_sup (f := v) (Finset.mem_univ _)
  · refine Finset.sup_le fun q _ => ?_
    unfold mx32
    fin_cases q <;> simp only [le_max_iff, Fin.reduceFinMk, Fin.zero_eta, Fin.mk_one, le_refl, true_or, or_true]

/-- The maximum over the lanes of the maxima over the slices is the maximum over the row. -/
theorem fold_lanes {Q J N : ℕ} (e : Fin Q → Fin J → Fin N) (he : ∀ k, ∃ q j, e q j = k) (b : EReal) (g : Fin N → EReal) (F : Fin J → EReal)
    (hF : ∀ j, F j = Finset.univ.sup fun q => g (e q j)) :
    (Finset.univ : Finset (Fin J)).fold max b F = (Finset.univ : Finset (Fin N)).fold max b g := by
  apply le_antisymm
  · rw [Finset.fold_max_le]
    refine ⟨Finset.le_fold_max _ |>.2 (.inl le_rfl), fun j _ => ?_⟩
    rw [hF]
    exact Finset.sup_le fun q _ => Finset.le_fold_max _ |>.2 (.inr ⟨e q j, Finset.mem_univ _, le_rfl⟩)
  · rw [Finset.fold_max_le]
    refine ⟨Finset.le_fold_max _ |>.2 (.inl le_rfl), fun k _ => ?_⟩
    obtain ⟨q, j, rfl⟩ := he k
    refine Finset.le_fold_max _ |>.2 (.inr ⟨j, Finset.mem_univ _, ?_⟩)
    rw [hF]
    exact Finset.le_sup (f := fun q => g (e q j)) (Finset.mem_univ q)

/-- One step of the bisection over vectors, at an index. -/
theorem stepV {S : Shape} (M : FVec Ideal S .f32) (E : IVec S 32) (bit : BitVec 32) (i : S.Idx) :
    select (cmpf .oge M (bitcastToFloat .f32 (shli (addi E (broadcast S bit)) (broadcast S 23#32)))) (addi E (broadcast S bit)) E i = step (M i) bit (E i) := by
  rfl

theorem pwV {S : Shape} (E : IVec S 32) (i : S.Idx) :
    (bitcastToFloat .f32 (shli E (broadcast S 23#32)) : FVec Ideal S .f32) i = pw (E i) := by
  rfl

end Cert.Lanes

end
-- ==== Proof.Quant.lean ====
/- The quantiser of the kernel: scales by bisection, codes, and how both are stored. -/
module

public import proofs.«01_k».proof.Proof.FrameIdeal
public import proofs.«01_k».proof.Proof.Lanes

@[expose] public section

set_option maxRecDepth 16384
set_option maxHeartbeats 1000000

noncomputable section

namespace Cert.KernelIdeal.Val

open Idealize.ShloMosaic Idealize.ShloMosaic.TcCoe Cert.Spec Cert.Lanes
open Cert.KernelIdeal Cert.KernelIdeal.Gen

theorem absB (v : Ideal .bf16) : FloatOps.absf v = max v (-v) := rfl
theorem absF (v : Ideal .f32) : FloatOps.absf v = max v (-v) := rfl

theorem ofBits_m448 : Ideal.ofBits .bf16 0xC3E0#16 = Ideal.ofBits .f32 0xC3E00000#32 := by
  simp [Ideal.ofBits, Ideal.ieee]; rw [← EReal.coe_mul, ← EReal.coe_mul]; norm_num
theorem ofBits_448 : Ideal.ofBits .bf16 0x43E0#16 = Ideal.ofBits .f32 0x43E00000#32 := by
  simp [Ideal.ofBits, Ideal.ieee]; rw [← EReal.coe_mul, ← EReal.coe_mul]; norm_num

/-- One step of the bisection over vectors. -/
def stepVec {S : Shape} (M : FVec Ideal S .f32) (E : IVec S 32) (bit : BitVec 32) : IVec S 32 :=
  select (cmpf .oge M (bitcastToFloat .f32 (shli (addi E (broadcast S bit)) (broadcast S 23#32)))) (addi E (broadcast S bit)) E

theorem stepVec_apply {S : Shape} (M : FVec Ideal S .f32) (E : IVec S 32) (bit : BitVec 32) (i : S.Idx) : stepVec M E bit i = step (M i) bit (E i) := rfl

/-- The bisection and its clipping over vectors, at an index. -/
theorem biasedV {S : Shape} (A M : FVec Ideal S .f32) (i : S.Idx) (hm : M i = A i * kq) :
    select (cmpf .oeq A (broadcast S (Scalar.ofBits .f32 0x00000000#32 : Ideal .f32))) (broadcast S 127#32) (addi (minsi
      (stepVec M (stepVec M (stepVec M (stepVec M (stepVec M (stepVec M (stepVec M (stepVec M (broadcast S 0#32) 128#32) 64#32) 32#32) 16#32) 8#32) 4#32) 2#32) 1#32)
      (broadcast S 252#32)) (broadcast S 1#32)) i = biased (A i) := by
  have hb : (stepVec M (stepVec M (stepVec M (stepVec M (stepVec M (stepVec M (stepVec M (stepVec M (broadcast S 0#32) 128#32) 64#32) 32#32) 16#32) 8#32) 4#32) 2#32) 1#32) i = bis (M i) := by
    simp only [stepVec_apply]
    rfl
  rw [hm] at hb
  unfold biased
  rw [← hb, ← Ideal.ofBits_zero_f32]
  rfl

/-- The index of lane `j` of slice `q`. -/
def at32 (q : Fin 32) (j : Fin 128) : Fin 4096 := ⟨128 * q.val + j.val, by omega⟩

theorem at32_surj (k : Fin 4096) : ∃ q j, at32 q j = k :=
  ⟨⟨k.val / 128, by omega⟩, ⟨k.val % 128, by omega⟩, Fin.ext (by show 128 * (k.val / 128) + k.val % 128 = k.val; omega)⟩

theorem amax_nonneg {n : ℕ} (v : Fin (n + 1) → EReal) : 0 ≤ amax v := by
  unfold amax
  refine (Finset.le_fold_max _).2 (.inr ⟨0, Finset.mem_univ _, ?_⟩)
  rcases le_total 0 (v 0) with h | h
  · exact le_max_of_le_left h
  · exact le_max_of_le_right (EReal.neg_nonneg.2 h)

/-- The largest absolute value of each of the block's rows. -/
theorem own_amax (x : FVec Ideal S256x4096 .bf16) (r : Fin 256) :
    k0_pay102 (k0_pay99 x) (k0_pay100 x) (k0_pay101 x) (ix2 r 0) = amax fun k : Fin 4096 => x (ix2 r k) := by
  have hM : ∀ j : Fin 128, maximumf (maximumf (maximumf (maximumf (k0_pay100 x) (k0_pay101 x)) (extractStridedSlice S256x128 ![0, 3712] (k0_pay99 x) slices_S256x4096_o0_3712_S256x128)) (extractStridedSlice S256x128 ![0, 3840] (k0_pay99 x) slices_S256x4096_o0_3840_S256x128)) (extractStridedSlice S256x128 ![0, 3968] (k0_pay99 x) slices_S256x4096_o0_3968_S256x128) (ix2 r j) = Finset.univ.sup fun q : Fin 32 => (fun k : Fin 4096 => max (x (ix2 r k)) (-(x (ix2 r k)))) (at32 q j) := by
    intro j
    rw [← mx32_eq]
    unfold mx32 at32
    pointwise [k0_pay99, k0_pay100, k0_pay101]
    simp only [absB]
  unfold k0_pay102
  refine Eq.trans ?_ ((Cert.Reads.max_last2 _ 0xFF800000#32 reduces_S256x128_S256 (.inl rfl) rfl r).trans
    (fold_lanes at32 at32_surj _ (fun k : Fin 4096 => max (x (ix2 r k)) (-(x (ix2 r k)))) _ hM))
  pointwise

/-- The biased exponents of the block's rows' scales. -/
theorem own_biased (y : FVec Ideal S256x4096 .bf16) (u v : FVec Ideal S256x128 .bf16) (i : S256x1.Idx) :
    k0_pay107 (k0_pay102 y u v) (k0_pay103 y u v) (k0_pay104 y u v) (k0_pay105 y u v) (k0_pay106 y u v) i = biased (k0_pay102 y u v i) := by
  have hm : k0_pay103 y u v i = k0_pay102 y u v i * kq := rfl
  unfold k0_pay107 k0_pay106 k0_pay105 k0_pay104
  exact biasedV _ _ i hm

theorem own_scale (y : FVec Ideal S256x4096 .bf16) (u v : FVec Ideal S256x128 .bf16) (i : S256x1.Idx) :
    k0_pay108 (k0_pay102 y u v) (k0_pay103 y u v) (k0_pay104 y u v) (k0_pay105 y u v) (k0_pay106 y u v) i = pw (biased (k0_pay102 y u v i)) := by
  rw [← own_biased]
  exact pwV _ i

theorem own_code (x : FVec Ideal S256x4096 .bf16) (a m : FVec Ideal S256x1 .f32) (e e' : IVec S256x1 32) (q : IVec S256x1 1) (r : Fin 256) (d : Fin 4096) :
    k0_pay110 (k0_pay109 x a m e e' q) (ix2 r d) = clampQ (x (ix2 r d) * pw (254#32 - k0_pay107 a m e e' q (ix2 r 0))) := by
  unfold k0_pay110 k0_pay109 clampQ
  rw [← ofBits_m448, ← ofBits_448]
  generalize k0_pay107 a m e e' q = b
  pointwise
  rfl

/-- The largest absolute value of each of the next block's first rows. -/
theorem halo_amax (x : Vec Ideal S1x16x4096 .bf16) (r : Fin 16) :
    k0_pay114 (k0_pay112 x) (k0_pay113 x) (ix2 r 0) = amax fun k : Fin 4096 => k0_pay111 x (ix2 r k) := by
  have hM : ∀ j : Fin 128, maximumf (maximumf (maximumf (maximumf (maximumf (k0_pay113 x) (extractStridedSlice S16x128 ![0, 3456] (k0_pay112 x) slices_S16x4096_o0_3456_S16x128)) (extractStridedSlice S16x128 ![0, 3584] (k0_pay112 x) slices_S16x4096_o0_3584_S16x128)) (extractStridedSlice S16x128 ![0, 3712] (k0_pay112 x) slices_S16x4096_o0_3712_S16x128)) (extractStridedSlice S16x128 ![0, 3840] (k0_pay112 x) slices_S16x4096_o0_3840_S16x128)) (extractStridedSlice S16x128 ![0, 3968] (k0_pay112 x) slices_S16x4096_o0_3968_S16x128) (ix2 r j) = Finset.univ.sup fun q : Fin 32 => (fun k : Fin 4096 => max (k0_pay111 x (ix2 r k)) (-(k0_pay111 x (ix2 r k)))) (at32 q j) := by
    intro j
    rw [← mx32_eq]
    unfold mx32 at32
    unfold k0_pay113 k0_pay112
    generalize k0_pay111 x = x
    pointwise
    simp only [absB]
  unfold k0_pay114
  refine Eq.trans ?_ ((Cert.Reads.max_last2 _ 0xFF800000#32 reduces_S16x128_S16 (.inl rfl) rfl r).trans
    (fold_lanes at32 at32_surj _ (fun k : Fin 4096 => max (k0_pay111 x (ix2 r k)) (-(k0_pay111 x (ix2 r k)))) _ hM))
  pointwise

theorem halo_biased (y : FVec Ideal S16x4096 .bf16) (u : FVec Ideal S16x128 .bf16) (i : S16x1.Idx) :
    k0_pay119 (k0_pay114 y u) (k0_pay115 y u) (k0_pay116 y u) (k0_pay117 y u) k0_pay118 i = biased (k0_pay114 y u i) := by
  have hm : k0_pay115 y u i = k0_pay114 y u i * kq := rfl
  unfold k0_pay119 k0_pay118 k0_pay117 k0_pay116
  exact biasedV _ _ i hm

theorem halo_scale (y : FVec Ideal S16x4096 .bf16) (u : FVec Ideal S16x128 .bf16) (i : S16x1.Idx) :
    k0_pay120 (k0_pay114 y u) (k0_pay115 y u) (k0_pay116 y u) (k0_pay117 y u) k0_pay118 i = pw (biased (k0_pay114 y u i)) := by
  rw [← halo_biased]
  exact pwV _ i

theorem halo_code (x : FVec Ideal S16x4096 .bf16) (a m : FVec Ideal S16x1 .f32) (e e' : IVec S16x1 32) (q : IVec S16x1 32) (r : Fin 16) (d : Fin 4096) :
    truncf .fp8e4m3 (minimumf (broadcast S16x4096 (Scalar.ofBits .bf16 0x43E0#16 : Ideal .bf16)) (maximumf k0_pay122 (k0_pay121 x a m e e' q))) bitsLt_fp8e4m3_bf16 (ix2 r d) = clampQ (x (ix2 r d) * pw (254#32 - k0_pay119 a m e e' q (ix2 r 0))) := by
  unfold k0_pay121 k0_pay122 clampQ
  rw [← ofBits_m448, ← ofBits_448]
  generalize k0_pay119 a m e e' q = b
  pointwise
  rfl

/-- The stored codes: the block's rows from the second on, then the next block's first row. -/
theorem pay123_apply (q : FVec Ideal S256x4096 .fp8e4m3) (h : FVec Ideal S16x4096 .bf16) (c : Ideal .bf16) (l : FVec Ideal S16x4096 .bf16) (r : Fin 256) (d : Fin 4096) :
    k0_pay123 q h c l (ix3 0 r d) = if hr : r.val < 255 then q (ix2 ⟨r.val + 1, by omega⟩ d) else
      truncf .fp8e4m3 (minimumf (broadcast S16x4096 c) (maximumf l h)) bitsLt_fp8e4m3_bf16 (ix2 0 d) := by
  unfold k0_pay123
  generalize truncf .fp8e4m3 (minimumf (broadcast S16x4096 c) (maximumf l h)) bitsLt_fp8e4m3_bf16 = g
  pointwise
  split
  · simp only [Nat.add_comm]
  · rename_i hr
    exact congrArg (fun z => g (ix2 z d)) (Fin.ext (by show r.val - 255 = 0; omega))

theorem pay124_apply (s : FVec Ideal S256x1 .f32) (h : FVec Ideal S16x1 .f32) (r : Fin 256) :
    k0_pay124 s h (ix2 r 0) = if hr : r.val < 255 then s (ix2 ⟨r.val + 1, by omega⟩ 0) else h (ix2 0 0) := by
  pointwise [k0_pay124]
  by_cases hr : r.val < 255
  · have hne : ¬ BitVec.ofNat 32 r.val = 255#32 := fun h => by
      have := congrArg BitVec.toNat h
      simp only [BitVec.toNat_ofNat] at this
      omega
    rw [dif_pos hr]
    have hb : (BitVec.ofNat 32 r.val == 255#32) = false := beq_eq_false_iff_ne.2 hne
    simp only [IntOp.cmpi, Scalar.select, hb]
    refine congrArg (fun z : Fin 256 => s (ix2 z 0)) (Fin.ext ?_)
    show (r.val + 256 - 255) % 256 = r.val + 1
    omega
  · have h255 : r.val = 255 := by omega
    simp [hr, h255, IntOp.cmpi, Scalar.select]

theorem pay125_apply (s : FVec Ideal S256x1 .f32) (h : FVec Ideal S16x1 .f32) (r : Fin 256) :
    k0_pay125 s h (ix2 0 r) = k0_pay124 s h (ix2 r 0) := by
  unfold k0_pay125
  generalize k0_pay124 s h = g
  pointwise
  have hot : ∀ (a : ℕ) (f : Fin 128 → EReal) (ha : a < 128), (∑ x : Fin 128, Scalar.select (IntOp.cmpi CmpIPredicate.eq (BitVec.ofNat 32 x.val) (BitVec.ofNat 32 a)) (f x) 0) = f ⟨a, ha⟩ := by
    intro a f ha
    rw [Finset.sum_eq_single ⟨a, ha⟩]
    · simp [IntOp.cmpi, Scalar.select]
    · intro x _ hx
      have hne : ¬ BitVec.ofNat 32 x.val = BitVec.ofNat 32 a := fun h => hx (Fin.ext (by
        have := congrArg BitVec.toNat h
        simp only [BitVec.toNat_ofNat] at this
        show x.val = a
        omega))
      have hb : (BitVec.ofNat 32 x.val == BitVec.ofNat 32 a) = false := beq_eq_false_iff_ne.2 hne
      simp only [IntOp.cmpi, Scalar.select, hb]
      rfl
    · simp
  split
  · rename_i hr
    exact hot r.val (fun x => g (ix2 ⟨x.val, by omega⟩ 0)) hr
  · rename_i hr
    refine (hot (r.val - 128) (fun x => g (ix2 ⟨128 + x.val, by omega⟩ 0)) (by omega)).trans ?_
    exact congrArg (fun z => g (ix2 z 0)) (Fin.ext (by show 128 + (r.val - 128) = r.val; omega))

end Cert.KernelIdeal.Val

end
-- ==== Proof.BodyQ.lean ====
/- The scales and codes of one block of rows, as the body stores them. -/
module

public import proofs.«01_k».proof.Proof.Quant

@[expose] public section

set_option maxRecDepth 16384
set_option maxHeartbeats 1000000

noncomputable section

namespace Cert.KernelIdeal.Val

open Idealize.ShloMosaic Idealize.ShloMosaic.TcCoe Cert.Spec Cert.Lanes
open Cert.KernelIdeal Cert.KernelIdeal.Gen Cert.KernelIdeal.Hand

variable (c : Dev nD) (arg3 : Memref sig .tc .vmem S1x256x4096 .bf16) (arg4 : Memref sig .tc .vmem S1x16x4096 .bf16) (f3 : arg3.view.ty.Contents (Elt Ideal)) (f4 : arg4.view.ty.Contents (Elt Ideal))

/-- The row that a block's place `r` is about: the block's rows from the second on, then the next block's first. -/
def xrow (x3 : Vec Ideal S1x256x4096 .bf16) (x4 : Vec Ideal S1x16x4096 .bf16) (r : Fin 256) (k : Fin 4096) : EReal :=
  if hr : r.val < 255 then x3 (ix3 0 ⟨r.val + 1, by omega⟩ k) else x4 (ix3 0 0 k)

theorem pay62_apply (x : Vec Ideal S1x256x4096 .bf16) (r : Fin 256) (k : Fin 4096) : k0_pay62 x (ix2 r k) = x (ix3 0 r k) := by
  pointwise [k0_pay62]

theorem pay111_apply (x : Vec Ideal S1x16x4096 .bf16) (r : Fin 16) (k : Fin 4096) : k0_pay111 x (ix2 r k) = x (ix3 0 r k) := by
  pointwise [k0_pay111]

theorem read3 (v : arg3.view.ty.Contents (Elt Ideal)) :
    View.readAt (Elt Ideal) arg3.view (Rect.unit ![0, 0, 0] S1x256x4096.size inb_S1x256x4096_S1x256x4096_0_0_0).toLoadRect v = arg3.view.read (Elt Ideal) v :=
  View.ld_unit_zero (by funext k; fin_cases k <;> rfl) _ _

theorem read4 (v : arg4.view.ty.Contents (Elt Ideal)) :
    View.readAt (Elt Ideal) arg4.view (Rect.unit ![0, 0, 0] S1x16x4096.size inb_S1x16x4096_S1x16x4096_0_0_0).toLoadRect v = arg4.view.read (Elt Ideal) v :=
  View.ld_unit_zero (by funext k; fin_cases k <;> rfl) _ _

theorem v7_apply (r : Fin 256) (k : Fin 4096) : sound_any.sl.v7 c arg3 f3 (ix2 r k) = arg3.view.read (Elt Ideal) f3 (ix3 0 r k) := by
  unfold sound_any.sl.v7
  rw [read3, pay62_apply]

theorem v709_apply (r : Fin 16) (k : Fin 4096) : sound_any.sl.v709 c arg4 f4 (ix2 r k) = arg4.view.read (Elt Ideal) f4 (ix3 0 r k) := by
  unfold sound_any.sl.v709
  rw [read4, pay111_apply]

theorem v624_apply (r : Fin 256) : sound_any.sl.v624 c arg3 f3 (ix2 r 0) = amax fun k : Fin 4096 => arg3.view.read (Elt Ideal) f3 (ix3 0 r k) := by
  unfold sound_any.sl.v624 sound_any.sl.v558 sound_any.sl.v613 sound_any.sl.v614
  refine (own_amax _ r).trans ?_
  exact congrArg amax (funext fun k => v7_apply c arg3 f3 r k)

theorem v694_apply (r : Fin 256) : sound_any.sl.v694 c arg3 f3 (ix2 r 0) = scale fun k : Fin 4096 => arg3.view.read (Elt Ideal) f3 (ix3 0 r k) := by
  have h : sound_any.sl.v694 c arg3 f3 (ix2 r 0) = pw (biased (sound_any.sl.v624 c arg3 f3 (ix2 r 0))) := own_scale _ _ _ _
  rw [h, v624_apply, scale_eq _ (amax_nonneg _)]
  rfl

theorem v707_apply (r : Fin 256) (d : Fin 4096) : sound_any.sl.v707 c arg3 f3 (ix2 r d) = code (fun k : Fin 4096 => arg3.view.read (Elt Ideal) f3 (ix3 0 r k)) d := by
  have h : sound_any.sl.v707 c arg3 f3 (ix2 r d) = clampQ (sound_any.sl.v7 c arg3 f3 (ix2 r d) * pw (254#32 - k0_pay107 (sound_any.sl.v624 c arg3 f3) (sound_any.sl.v626 c arg3 f3) (sound_any.sl.v655 c arg3 f3) (sound_any.sl.v657 c arg3 f3) (sound_any.sl.v661 c arg3 f3) (ix2 r 0))) := own_code _ _ _ _ _ _ _ _
  have hb : k0_pay107 (sound_any.sl.v624 c arg3 f3) (sound_any.sl.v626 c arg3 f3) (sound_any.sl.v655 c arg3 f3) (sound_any.sl.v657 c arg3 f3) (sound_any.sl.v661 c arg3 f3) (ix2 r 0) = biased (sound_any.sl.v624 c arg3 f3 (ix2 r 0)) := own_biased _ _ _ _
  rw [h, hb, v624_apply, inv_eq _ (amax_nonneg _), v7_apply]
  rfl

theorem v776_apply (r : Fin 16) : sound_any.sl.v776 c arg4 f4 (ix2 r 0) = amax fun k : Fin 4096 => arg4.view.read (Elt Ideal) f4 (ix3 0 r k) := by
  have h : sound_any.sl.v776 c arg4 f4 (ix2 r 0) = amax fun k : Fin 4096 => sound_any.sl.v709 c arg4 f4 (ix2 r k) := halo_amax _ r
  rw [h]
  exact congrArg amax (funext fun k => v709_apply c arg4 f4 r k)

theorem v846_apply (r : Fin 16) : sound_any.sl.v846 c arg4 f4 (ix2 r 0) = scale fun k : Fin 4096 => arg4.view.read (Elt Ideal) f4 (ix3 0 r k) := by
  have h : sound_any.sl.v846 c arg4 f4 (ix2 r 0) = pw (biased (sound_any.sl.v776 c arg4 f4 (ix2 r 0))) := halo_scale _ _ _
  rw [h, v776_apply, scale_eq _ (amax_nonneg _)]
  rfl

theorem halo_code_apply (r : Fin 16) (d : Fin 4096) :
    truncf .fp8e4m3 (minimumf (broadcast S16x4096 (Scalar.ofBits .bf16 0x43E0#16 : Ideal .bf16)) (maximumf k0_pay122 (sound_any.sl.v854 c arg4 f4))) bitsLt_fp8e4m3_bf16 (ix2 r d)
      = code (fun k : Fin 4096 => arg4.view.read (Elt Ideal) f4 (ix3 0 r k)) d := by
  have h := halo_code (sound_any.sl.v709 c arg4 f4) (sound_any.sl.v776 c arg4 f4) (sound_any.sl.v778 c arg4 f4) (sound_any.sl.v807 c arg4 f4) (sound_any.sl.v809 c arg4 f4) k0_pay118 r d
  have hb : k0_pay119 (sound_any.sl.v776 c arg4 f4) (sound_any.sl.v778 c arg4 f4) (sound_any.sl.v807 c arg4 f4) (sound_any.sl.v809 c arg4 f4) k0_pay118 (ix2 r 0) = biased (sound_any.sl.v776 c arg4 f4 (ix2 r 0)) := halo_biased _ _ _
  rw [hb, v776_apply, inv_eq _ (amax_nonneg _), v709_apply] at h
  exact h

/-- The scale of the row at place `r`. -/
theorem v878_apply (r : Fin 256) : k0_pay124 (sound_any.sl.v694 c arg3 f3) (sound_any.sl.v846 c arg4 f4) (ix2 r 0)
    = scale (xrow (arg3.view.read (Elt Ideal) f3) (arg4.view.read (Elt Ideal) f4) r) := by
  rw [pay124_apply]
  by_cases hr : r.val < 255
  · rw [dif_pos hr, v694_apply]
    exact congrArg scale (funext fun k => by unfold xrow; rw [dif_pos hr])
  · rw [dif_neg hr, v846_apply]
    exact congrArg scale (funext fun k => by unfold xrow; rw [dif_neg hr])

/-- The scales as they are stored. -/
theorem v897_apply (r : Fin 256) : sound_any.sl.v897 c arg3 arg4 f3 f4 (ix2 0 r)
    = scale (xrow (arg3.view.read (Elt Ideal) f3) (arg4.view.read (Elt Ideal) f4) r) := by
  unfold sound_any.sl.v897
  rw [pay125_apply, v878_apply]

/-- The codes of the row at place `r`, as they are stored. -/
theorem xcodes_apply (r : Fin 256) (d : Fin 4096) :
    k0_pay123 (sound_any.sl.v707 c arg3 f3) (sound_any.sl.v854 c arg4 f4) sound_any.sl.cst_200 k0_pay122 (ix3 0 r d)
      = code (xrow (arg3.view.read (Elt Ideal) f3) (arg4.view.read (Elt Ideal) f4) r) d := by
  rw [pay123_apply]
  by_cases hr : r.val < 255
  · rw [dif_pos hr, v707_apply]
    exact congrArg (fun v => code v d) (funext fun k => by unfold xrow; rw [dif_pos hr])
  · rw [dif_neg hr]
    refine (halo_code_apply c arg4 f4 0 d).trans ?_
    exact congrArg (fun v => code v d) (funext fun k => by unfold xrow; rw [dif_neg hr])

end Cert.KernelIdeal.Val

end
-- ==== Proof.BodyChunks.lean ====
/- The chunks of the projection at an index. -/
module

public import proofs.«01_k».proof.Proof.Quant

@[expose] public section

set_option maxRecDepth 16384
set_option maxHeartbeats 1000000

noncomputable section

namespace Cert.KernelIdeal.Val

open Idealize.ShloMosaic Idealize.ShloMosaic.TcCoe Cert.Spec Cert.Lanes
open Cert.KernelIdeal Cert.KernelIdeal.Gen Cert.KernelIdeal.Hand

/-- One chunk of the projection at an index. -/
def chunk (s : FVec Ideal S256x1 .f32) (x : Vec Ideal S1x256x4096 .fp8e4m3) (w : Vec Ideal S4096x512 .fp8e4m3) (a b : Vec Ideal S1x512 .f32) (r : Fin 256) (j : Fin 512) : EReal :=
  (∑ d : Fin 4096, x (ix3 0 r d) * w (ix2 d j)) * s (ix2 r 0) * a (ix2 0 j) + b (ix2 0 j)

theorem shapeCast_self_512 (z : FVec Ideal S256x512 .f32) : shapeCast S256x512 z shapeCasts_S256x512_S256x512 = z := by
  funext i
  pointwise

theorem pay6_apply (s : FVec Ideal S256x1 .f32) (x : Vec Ideal S1x256x4096 .fp8e4m3) (w : Vec Ideal S4096x512 .fp8e4m3) (a b : Vec Ideal S1x512 .f32) (r : Fin 256) (j : Fin 512) : k0_pay6 s x w a b (ix2 r j) = chunk s x w a b r j := by
  unfold chunk
  pointwise [k0_pay6]

theorem pay11_eq (s : FVec Ideal S256x1 .f32) (x : Vec Ideal S1x256x4096 .fp8e4m3) (w : Vec Ideal S4096x512 .fp8e4m3) (a b : Vec Ideal S1x512 .f32) : k0_pay11 s (k0_pay10 x) w a b = k0_pay6 s x w a b := rfl

theorem pay16_eq (s : FVec Ideal S256x1 .f32) (x : Vec Ideal S1x256x4096 .fp8e4m3) (w : Vec Ideal S4096x512 .fp8e4m3) (a b : Vec Ideal S1x512 .f32) : k0_pay16 (k0_pay15 s x w a) b = k0_pay6 s x w a b := rfl

theorem pay20_eq (s : FVec Ideal S256x1 .f32) (x : Vec Ideal S1x256x4096 .fp8e4m3) (w : Vec Ideal S4096x512 .fp8e4m3) (a b : Vec Ideal S1x512 .f32) : k0_pay20 s x w a b = k0_pay6 s x w a b := rfl

theorem pay25_eq (s : FVec Ideal S256x1 .f32) (x : Vec Ideal S1x256x4096 .fp8e4m3) (w : Vec Ideal S4096x512 .fp8e4m3) (a b : Vec Ideal S1x512 .f32) : k0_pay25 s x w a b = k0_pay6 s x w a b := rfl

theorem pay31_eq (s : FVec Ideal S256x1 .f32) (x : Vec Ideal S1x256x4096 .fp8e4m3) (w : Vec Ideal S4096x512 .fp8e4m3) (a b : Vec Ideal S1x512 .f32) : k0_pay31 s x w a b = k0_pay6 s x w a b := rfl

theorem pay36_eq (s : FVec Ideal S256x1 .f32) (x : Vec Ideal S1x256x4096 .fp8e4m3) (w : Vec Ideal S4096x512 .fp8e4m3) (a b : Vec Ideal S1x512 .f32) : k0_pay36 s (k0_pay35 x) w a b = k0_pay6 s x w a b := rfl

theorem pay7_eq (s : FVec Ideal S256x1 .f32) (x : Vec Ideal S1x256x4096 .fp8e4m3) (w : Vec Ideal S4096x512 .fp8e4m3) (a b : Vec Ideal S1x512 .f32) : k0_pay7 s x w a b = k0_pay6 s x w a b := by
  refine Eq.trans (b := k0_pay6 s x w a b) ?_ rfl
  unfold k0_pay7
  generalize k0_pay6 s x w a b = z
  exact shapeCast_self_512 z

theorem pay12_eq (s : FVec Ideal S256x1 .f32) (x : Vec Ideal S1x256x4096 .fp8e4m3) (w : Vec Ideal S4096x512 .fp8e4m3) (a b : Vec Ideal S1x512 .f32) : k0_pay12 s (k0_pay10 x) w a b = k0_pay6 s x w a b := by
  refine Eq.trans (b := k0_pay11 s (k0_pay10 x) w a b) ?_ rfl
  unfold k0_pay12
  generalize k0_pay11 s (k0_pay10 x) w a b = z
  exact shapeCast_self_512 z

theorem pay17_eq (s : FVec Ideal S256x1 .f32) (x : Vec Ideal S1x256x4096 .fp8e4m3) (w : Vec Ideal S4096x512 .fp8e4m3) (a b : Vec Ideal S1x512 .f32) : k0_pay17 (k0_pay15 s x w a) b = k0_pay6 s x w a b := by
  refine Eq.trans (b := k0_pay16 (k0_pay15 s x w a) b) ?_ rfl
  unfold k0_pay17
  generalize k0_pay16 (k0_pay15 s x w a) b = z
  exact shapeCast_self_512 z

theorem pay21_eq (s : FVec Ideal S256x1 .f32) (x : Vec Ideal S1x256x4096 .fp8e4m3) (w : Vec Ideal S4096x512 .fp8e4m3) (a b : Vec Ideal S1x512 .f32) : k0_pay21 s x w a b = k0_pay6 s x w a b := by
  refine Eq.trans (b := k0_pay20 s x w a b) ?_ rfl
  unfold k0_pay21
  generalize k0_pay20 s x w a b = z
  exact shapeCast_self_512 z

theorem pay26_eq (s : FVec Ideal S256x1 .f32) (x : Vec Ideal S1x256x4096 .fp8e4m3) (w : Vec Ideal S4096x512 .fp8e4m3) (a b : Vec Ideal S1x512 .f32) : k0_pay26 s x w a b = k0_pay6 s x w a b := by
  refine Eq.trans (b := k0_pay25 s x w a b) ?_ rfl
  unfold k0_pay26
  generalize k0_pay25 s x w a b = z
  exact shapeCast_self_512 z

theorem pay32_eq (s : FVec Ideal S256x1 .f32) (x : Vec Ideal S1x256x4096 .fp8e4m3) (w : Vec Ideal S4096x512 .fp8e4m3) (a b : Vec Ideal S1x512 .f32) : k0_pay32 s x w a b = k0_pay6 s x w a b := by
  refine Eq.trans (b := k0_pay31 s x w a b) ?_ rfl
  unfold k0_pay32
  generalize k0_pay31 s x w a b = z
  exact shapeCast_self_512 z

theorem pay37_eq (s : FVec Ideal S256x1 .f32) (x : Vec Ideal S1x256x4096 .fp8e4m3) (w : Vec Ideal S4096x512 .fp8e4m3) (a b : Vec Ideal S1x512 .f32) : k0_pay37 s (k0_pay35 x) w a b = k0_pay6 s x w a b := by
  refine Eq.trans (b := k0_pay36 s (k0_pay35 x) w a b) ?_ rfl
  unfold k0_pay37
  generalize k0_pay36 s (k0_pay35 x) w a b = z
  exact shapeCast_self_512 z

end Cert.KernelIdeal.Val

end
-- ==== Proof.BodyLanes.lean ====
/- Four slices of a chunk, their squares added and their magnitudes compared. -/
module

public import proofs.«01_k».proof.Proof.Quant

@[expose] public section

set_option maxRecDepth 16384
set_option maxHeartbeats 1000000

noncomputable section

namespace Cert.KernelIdeal.Val

open Idealize.ShloMosaic Idealize.ShloMosaic.TcCoe Cert.Spec Cert.Lanes
open Cert.KernelIdeal Cert.KernelIdeal.Gen Cert.KernelIdeal.Hand

/-- The sum of squares over the four 128-wide slices of a chunk. -/
def sq4 (z : FVec Ideal S256x512 .f32) (r : Fin 256) (l : Fin 128) : EReal :=
  ((z (ix2 r ⟨l.val, by omega⟩) * z (ix2 r ⟨l.val, by omega⟩) + z (ix2 r ⟨128 + l.val, by omega⟩) * z (ix2 r ⟨128 + l.val, by omega⟩))
    + z (ix2 r ⟨256 + l.val, by omega⟩) * z (ix2 r ⟨256 + l.val, by omega⟩)) + z (ix2 r ⟨384 + l.val, by omega⟩) * z (ix2 r ⟨384 + l.val, by omega⟩)

def ab (v : EReal) : EReal := max v (-v)

/-- The largest magnitude over the four 128-wide slices of a chunk. -/
def mx4 (z : FVec Ideal S256x512 .f32) (r : Fin 256) (l : Fin 128) : EReal :=
  max (max (max (ab (z (ix2 r ⟨l.val, by omega⟩))) (ab (z (ix2 r ⟨128 + l.val, by omega⟩)))) (ab (z (ix2 r ⟨256 + l.val, by omega⟩)))) (ab (z (ix2 r ⟨384 + l.val, by omega⟩)))

variable (r : Fin 256) (l : Fin 128)

/-- The four slices of a chunk's squares, added up. -/
theorem sq4V (z : FVec Ideal S256x512 .f32) :
    addf (addf (addf (extractStridedSlice S256x128 ![0, 0] (mulf z z) slices_S256x512_o0_0_S256x128) (extractStridedSlice S256x128 ![0, 128] (mulf z z) slices_S256x512_o0_128_S256x128))
      (extractStridedSlice S256x128 ![0, 256] (mulf z z) slices_S256x512_o0_256_S256x128)) (extractStridedSlice S256x128 ![0, 384] (mulf z z) slices_S256x512_o0_384_S256x128) (ix2 r l) = sq4 z r l := by
  unfold sq4
  pointwise

/-- The four slices of a chunk's magnitudes, their maximum. -/
theorem mx4V (z : FVec Ideal S256x512 .f32) :
    maximumf (maximumf (maximumf (extractStridedSlice S256x128 ![0, 0] (absf z) slices_S256x512_o0_0_S256x128) (extractStridedSlice S256x128 ![0, 128] (absf z) slices_S256x512_o0_128_S256x128))
      (extractStridedSlice S256x128 ![0, 256] (absf z) slices_S256x512_o0_256_S256x128)) (extractStridedSlice S256x128 ![0, 384] (absf z) slices_S256x512_o0_384_S256x128) (ix2 r l) = mx4 z r l := by
  unfold mx4 ab
  pointwise
  simp only [absF]

/-- The largest of a row's slices over the lanes, through a column. -/
theorem colmax (v : FVec Ideal S256x128 .f32) :
    shapeCast S256x1 (multiReduction .maximumf [1] S256 v 0xFF800000#32 reduces_S256x128_S256 (.inl rfl) rfl) shapeCasts_S256_S256x1 (ix2 r 0)
      = (Finset.univ : Finset (Fin 128)).fold max (Ideal.ofBits .f32 0xFF800000#32) fun k => v (ix2 r k) := by
  rw [← Cert.Reads.max_last2 v 0xFF800000#32 reduces_S256x128_S256 (.inl rfl) rfl r]
  generalize multiReduction .maximumf [1] S256 v 0xFF800000#32 reduces_S256x128_S256 (.inl rfl) rfl = g
  pointwise

/-- The norm of a row from its slices' sums. -/
theorem colnorm (v : FVec Ideal S256x128 .f32) :
    maximumf (sqrt (shapeCast S256x1 (multiReduction .add [1] S256 v 0x00000000#32 reduces_S256x128_S256 (.inl rfl) rfl) shapeCasts_S256_S256x1)) (broadcast S256x1 (Scalar.ofBits .f32 0x2B8CBCCC#32 : Ideal .f32)) (ix2 r 0)
      = max (Ideal.sqrt (∑ k : Fin 128, v (ix2 r k))) epsn := by
  unfold epsn
  pointwise

/-- The seven chunks' sums of squares and largest magnitudes, lane by lane. -/
def sqAll (z : Fin 7 → FVec Ideal S256x512 .f32) (r : Fin 256) (l : Fin 128) : EReal :=
  0 + sq4 (z 0) r l + sq4 (z 1) r l + sq4 (z 2) r l + sq4 (z 3) r l + sq4 (z 4) r l + sq4 (z 5) r l + sq4 (z 6) r l
def mxAll (z : Fin 7 → FVec Ideal S256x512 .f32) (r : Fin 256) (l : Fin 128) : EReal :=
  max (max (max (max (max (max (max 0 (mx4 (z 0) r l)) (mx4 (z 1) r l)) (mx4 (z 2) r l)) (mx4 (z 3) r l)) (mx4 (z 4) r l)) (mx4 (z 5) r l)) (mx4 (z 6) r l)

end Cert.KernelIdeal.Val

end
-- ==== Proof.BodyAcc.lean ====
/- The running sums of squares and the running maxima, chunk by chunk. -/
module

public import proofs.«01_k».proof.Proof.BodyLanes

@[expose] public section

set_option maxRecDepth 16384
set_option maxHeartbeats 1000000

noncomputable section

namespace Cert.KernelIdeal.Val

open Idealize.ShloMosaic Idealize.ShloMosaic.TcCoe Cert.Spec Cert.Lanes
open Cert.KernelIdeal Cert.KernelIdeal.Gen Cert.KernelIdeal.Hand

theorem zero32 : (Scalar.ofBits .f32 0x00000000#32 : Ideal .f32) = 0 := by
  show Ideal.ofBits .f32 0x00000000#32 = 0
  simp [Ideal.ofBits, Ideal.ieee]

variable (r : Fin 256) (l : Fin 128) (p : FVec Ideal S256x128 .f32)

theorem pay8_apply (s : FVec Ideal S256x1 .f32) (x : Vec Ideal S1x256x4096 .fp8e4m3) (w : Vec Ideal S4096x512 .fp8e4m3) (a b : Vec Ideal S1x512 .f32) : k0_pay8 s x w a b (ix2 r l) = 0 + sq4 (k0_pay6 s x w a b) r l := by
  unfold k0_pay8
  exact congrArg₂ (· + ·) zero32 (sq4V r l _)
theorem pay9_apply (s : FVec Ideal S256x1 .f32) (x : Vec Ideal S1x256x4096 .fp8e4m3) (w : Vec Ideal S4096x512 .fp8e4m3) (a b : Vec Ideal S1x512 .f32) : k0_pay9 s x w a b (ix2 r l) = max 0 (mx4 (k0_pay6 s x w a b) r l) := by
  unfold k0_pay9
  exact congrArg₂ max zero32 (mx4V r l _)
theorem pay13_apply (s : FVec Ideal S256x1 .f32) (x : FVec Ideal S256x4096 .fp8e4m3) (w : Vec Ideal S4096x512 .fp8e4m3) (a b : Vec Ideal S1x512 .f32) : k0_pay13 s p x w a b (ix2 r l) = p (ix2 r l) + sq4 (k0_pay11 s x w a b) r l := by
  unfold k0_pay13
  exact congrArg (p (ix2 r l) + ·) (sq4V r l _)
theorem pay14_apply (s : FVec Ideal S256x1 .f32) (x : FVec Ideal S256x4096 .fp8e4m3) (w : Vec Ideal S4096x512 .fp8e4m3) (a b : Vec Ideal S1x512 .f32) : k0_pay14 s p x w a b (ix2 r l) = max (p (ix2 r l)) (mx4 (k0_pay11 s x w a b) r l) := by
  unfold k0_pay14
  exact congrArg (max (p (ix2 r l))) (mx4V r l _)
theorem pay18_apply (y : FVec Ideal S256x512 .f32) (b : Vec Ideal S1x512 .f32) : k0_pay18 p y b (ix2 r l) = p (ix2 r l) + sq4 (k0_pay16 y b) r l := by
  unfold k0_pay18
  exact congrArg (p (ix2 r l) + ·) (sq4V r l _)
theorem pay19_apply (y : FVec Ideal S256x512 .f32) (b : Vec Ideal S1x512 .f32) : k0_pay19 p y b (ix2 r l) = max (p (ix2 r l)) (mx4 (k0_pay16 y b) r l) := by
  unfold k0_pay19
  exact congrArg (max (p (ix2 r l))) (mx4V r l _)
theorem pay24_apply (y : FVec Ideal S256x512 .f32) : k0_pay24 p y (ix2 r l) = max (p (ix2 r l)) (mx4 y r l) := by
  unfold k0_pay24
  exact congrArg (max (p (ix2 r l))) (mx4V r l _)
theorem pay27_apply (s : FVec Ideal S256x1 .f32) (x x' : Vec Ideal S1x256x4096 .fp8e4m3) (w w' : Vec Ideal S4096x512 .fp8e4m3) (a b a' b' : Vec Ideal S1x512 .f32) : k0_pay27 s p (k0_pay22 s x w a b) (k0_pay23 s x w a b) x' w' a' b' (ix2 r l)
    = p (ix2 r l) + sq4 (k0_pay20 s x w a b) r l + sq4 (k0_pay25 s x' w' a' b') r l := by
  unfold k0_pay27 k0_pay23 k0_pay22
  exact congrArg₂ (fun u v => p (ix2 r l) + u + v) (sq4V r l _) (sq4V r l _)
theorem pay33_apply (s : FVec Ideal S256x1 .f32) (x : Vec Ideal S1x256x4096 .fp8e4m3) (w : Vec Ideal S4096x512 .fp8e4m3) (a b : Vec Ideal S1x512 .f32) : k0_pay33 s p x w a b (ix2 r l) = p (ix2 r l) + sq4 (k0_pay31 s x w a b) r l := by
  unfold k0_pay33
  exact congrArg (p (ix2 r l) + ·) (sq4V r l _)
theorem pay34_apply (s : FVec Ideal S256x1 .f32) (x x' : Vec Ideal S1x256x4096 .fp8e4m3) (w w' : Vec Ideal S4096x512 .fp8e4m3) (a b a' b' : Vec Ideal S1x512 .f32) : k0_pay34 s p (k0_pay28 s x w a b) (k0_pay29 s x w a b) (k0_pay30 s x w a b) x' w' a' b' (ix2 r l)
    = max (max (p (ix2 r l)) (mx4 (k0_pay25 s x w a b) r l)) (mx4 (k0_pay31 s x' w' a' b') r l) := by
  unfold k0_pay34 k0_pay30 k0_pay29 k0_pay28
  exact congrArg₂ (fun u v => max (max (p (ix2 r l)) u) v) (mx4V r l _) (mx4V r l _)
theorem pay38_apply (s : FVec Ideal S256x1 .f32) (x : FVec Ideal S256x4096 .fp8e4m3) (w : Vec Ideal S4096x512 .fp8e4m3) (a b : Vec Ideal S1x512 .f32) : k0_pay38 s p x w a b (ix2 r 0) = max (Ideal.sqrt (∑ l : Fin 128, (p (ix2 r l) + sq4 (k0_pay36 s x w a b) r l))) epsn := by
  unfold k0_pay38
  refine (colnorm r _).trans ?_
  exact congrArg (fun z => max (Ideal.sqrt z) epsn) (Finset.sum_congr rfl fun l _ => congrArg (p (ix2 r l) + ·) (sq4V r l _))
theorem pay39_apply (m : FVec Ideal S256x128 .f32) (s : FVec Ideal S256x1 .f32) (x : FVec Ideal S256x4096 .fp8e4m3) (w : Vec Ideal S4096x512 .fp8e4m3) (a b : Vec Ideal S1x512 .f32) : k0_pay39 s p m x w a b (ix2 r 0)
    = Ideal.div ((Finset.univ : Finset (Fin 128)).fold max (Ideal.ofBits .f32 0xFF800000#32) fun l => max (m (ix2 r l)) (mx4 (k0_pay36 s x w a b) r l)) (k0_pay38 s p x w a b (ix2 r 0)) := by
  unfold k0_pay39
  refine congrArg (fun z => Ideal.div z (k0_pay38 s p x w a b (ix2 r 0))) ((colmax r _).trans ?_)
  exact Finset.fold_congr fun l _ => congrArg (max (m (ix2 r l))) (mx4V r l _)

end Cert.KernelIdeal.Val

end
-- ==== Proof.BodyRows.lean ====
/- Sums and maxima over a row from those over its chunks, slices and lanes. -/
module

public import proofs.«01_k».proof.Proof.BodyLanes

@[expose] public section

set_option maxRecDepth 16384
set_option maxHeartbeats 1000000

noncomputable section

namespace Cert.KernelIdeal.Val

open Idealize.ShloMosaic Idealize.ShloMosaic.TcCoe Cert.Spec Cert.Lanes
open Cert.KernelIdeal Cert.KernelIdeal.Gen Cert.KernelIdeal.Hand

/-- A place among the 3584 columns: chunk, slice, lane. -/
def at7 (q : Fin 7) (j : Fin 512) : Fin 3584 := ⟨512 * q.val + j.val, by omega⟩
def at4 (p : Fin 4) (l : Fin 128) : Fin 512 := ⟨128 * p.val + l.val, by omega⟩

theorem sum_split {a b n : ℕ} (hn : n = a * b) (e : Fin a → Fin b → Fin n) (he : ∀ q j, (e q j).val = b * q.val + j.val) (g : Fin n → EReal) :
    ∑ k, g k = ∑ q, ∑ j, g (e q j) := by
  subst hn
  rw [← Fintype.sum_prod_type', ← finProdFinEquiv.sum_comp]
  refine Finset.sum_congr rfl fun x _ => congrArg g (Fin.ext ?_)
  rw [he]
  simp [finProdFinEquiv]
  omega

/-- The lanes' sums of squares add up to the row's. -/
theorem sqAll_sum (z : Fin 7 → FVec Ideal S256x512 .f32) (r : Fin 256) (g : Fin 3584 → EReal) (h : ∀ q j, z q (ix2 r j) = g (at7 q j)) :
    ∑ l : Fin 128, sqAll z r l = ∑ n, g n * g n := by
  rw [sum_split (a := 7) (b := 512) rfl at7 (fun _ _ => rfl)]
  have h4 : ∀ q, ∑ j : Fin 512, g (at7 q j) * g (at7 q j) = ∑ l : Fin 128, sq4 (z q) r l := by
    intro q
    rw [sum_split (a := 4) (b := 128) rfl at4 (fun _ _ => rfl), Finset.sum_comm]
    refine Finset.sum_congr rfl fun l _ => ?_
    simp only [← h]
    rw [Fin.sum_univ_four]
    unfold sq4
    have e0 : at4 0 l = ⟨l.val, by omega⟩ := Fin.ext (by show 128 * 0 + l.val = l.val; omega)
    have e1 : at4 1 l = ⟨128 + l.val, by omega⟩ := Fin.ext (by show 128 * 1 + l.val = _; rfl)
    have e2 : at4 2 l = ⟨256 + l.val, by omega⟩ := Fin.ext (by show 128 * 2 + l.val = _; rfl)
    have e3 : at4 3 l = ⟨384 + l.val, by omega⟩ := Fin.ext (by show 128 * 3 + l.val = _; rfl)
    rw [e0, e1, e2, e3]
  simp only [h4]
  rw [Finset.sum_comm]
  refine Finset.sum_congr rfl fun l _ => ?_
  rw [Fin.sum_univ_seven]
  unfold sqAll
  rw [zero_add]

theorem le_mx4 (z : FVec Ideal S256x512 .f32) (r : Fin 256) (l : Fin 128) (p : Fin 4) : ab (z (ix2 r (at4 p l))) ≤ mx4 z r l := by
  unfold mx4
  have e0 : at4 0 l = ⟨l.val, by omega⟩ := Fin.ext (by show 128 * 0 + l.val = l.val; omega)
  have e1 : at4 1 l = ⟨128 + l.val, by omega⟩ := Fin.ext (by show 128 * 1 + l.val = _; rfl)
  have e2 : at4 2 l = ⟨256 + l.val, by omega⟩ := Fin.ext (by show 128 * 2 + l.val = _; rfl)
  have e3 : at4 3 l = ⟨384 + l.val, by omega⟩ := Fin.ext (by show 128 * 3 + l.val = _; rfl)
  rw [← e0, ← e1, ← e2, ← e3]
  fin_cases p <;> simp [le_max_iff]

theorem le_mxAll (z : Fin 7 → FVec Ideal S256x512 .f32) (r : Fin 256) (l : Fin 128) (q : Fin 7) : mx4 (z q) r l ≤ mxAll z r l := by
  unfold mxAll
  fin_cases q <;> simp [le_max_iff]

theorem ab_nonneg (v : EReal) : 0 ≤ ab v := by
  unfold ab
  rcases le_total 0 v with h | h
  · exact le_max_of_le_left h
  · exact le_max_of_le_right (EReal.neg_nonneg.2 h)

/-- The largest of the lanes' maxima is the row's largest magnitude. -/
theorem mxAll_fold (z : Fin 7 → FVec Ideal S256x512 .f32) (r : Fin 256) (g : Fin 3584 → EReal) (h : ∀ q j, z q (ix2 r j) = g (at7 q j)) :
    (Finset.univ : Finset (Fin 128)).fold max (Ideal.ofBits .f32 0xFF800000#32) (fun l => mxAll z r l) = amax g := by
  have hz : ∀ q j, ab (z q (ix2 r j)) ≤ amax g := fun q j => by
    rw [h]
    exact Finset.le_fold_max _ |>.2 (.inr ⟨at7 q j, Finset.mem_univ _, le_rfl⟩)
  have h4 : ∀ q l, mx4 (z q) r l ≤ amax g := fun q l => by
    unfold mx4
    exact max_le (max_le (max_le (hz _ _) (hz _ _)) (hz _ _)) (hz _ _)
  apply le_antisymm
  · rw [Finset.fold_max_le]
    refine ⟨Finset.le_fold_max _ |>.2 (.inl le_rfl), fun l _ => ?_⟩
    unfold mxAll
    exact max_le (max_le (max_le (max_le (max_le (max_le (max_le (amax_nonneg _) (h4 _ _)) (h4 _ _)) (h4 _ _)) (h4 _ _)) (h4 _ _)) (h4 _ _)) (h4 _ _)
  · unfold amax
    rw [Finset.fold_max_le]
    refine ⟨Finset.le_fold_max _ |>.2 (.inl le_rfl), fun n _ => ?_⟩
    have hn : n = at7 ⟨n.val / 512, by omega⟩ (at4 ⟨n.val % 512 / 128, by omega⟩ ⟨n.val % 128, by omega⟩) := Fin.ext (by
      show n.val = 512 * (n.val / 512) + (128 * (n.val % 512 / 128) + n.val % 128)
      omega)
    refine Finset.le_fold_max _ |>.2 (.inr ⟨⟨n.val % 128, by omega⟩, Finset.mem_univ _, ?_⟩)
    have hg : g n = z ⟨n.val / 512, by omega⟩ (ix2 r (at4 ⟨n.val % 512 / 128, by omega⟩ ⟨n.val % 128, by omega⟩)) := by
      rw [h]; exact congrArg g hn
    rw [hg]
    exact (le_mx4 _ _ _ _).trans (le_mxAll _ _ _ _)

end Cert.KernelIdeal.Val

end
-- ==== Proof.BodyNorm.lean ====
/- Normalised rows: their largest magnitude, their codes and their scale. -/
module

public import proofs.«01_k».proof.Proof.Quant

@[expose] public section

set_option maxRecDepth 16384
set_option maxHeartbeats 1000000

noncomputable section

namespace Cert.KernelIdeal.Val

open Idealize.ShloMosaic Idealize.ShloMosaic.TcCoe Cert.Spec Cert.Lanes
open Cert.KernelIdeal Cert.KernelIdeal.Gen Cert.KernelIdeal.Hand

theorem botE : Ideal.ofBits .f32 0xFF800000#32 = (⊥ : EReal) := by
  simp [Ideal.ofBits, Ideal.ieee]

theorem epsn_pos : 0 < epsn := by
  unfold epsn
  simp [Ideal.ofBits, Ideal.ieee]
  rw [← EReal.coe_mul]
  exact EReal.coe_pos.2 (by norm_num)

/-- A row's norm, as it is divided by. -/
def nor {n : ℕ} (y : Fin n → EReal) : EReal := max (Ideal.sqrt (∑ j, y j * y j)) epsn

theorem nor_pos {n : ℕ} (y : Fin n → EReal) : 0 < nor y := lt_max_of_lt_right epsn_pos

theorem div_nor {n : ℕ} (y : Fin n → EReal) (v : EReal) : Ideal.div v (nor y) = v * (nor y)⁻¹ := by
  unfold Ideal.div
  rw [if_neg (nor_pos y).ne']

theorem abs_mul (v c : EReal) (hc : 0 ≤ c) : max (v * c) (-(v * c)) = max v (-v) * c := by
  have hm : Monotone fun t : EReal => t * c := fun a b h => mul_le_mul_of_nonneg_right h hc
  rw [← EReal.neg_mul]
  exact (hm.map_max).symm

theorem amax_attained {n : ℕ} (v : Fin (n + 1) → EReal) : ∃ k, amax v = max (v k) (-(v k)) := by
  have h : amax v = (Finset.univ : Finset (Fin (n + 1))).sup fun k => max (v k) (-(v k)) := by
    unfold amax
    rw [botE]
    rfl
  obtain ⟨k, -, hk⟩ := Finset.exists_mem_eq_sup (Finset.univ : Finset (Fin (n + 1))) ⟨0, Finset.mem_univ _⟩ fun k => max (v k) (-(v k))
  exact ⟨k, h.trans hk⟩

theorem le_amax {n : ℕ} (v : Fin n → EReal) (k : Fin n) : max (v k) (-(v k)) ≤ amax v :=
  Finset.le_fold_max _ |>.2 (.inr ⟨k, Finset.mem_univ _, le_rfl⟩)

theorem amax_mul {n : ℕ} (v : Fin (n + 1) → EReal) (c : EReal) (hc : 0 ≤ c) : (amax fun k => v k * c) = amax v * c := by
  apply le_antisymm
  · obtain ⟨k, hk⟩ := amax_attained fun k => v k * c
    rw [hk, abs_mul _ _ hc]
    exact mul_le_mul_of_nonneg_right (le_amax v k) hc
  · obtain ⟨k, hk⟩ := amax_attained v
    rw [hk, ← abs_mul _ _ hc]
    exact le_amax (fun k => v k * c) k

/-- The largest magnitude of a row divided by its norm. -/
theorem amax_nrm {n : ℕ} (y : Fin (n + 1) → EReal) : amax (nrm y) = Ideal.div (amax y) (nor y) := by
  rw [div_nor, ← amax_mul _ _ (EReal.inv_nonneg_of_nonneg (nor_pos y).le)]
  exact congrArg amax (funext fun k => div_nor y (y k))

theorem nrm_zero {n : ℕ} : nrm (fun _ : Fin n => (0 : EReal)) = fun _ => 0 := by
  funext k
  exact (div_nor (fun _ : Fin n => (0 : EReal)) 0).trans (zero_mul _)

theorem amax_zero {n : ℕ} : amax (fun _ : Fin (n + 1) => (0 : EReal)) = 0 := by
  obtain ⟨k, hk⟩ := amax_attained fun _ : Fin (n + 1) => (0 : EReal)
  rw [hk]
  simp

/-- A row of zeroes has codes zero and scale one. -/
theorem code_zero {n : ℕ} (k : Fin (n + 1)) : code (nrm fun _ : Fin (n + 1) => (0 : EReal)) k = clampQ 0 := by
  unfold code
  rw [nrm_zero]
  exact congrArg clampQ (zero_mul _)

theorem clampQ_zero : clampQ 0 = 0 := by
  unfold clampQ
  rw [show max (Ideal.ofBits .f32 0xC3E00000#32) 0 = 0 from max_eq_right (by simp [Ideal.ofBits, Ideal.ieee]; rw [← EReal.coe_mul]; norm_cast; norm_num)]
  exact min_eq_right (by simp [Ideal.ofBits, Ideal.ieee]; rw [← EReal.coe_mul]; norm_cast; norm_num)

theorem one32 : Ideal.ofBits .f32 0x3F800000#32 = 1 := by
  simp [Ideal.ofBits, Ideal.ieee]
  rw [← EReal.coe_mul]; norm_num

theorem scale_zero {n : ℕ} : scale (nrm fun _ : Fin (n + 1) => (0 : EReal)) = 1 := by
  unfold scale
  rw [nrm_zero, amax_zero]
  have h : qexp 0 = 0 := by
    unfold qexp
    rw [show Ideal.cmp CmpFPredicate.oeq 0 0 = 1#1 by simp [Ideal.cmp]]
    rfl
  rw [h]
  have h2 : Ideal.exp2 ((0 : ℝ) : EReal) = (((2 : ℝ) ^ (0 : ℝ) : ℝ) : EReal) := rfl
  rw [← EReal.coe_zero, h2]
  simp

/-- A code from the row, the reciprocal of its scale over its norm. -/
theorem code_nrm {n : ℕ} (y : Fin n → EReal) (k : Fin n) (a : EReal) (ha : a = amax (nrm y)) :
    clampQ (y k * Ideal.div (Ideal.exp2 (0 - qexp a)) (nor y)) = code (nrm y) k := by
  unfold code
  rw [ha]
  refine congrArg clampQ ?_
  rw [div_nor, show nrm y k = y k * (nor y)⁻¹ from div_nor y (y k), mul_assoc, mul_comm (nor y)⁻¹]

end Cert.KernelIdeal.Val

end
-- ==== Proof.BodyM.lean ====
/- The codes and scales of the projected rows, as the body stores them. -/
module

public import proofs.«01_k».proof.Proof.Quant

@[expose] public section

set_option maxRecDepth 16384
set_option maxHeartbeats 1000000

noncomputable section

namespace Cert.KernelIdeal.Val

open Idealize.ShloMosaic Idealize.ShloMosaic.TcCoe Cert.Spec Cert.Lanes
open Cert.KernelIdeal Cert.KernelIdeal.Gen Cert.KernelIdeal.Hand

/-- One chunk of codes: the projected values times a column, where the row counts, clipped. -/
def mchunk (v : IVec S256x1 1) (q : FVec Ideal S256x1 .f32) (y : Vec Ideal S256x512 .f32) (r : Fin 256) (j : Fin 512) : EReal :=
  clampQ (Scalar.select (v (ix2 r 0)) (y (ix2 r j) * q (ix2 r 0)) 0)

variable (v : IVec S256x1 1) (q : FVec Ideal S256x1 .f32) (y : Vec Ideal S256x512 .f32) (r : Fin 256) (j : Fin 512)

theorem pay50_apply : k0_pay50 v q y (ix3 0 r j) = mchunk v q y r j := by
  unfold mchunk clampQ
  pointwise [k0_pay50]
theorem pay51_eq : k0_pay51 v q y = k0_pay50 v q y := rfl
theorem pay55_eq : k0_pay55 (k0_pay52 q y) (k0_pay53 v) k0_pay54 = k0_pay50 v q y := rfl
theorem pay56_eq : k0_pay56 v q y = k0_pay50 v q y := rfl
theorem pay58_eq : k0_pay58 (k0_pay57 v q y) = k0_pay50 v q y := rfl
theorem pay59_eq : k0_pay59 v q y = k0_pay50 v q y := rfl
theorem pay49_eq (n a m : FVec Ideal S256x1 .f32) (e e' : IVec S256x1 32) : k0_pay49 (k0_pay48 n a v m e e' y) = k0_pay50 v (k0_pay47 n a m e e') y := rfl

theorem m_biased (a : FVec Ideal S256x1 .f32) (i : S256x1.Idx) :
    k0_pay45 a (k0_pay42 a k0_pay41) (k0_pay43 a k0_pay41) (k0_pay44 a k0_pay41) i = biased (a i) := by
  have hm : k0_pay42 a k0_pay41 i = a i * kq := rfl
  unfold k0_pay45 k0_pay44 k0_pay43
  exact biasedV _ _ i hm

theorem m_scale (a : FVec Ideal S256x1 .f32) (i : S256x1.Idx) :
    k0_pay46 a (k0_pay42 a k0_pay41) (k0_pay43 a k0_pay41) (k0_pay44 a k0_pay41) i = pw (biased (a i)) := by
  rw [← m_biased]
  exact pwV _ i

theorem m_inv (n a : FVec Ideal S256x1 .f32) (i : S256x1.Idx) :
    k0_pay47 n a (k0_pay42 a k0_pay41) (k0_pay43 a k0_pay41) (k0_pay44 a k0_pay41) i = Ideal.div (pw (254#32 - biased (a i))) (n i) := by
  rw [← m_biased]
  rfl

theorem pay40_apply (len t : BitVec 32) : k0_pay40 (F := Ideal) len t (ix2 r 0) = IntOp.cmpi .slt (t + 1#32 + BitVec.ofNat 32 r.val) len := by
  pointwise [k0_pay40]
  try rfl

/-- The scales as they are stored: a column turned into a row, with one where the row does not count. -/
theorem pay60_apply (s : FVec Ideal S256x1 .f32) : k0_pay60 v s (ix2 0 r) = Scalar.select (v (ix2 r 0)) (s (ix2 r 0)) (Ideal.ofBits .f32 0x3F800000#32) := by
  unfold k0_pay60
  rw [show Scalar.select (v (ix2 r 0)) (s (ix2 r 0)) (Ideal.ofBits .f32 0x3F800000#32) = select v s (broadcast S256x1 (Scalar.ofBits .f32 0x3F800000#32 : Ideal .f32)) (ix2 r 0) from rfl]
  generalize select v s (broadcast S256x1 (Scalar.ofBits .f32 0x3F800000#32 : Ideal .f32)) = g
  pointwise
  have hot : ∀ (a : ℕ) (f : Fin 128 → EReal) (ha : a < 128), (∑ x : Fin 128, Scalar.select (IntOp.cmpi CmpIPredicate.eq (BitVec.ofNat 32 x.val) (BitVec.ofNat 32 a)) (f x) 0) = f ⟨a, ha⟩ := by
    intro a f ha
    rw [Finset.sum_eq_single ⟨a, ha⟩]
    · simp [IntOp.cmpi, Scalar.select]
    · intro x _ hx
      have hne : ¬ BitVec.ofNat 32 x.val = BitVec.ofNat 32 a := fun h => hx (Fin.ext (by
        have := congrArg BitVec.toNat h
        simp only [BitVec.toNat_ofNat] at this
        show x.val = a
        omega))
      have hb : (BitVec.ofNat 32 x.val == BitVec.ofNat 32 a) = false := beq_eq_false_iff_ne.2 hne
      simp only [IntOp.cmpi, Scalar.select, hb]
      rfl
    · simp
  split
  · rename_i hr
    exact hot r.val (fun x => g (ix2 ⟨x.val, by omega⟩ 0)) hr
  · rename_i hr
    refine (hot (r.val - 128) (fun x => g (ix2 ⟨128 + x.val, by omega⟩ 0)) (by omega)).trans ?_
    exact congrArg (fun z => g (ix2 z 0)) (Fin.ext (by show 128 + (r.val - 128) = r.val; omega))

theorem pay5_apply (s : FVec Ideal S1x256 .f32) (k : Fin 255) : k0_pay5 s (ix2 0 k) = s (ix2 0 ⟨k.val, by omega⟩) := by
  pointwise [k0_pay5]
theorem pay1_apply (s : FVec Ideal S1x256 .f32) (k : Fin 255) : k0_pay1 s (ix2 0 k) = s (ix2 0 ⟨k.val, by omega⟩) := by
  pointwise [k0_pay1]
theorem pay2_apply (k : Fin 3584) : (k0_pay2 (F := Ideal)) (ix3 0 r k) = Ideal.ofBits .fp8e4m3 0x00#8 := by
  pointwise [k0_pay2]
  try rfl

end Cert.KernelIdeal.Val

end
-- ==== Proof.BodyY.lean ====
/- The projected rows of a block: their chunks, norms, largest magnitudes and scales. -/
module

public import proofs.«01_k».proof.Proof.BodyQ
public import proofs.«01_k».proof.Proof.BodyChunks
public import proofs.«01_k».proof.Proof.BodyAcc
public import proofs.«01_k».proof.Proof.BodyRows
public import proofs.«01_k».proof.Proof.BodyNorm
public import proofs.«01_k».proof.Proof.BodyM

@[expose] public section

set_option maxRecDepth 16384
set_option maxHeartbeats 1000000

noncomputable section

namespace Cert.KernelIdeal.Val

open Idealize.ShloMosaic Idealize.ShloMosaic.TcCoe Cert.Spec Cert.Lanes
open Cert.KernelIdeal Cert.KernelIdeal.Gen Cert.KernelIdeal.Hand

/-- A stretch of columns of a matrix, read at an index. -/
theorem ld_cols {n N w o : ℕ} {e : EltTy} (X : (⟨2, ![n, N]⟩ : Shape).Idx → Elt Ideal e) (inb : ∀ a, (![0, o] : Fin 2 → ℕ) a + (⟨2, ![n, w]⟩ : Shape).size a ≤ (⟨2, ![n, N]⟩ : Shape).size a)
    (d : Fin n) (j : Fin w) (hb : o + j.val < N) :
    View.ld X (Rect.unit (s := ⟨2, ![n, N]⟩) ![0, o] (⟨2, ![n, w]⟩ : Shape).size inb) (ix2 d j) = X (ix2 d ⟨o + j.val, hb⟩) := by
  refine congrArg X (funext fun a => Fin.ext ?_)
  fin_cases a
  · show 0 + 1 * d.val = d.val
    omega
  · show o + 1 * j.val = o + j.val
    omega

/-- The projected row that a block's place is about. -/
def Yrow (x3 : Vec Ideal S1x256x4096 .bf16) (x4 : Vec Ideal S1x16x4096 .bf16) (x8 : Vec Ideal S4096x3584 .fp8e4m3) (x9 x10 : Vec Ideal S1x3584 .f32) (r : Fin 256) (n : Fin 3584) : EReal :=
  lin (xrow x3 x4 r) (fun d => x8 (ix2 d n)) (x9 (ix2 0 n)) (x10 (ix2 0 n))

variable (c : Dev nD) (arg3 : Memref sig .tc .vmem S1x256x4096 .bf16) (arg4 : Memref sig .tc .vmem S1x16x4096 .bf16)
  (arg8 : Memref sig .tc .vmem S4096x3584 .fp8e4m3) (arg9 arg10 : Memref sig .tc .vmem S1x3584 .f32)
  (arg16 : Memref sig .tc .vmem S1x256x4096 .fp8e4m3) (arg18 : Memref sig .tc .vmem S256x3584 .f32)
  (f3 : arg3.view.ty.Contents (Elt Ideal)) (f4 : arg4.view.ty.Contents (Elt Ideal)) (f8 : arg8.view.ty.Contents (Elt Ideal))
  (f9 : arg9.view.ty.Contents (Elt Ideal)) (f10 : arg10.view.ty.Contents (Elt Ideal))

theorem v913_eq : sound_any.sl.v913 c arg3 arg4 arg16 f3 f4 = k0_pay123 (sound_any.sl.v707 c arg3 f3) (sound_any.sl.v854 c arg4 f4) sound_any.sl.cst_200 k0_pay122 := by
  unfold sound_any.sl.v913 sound_any.sl.H16_1
  exact View.readCov_cons_toLoadRect _ _ _ _

/-- The seven chunks of the projection. -/
def zc : Fin 7 → FVec Ideal S256x512 .f32 := ![
    k0_pay6 (sound_any.sl.v878 c arg3 arg4 f3 f4) (sound_any.sl.v913 c arg3 arg4 arg16 f3 f4) (View.readAt (Elt Ideal) arg8.view (Rect.unit (s := S4096x3584) ![0, 0] S4096x512.size inb_S4096x3584_S4096x512_0_0).toLoadRect f8)
      (View.readAt (Elt Ideal) arg9.view (Rect.unit (s := S1x3584) ![0, 0] S1x512.size inb_S1x3584_S1x512_0_0).toLoadRect f9)
      (View.readAt (Elt Ideal) arg10.view (Rect.unit (s := S1x3584) ![0, 0] S1x512.size inb_S1x3584_S1x512_0_0).toLoadRect f10),
    k0_pay6 (sound_any.sl.v878 c arg3 arg4 f3 f4) (sound_any.sl.v913 c arg3 arg4 arg16 f3 f4) (View.readAt (Elt Ideal) arg8.view (Rect.unit (s := S4096x3584) ![0, 512] S4096x512.size inb_S4096x3584_S4096x512_0_512).toLoadRect f8)
      (View.readAt (Elt Ideal) arg9.view (Rect.unit (s := S1x3584) ![0, 512] S1x512.size inb_S1x3584_S1x512_0_512).toLoadRect f9)
      (View.readAt (Elt Ideal) arg10.view (Rect.unit (s := S1x3584) ![0, 512] S1x512.size inb_S1x3584_S1x512_0_512).toLoadRect f10),
    k0_pay6 (sound_any.sl.v878 c arg3 arg4 f3 f4) (sound_any.sl.v913 c arg3 arg4 arg16 f3 f4) (View.readAt (Elt Ideal) arg8.view (Rect.unit (s := S4096x3584) ![0, 1024] S4096x512.size inb_S4096x3584_S4096x512_0_1024).toLoadRect f8)
      (View.readAt (Elt Ideal) arg9.view (Rect.unit (s := S1x3584) ![0, 1024] S1x512.size inb_S1x3584_S1x512_0_1024).toLoadRect f9)
      (View.readAt (Elt Ideal) arg10.view (Rect.unit (s := S1x3584) ![0, 1024] S1x512.size inb_S1x3584_S1x512_0_1024).toLoadRect f10),
    k0_pay6 (sound_any.sl.v878 c arg3 arg4 f3 f4) (sound_any.sl.v913 c arg3 arg4 arg16 f3 f4) (View.readAt (Elt Ideal) arg8.view (Rect.unit (s := S4096x3584) ![0, 1536] S4096x512.size inb_S4096x3584_S4096x512_0_1536).toLoadRect f8)
      (View.readAt (Elt Ideal) arg9.view (Rect.unit (s := S1x3584) ![0, 1536] S1x512.size inb_S1x3584_S1x512_0_1536).toLoadRect f9)
      (View.readAt (Elt Ideal) arg10.view (Rect.unit (s := S1x3584) ![0, 1536] S1x512.size inb_S1x3584_S1x512_0_1536).toLoadRect f10),
    k0_pay6 (sound_any.sl.v878 c arg3 arg4 f3 f4) (sound_any.sl.v913 c arg3 arg4 arg16 f3 f4) (View.readAt (Elt Ideal) arg8.view (Rect.unit (s := S4096x3584) ![0, 2048] S4096x512.size inb_S4096x3584_S4096x512_0_2048).toLoadRect f8)
      (View.readAt (Elt Ideal) arg9.view (Rect.unit (s := S1x3584) ![0, 2048] S1x512.size inb_S1x3584_S1x512_0_2048).toLoadRect f9)
      (View.readAt (Elt Ideal) arg10.view (Rect.unit (s := S1x3584) ![0, 2048] S1x512.size inb_S1x3584_S1x512_0_2048).toLoadRect f10),
    k0_pay6 (sound_any.sl.v878 c arg3 arg4 f3 f4) (sound_any.sl.v913 c arg3 arg4 arg16 f3 f4) (View.readAt (Elt Ideal) arg8.view (Rect.unit (s := S4096x3584) ![0, 2560] S4096x512.size inb_S4096x3584_S4096x512_0_2560).toLoadRect f8)
      (View.readAt (Elt Ideal) arg9.view (Rect.unit (s := S1x3584) ![0, 2560] S1x512.size inb_S1x3584_S1x512_0_2560).toLoadRect f9)
      (View.readAt (Elt Ideal) arg10.view (Rect.unit (s := S1x3584) ![0, 2560] S1x512.size inb_S1x3584_S1x512_0_2560).toLoadRect f10),
    k0_pay6 (sound_any.sl.v878 c arg3 arg4 f3 f4) (sound_any.sl.v913 c arg3 arg4 arg16 f3 f4) (View.readAt (Elt Ideal) arg8.view (Rect.unit (s := S4096x3584) ![0, 3072] S4096x512.size inb_S4096x3584_S4096x512_0_3072).toLoadRect f8)
      (View.readAt (Elt Ideal) arg9.view (Rect.unit (s := S1x3584) ![0, 3072] S1x512.size inb_S1x3584_S1x512_0_3072).toLoadRect f9)
      (View.readAt (Elt Ideal) arg10.view (Rect.unit (s := S1x3584) ![0, 3072] S1x512.size inb_S1x3584_S1x512_0_3072).toLoadRect f10)]

theorem zc_apply (q : Fin 7) (r : Fin 256) (j : Fin 512) : zc c arg3 arg4 arg8 arg9 arg10 arg16 f3 f4 f8 f9 f10 q (ix2 r j)
    = Yrow (arg3.view.read (Elt Ideal) f3) (arg4.view.read (Elt Ideal) f4) (arg8.view.read (Elt Ideal) f8) (arg9.view.read (Elt Ideal) f9) (arg10.view.read (Elt Ideal) f10) r (at7 q j) := by
  have key : ∀ (o : ℕ) (h8 h9 h10) (hb : o + j.val < 3584), k0_pay6 (sound_any.sl.v878 c arg3 arg4 f3 f4) (sound_any.sl.v913 c arg3 arg4 arg16 f3 f4)
      (View.readAt (Elt Ideal) arg8.view (Rect.unit (s := S4096x3584) ![0, o] S4096x512.size h8).toLoadRect f8)
      (View.readAt (Elt Ideal) arg9.view (Rect.unit (s := S1x3584) ![0, o] S1x512.size h9).toLoadRect f9)
      (View.readAt (Elt Ideal) arg10.view (Rect.unit (s := S1x3584) ![0, o] S1x512.size h10).toLoadRect f10) (ix2 r j)
      = Yrow (arg3.view.read (Elt Ideal) f3) (arg4.view.read (Elt Ideal) f4) (arg8.view.read (Elt Ideal) f8) (arg9.view.read (Elt Ideal) f9) (arg10.view.read (Elt Ideal) f10) r ⟨o + j.val, hb⟩ := by
    intro o h8 h9 h10 hb
    rw [pay6_apply]
    unfold chunk Yrow lin
    refine congrArg₂ (· + ·) (congrArg₂ (· * ·) (congrArg₂ (· * ·) (Finset.sum_congr rfl fun d _ => congrArg₂ (· * ·) ?_ ?_) ?_) ?_) ?_
    · rw [v913_eq]; exact xcodes_apply c arg3 arg4 f3 f4 r d
    · exact ld_cols _ h8 d j hb
    · exact v878_apply c arg3 arg4 f3 f4 r
    · exact ld_cols _ h9 0 j hb
    · exact ld_cols _ h10 0 j hb
  fin_cases q
  · refine (key 0 inb_S4096x3584_S4096x512_0_0 inb_S1x3584_S1x512_0_0 inb_S1x3584_S1x512_0_0 (by omega)).trans (congrArg _ (Fin.ext ?_))
    show 0 + j.val = 512 * 0 + j.val
    rfl
  · refine (key 512 inb_S4096x3584_S4096x512_0_512 inb_S1x3584_S1x512_0_512 inb_S1x3584_S1x512_0_512 (by omega)).trans (congrArg _ (Fin.ext ?_))
    show 512 + j.val = 512 * 1 + j.val
    rfl
  · refine (key 1024 inb_S4096x3584_S4096x512_0_1024 inb_S1x3584_S1x512_0_1024 inb_S1x3584_S1x512_0_1024 (by omega)).trans (congrArg _ (Fin.ext ?_))
    show 1024 + j.val = 512 * 2 + j.val
    rfl
  · refine (key 1536 inb_S4096x3584_S4096x512_0_1536 inb_S1x3584_S1x512_0_1536 inb_S1x3584_S1x512_0_1536 (by omega)).trans (congrArg _ (Fin.ext ?_))
    show 1536 + j.val = 512 * 3 + j.val
    rfl
  · refine (key 2048 inb_S4096x3584_S4096x512_0_2048 inb_S1x3584_S1x512_0_2048 inb_S1x3584_S1x512_0_2048 (by omega)).trans (congrArg _ (Fin.ext ?_))
    show 2048 + j.val = 512 * 4 + j.val
    rfl
  · refine (key 2560 inb_S4096x3584_S4096x512_0_2560 inb_S1x3584_S1x512_0_2560 inb_S1x3584_S1x512_0_2560 (by omega)).trans (congrArg _ (Fin.ext ?_))
    show 2560 + j.val = 512 * 5 + j.val
    rfl
  · refine (key 3072 inb_S4096x3584_S4096x512_0_3072 inb_S1x3584_S1x512_0_3072 inb_S1x3584_S1x512_0_3072 (by omega)).trans (congrArg _ (Fin.ext ?_))
    show 3072 + j.val = 512 * 6 + j.val
    rfl

theorem v938_apply (r : Fin 256) (l : Fin 128) : sound_any.sl.v938 c arg3 arg4 arg8 arg9 arg10 arg16 f3 f4 f8 f9 f10 (ix2 r l) = 0 + sq4 (zc c arg3 arg4 arg8 arg9 arg10 arg16 f3 f4 f8 f9 f10 0) r l :=
  (pay8_apply r l _ _ _ _ _).trans rfl

theorem v947_apply (r : Fin 256) (l : Fin 128) : sound_any.sl.v947 c arg3 arg4 arg8 arg9 arg10 arg16 f3 f4 f8 f9 f10 (ix2 r l) = max (0) (mx4 (zc c arg3 arg4 arg8 arg9 arg10 arg16 f3 f4 f8 f9 f10 0) r l) :=
  (pay9_apply r l _ _ _ _ _).trans rfl

theorem v973_apply (r : Fin 256) (l : Fin 128) : sound_any.sl.v973 c arg3 arg4 arg8 arg9 arg10 arg16 f3 f4 f8 f9 f10 (ix2 r l) = 0 + sq4 (zc c arg3 arg4 arg8 arg9 arg10 arg16 f3 f4 f8 f9 f10 0) r l + sq4 (zc c arg3 arg4 arg8 arg9 arg10 arg16 f3 f4 f8 f9 f10 1) r l :=
  (pay13_apply r l _ _ _ _ _ _).trans (congrArg₂ (· + ·) (v938_apply c arg3 arg4 arg8 arg9 arg10 arg16 f3 f4 f8 f9 f10 r l) rfl)

theorem v982_apply (r : Fin 256) (l : Fin 128) : sound_any.sl.v982 c arg3 arg4 arg8 arg9 arg10 arg16 f3 f4 f8 f9 f10 (ix2 r l) = max (max (0) (mx4 (zc c arg3 arg4 arg8 arg9 arg10 arg16 f3 f4 f8 f9 f10 0) r l)) (mx4 (zc c arg3 arg4 arg8 arg9 arg10 arg16 f3 f4 f8 f9 f10 1) r l) :=
  (pay14_apply r l _ _ _ _ _ _).trans (congrArg₂ max (v947_apply c arg3 arg4 arg8 arg9 arg10 arg16 f3 f4 f8 f9 f10 r l) rfl)

theorem v1008_apply (r : Fin 256) (l : Fin 128) : sound_any.sl.v1008 c arg3 arg4 arg8 arg9 arg10 arg16 f3 f4 f8 f9 f10 (ix2 r l) = 0 + sq4 (zc c arg3 arg4 arg8 arg9 arg10 arg16 f3 f4 f8 f9 f10 0) r l + sq4 (zc c arg3 arg4 arg8 arg9 arg10 arg16 f3 f4 f8 f9 f10 1) r l + sq4 (zc c arg3 arg4 arg8 arg9 arg10 arg16 f3 f4 f8 f9 f10 2) r l :=
  (pay18_apply r l _ _ _).trans (congrArg₂ (· + ·) (v973_apply c arg3 arg4 arg8 arg9 arg10 arg16 f3 f4 f8 f9 f10 r l) rfl)

theorem v1017_apply (r : Fin 256) (l : Fin 128) : sound_any.sl.v1017 c arg3 arg4 arg8 arg9 arg10 arg16 f3 f4 f8 f9 f10 (ix2 r l) = max (max (max (0) (mx4 (zc c arg3 arg4 arg8 arg9 arg10 arg16 f3 f4 f8 f9 f10 0) r l)) (mx4 (zc c arg3 arg4 arg8 arg9 arg10 arg16 f3 f4 f8 f9 f10 1) r l)) (mx4 (zc c arg3 arg4 arg8 arg9 arg10 arg16 f3 f4 f8 f9 f10 2) r l) :=
  (pay19_apply r l _ _ _).trans (congrArg₂ max (v982_apply c arg3 arg4 arg8 arg9 arg10 arg16 f3 f4 f8 f9 f10 r l) rfl)

theorem v1052_apply (r : Fin 256) (l : Fin 128) : sound_any.sl.v1052 c arg3 arg4 arg8 arg9 arg10 arg16 f3 f4 f8 f9 f10 (ix2 r l) = max (max (max (max (0) (mx4 (zc c arg3 arg4 arg8 arg9 arg10 arg16 f3 f4 f8 f9 f10 0) r l)) (mx4 (zc c arg3 arg4 arg8 arg9 arg10 arg16 f3 f4 f8 f9 f10 1) r l)) (mx4 (zc c arg3 arg4 arg8 arg9 arg10 arg16 f3 f4 f8 f9 f10 2) r l)) (mx4 (zc c arg3 arg4 arg8 arg9 arg10 arg16 f3 f4 f8 f9 f10 3) r l) :=
  (pay24_apply r l _ _).trans (congrArg₂ max (v1017_apply c arg3 arg4 arg8 arg9 arg10 arg16 f3 f4 f8 f9 f10 r l) rfl)

theorem v1078_apply (r : Fin 256) (l : Fin 128) : sound_any.sl.v1078 c arg3 arg4 arg8 arg9 arg10 arg16 f3 f4 f8 f9 f10 (ix2 r l) = 0 + sq4 (zc c arg3 arg4 arg8 arg9 arg10 arg16 f3 f4 f8 f9 f10 0) r l + sq4 (zc c arg3 arg4 arg8 arg9 arg10 arg16 f3 f4 f8 f9 f10 1) r l + sq4 (zc c arg3 arg4 arg8 arg9 arg10 arg16 f3 f4 f8 f9 f10 2) r l + sq4 (zc c arg3 arg4 arg8 arg9 arg10 arg16 f3 f4 f8 f9 f10 3) r l + sq4 (zc c arg3 arg4 arg8 arg9 arg10 arg16 f3 f4 f8 f9 f10 4) r l :=
  (pay27_apply r l _ _ _ _ _ _ _ _ _ _).trans (congrArg₂ (· + ·) (congrArg₂ (· + ·) (v1008_apply c arg3 arg4 arg8 arg9 arg10 arg16 f3 f4 f8 f9 f10 r l) rfl) rfl)

theorem v1113_apply (r : Fin 256) (l : Fin 128) : sound_any.sl.v1113 c arg3 arg4 arg8 arg9 arg10 arg16 f3 f4 f8 f9 f10 (ix2 r l) = 0 + sq4 (zc c arg3 arg4 arg8 arg9 arg10 arg16 f3 f4 f8 f9 f10 0) r l + sq4 (zc c arg3 arg4 arg8 arg9 arg10 arg16 f3 f4 f8 f9 f10 1) r l + sq4 (zc c arg3 arg4 arg8 arg9 arg10 arg16 f3 f4 f8 f9 f10 2) r l + sq4 (zc c arg3 arg4 arg8 arg9 arg10 arg16 f3 f4 f8 f9 f10 3) r l + sq4 (zc c arg3 arg4 arg8 arg9 arg10 arg16 f3 f4 f8 f9 f10 4) r l + sq4 (zc c arg3 arg4 arg8 arg9 arg10 arg16 f3 f4 f8 f9 f10 5) r l :=
  (pay33_apply r l _ _ _ _ _ _).trans (congrArg₂ (· + ·) (v1078_apply c arg3 arg4 arg8 arg9 arg10 arg16 f3 f4 f8 f9 f10 r l) rfl)

theorem v1122_apply (r : Fin 256) (l : Fin 128) : sound_any.sl.v1122 c arg3 arg4 arg8 arg9 arg10 arg16 f3 f4 f8 f9 f10 (ix2 r l) = max (max (max (max (max (max (0) (mx4 (zc c arg3 arg4 arg8 arg9 arg10 arg16 f3 f4 f8 f9 f10 0) r l)) (mx4 (zc c arg3 arg4 arg8 arg9 arg10 arg16 f3 f4 f8 f9 f10 1) r l)) (mx4 (zc c arg3 arg4 arg8 arg9 arg10 arg16 f3 f4 f8 f9 f10 2) r l)) (mx4 (zc c arg3 arg4 arg8 arg9 arg10 arg16 f3 f4 f8 f9 f10 3) r l)) (mx4 (zc c arg3 arg4 arg8 arg9 arg10 arg16 f3 f4 f8 f9 f10 4) r l)) (mx4 (zc c arg3 arg4 arg8 arg9 arg10 arg16 f3 f4 f8 f9 f10 5) r l) :=
  (pay34_apply r l _ _ _ _ _ _ _ _ _ _).trans (congrArg₂ max (congrArg₂ max (v1052_apply c arg3 arg4 arg8 arg9 arg10 arg16 f3 f4 f8 f9 f10 r l) rfl) rfl)

/-- The norm of the projected row. -/
theorem v1162_apply (r : Fin 256) : sound_any.sl.v1162 c arg3 arg4 arg8 arg9 arg10 arg16 f3 f4 f8 f9 f10 (ix2 r 0) = nor (Yrow (arg3.view.read (Elt Ideal) f3) (arg4.view.read (Elt Ideal) f4) (arg8.view.read (Elt Ideal) f8) (arg9.view.read (Elt Ideal) f9) (arg10.view.read (Elt Ideal) f10) r) := by
  refine (pay38_apply r _ _ _ _ _ _).trans ?_
  unfold nor
  refine congrArg (fun t => max (Ideal.sqrt t) epsn) (Eq.trans (Finset.sum_congr rfl fun l _ => ?_) (sqAll_sum (zc c arg3 arg4 arg8 arg9 arg10 arg16 f3 f4 f8 f9 f10) r (Yrow (arg3.view.read (Elt Ideal) f3) (arg4.view.read (Elt Ideal) f4) (arg8.view.read (Elt Ideal) f8) (arg9.view.read (Elt Ideal) f9) (arg10.view.read (Elt Ideal) f10) r) fun q j => zc_apply c arg3 arg4 arg8 arg9 arg10 arg16 f3 f4 f8 f9 f10 q r j))
  rw [v1113_apply]
  rfl

/-- The largest magnitude of the normalised row. -/
theorem v1165_apply (r : Fin 256) : sound_any.sl.v1165 c arg3 arg4 arg8 arg9 arg10 arg16 f3 f4 f8 f9 f10 (ix2 r 0) = amax (nrm (Yrow (arg3.view.read (Elt Ideal) f3) (arg4.view.read (Elt Ideal) f4) (arg8.view.read (Elt Ideal) f8) (arg9.view.read (Elt Ideal) f9) (arg10.view.read (Elt Ideal) f10) r)) := by
  refine (pay39_apply r _ _ _ _ _ _ _).trans ?_
  refine Eq.trans ?_ (amax_nrm _).symm
  refine congrArg₂ Ideal.div (Eq.trans (Finset.fold_congr fun l _ => ?_) (mxAll_fold (zc c arg3 arg4 arg8 arg9 arg10 arg16 f3 f4 f8 f9 f10) r (Yrow (arg3.view.read (Elt Ideal) f3) (arg4.view.read (Elt Ideal) f4) (arg8.view.read (Elt Ideal) f8) (arg9.view.read (Elt Ideal) f9) (arg10.view.read (Elt Ideal) f10) r) fun q j => zc_apply c arg3 arg4 arg8 arg9 arg10 arg16 f3 f4 f8 f9 f10 q r j)) (v1162_apply c arg3 arg4 arg8 arg9 arg10 arg16 f3 f4 f8 f9 f10 r)
  rw [v1122_apply]
  rfl

theorem v1241_apply (r : Fin 256) : sound_any.sl.v1241 c arg3 arg4 arg8 arg9 arg10 arg16 f3 f4 f8 f9 f10 (ix2 r 0) = scale (nrm (Yrow (arg3.view.read (Elt Ideal) f3) (arg4.view.read (Elt Ideal) f4) (arg8.view.read (Elt Ideal) f8) (arg9.view.read (Elt Ideal) f9) (arg10.view.read (Elt Ideal) f10) r)) := by
  refine (m_scale _ _).trans ?_
  rw [v1165_apply, scale_eq _ (amax_nonneg _)]
  rfl

theorem v1247_apply (r : Fin 256) : sound_any.sl.v1247 c arg3 arg4 arg8 arg9 arg10 arg16 f3 f4 f8 f9 f10 (ix2 r 0) = Ideal.div (Ideal.exp2 (0 - qexp (amax (nrm (Yrow (arg3.view.read (Elt Ideal) f3) (arg4.view.read (Elt Ideal) f4) (arg8.view.read (Elt Ideal) f8) (arg9.view.read (Elt Ideal) f9) (arg10.view.read (Elt Ideal) f10) r))))) (nor (Yrow (arg3.view.read (Elt Ideal) f3) (arg4.view.read (Elt Ideal) f4) (arg8.view.read (Elt Ideal) f8) (arg9.view.read (Elt Ideal) f9) (arg10.view.read (Elt Ideal) f10) r)) := by
  refine (m_inv _ _ _).trans ?_
  rw [v1165_apply, v1162_apply, inv_eq _ (amax_nonneg _)]

end Cert.KernelIdeal.Val

end
-- ==== Proof.Posts.lean ====
/- What the body leaves in the buffers of the results. -/
module

public import proofs.«01_k».proof.Proof.BodyY

@[expose] public section

set_option maxRecDepth 16384
set_option maxHeartbeats 1000000

noncomputable section

namespace Cert.KernelIdeal.Val

open Idealize.ShloMosaic Idealize.ShloMosaic.TcCoe Cert.Spec Cert.Lanes
open Cert.KernelIdeal Cert.KernelIdeal.Gen Cert.KernelIdeal.Hand

/-- The grid point's row of the batch. -/
def gb (i : grid0.Coords) : Fin 16 := i 0
/-- The grid point's block of the sequence. -/
def gi (i : grid0.Coords) : Fin 8 := i 1

/-- Whether a row of the block lies inside the sequence. -/
def wet (i : grid0.Coords) (x2 : Vec Ideal S16 .i32) (r : Fin 256) : BitVec 1 :=
  IntOp.cmpi .slt (Scalar.muli (BitVec.ofNat 32 (i 1).val) 256#32 + 1#32 + BitVec.ofNat 32 r.val) (x2 (ix1 (gb i)))

/-- A row of the projection, zero where it lies outside the sequence. -/
def Zrow (i : grid0.Coords) (x2 : Vec Ideal S16 .i32) (x3 : Vec Ideal S1x256x4096 .bf16) (x4 : Vec Ideal S1x16x4096 .bf16) (x8 : Vec Ideal S4096x3584 .fp8e4m3) (x9 x10 : Vec Ideal S1x3584 .f32) (r : Fin 256) (n : Fin 3584) : EReal :=
  Scalar.select (wet i x2 r) (Yrow x3 x4 x8 x9 x10 r n) 0

/-- A block of normalised codes holds what it should. -/
def IsMv (g : Fin 256 → Fin 3584 → EReal) (y : Vec Ideal S1x256x3584 .fp8e4m3) : Prop := ∀ r n, y (ix3 0 r n) = code (nrm (g r)) n

/-- A block of codes holds what it should. -/
def IsXc (g : Fin 256 → Fin 4096 → EReal) (y : Vec Ideal S1x256x4096 .fp8e4m3) : Prop := ∀ r d, y (ix3 0 r d) = code (g r) d

/-- An array of scales has the block's scales at the block's place and is otherwise as it was. -/
def IsRow (i : grid0.Coords) (g : Fin 256 → EReal) (Y y : Vec Ideal S16x2047 .f32) : Prop :=
  ∀ (b : Fin 16) (s : Fin 2047), y (ix2 b s) = if h : b = gb i ∧ 256 * (gi i).val ≤ s.val ∧ s.val < 256 * (gi i).val + 256 then g ⟨s.val - 256 * (gi i).val, by omega⟩ else Y (ix2 b s)

end Cert.KernelIdeal.Val

end
-- ==== Proof.BodyRead.lean ====
/- The projected chunks read back from the buffer that holds them. -/
module

public import proofs.«01_k».proof.Proof.BodyY

@[expose] public section

set_option maxRecDepth 16384
set_option maxHeartbeats 1000000

noncomputable section

namespace Cert.KernelIdeal.Val

open Idealize.ShloMosaic Idealize.ShloMosaic.TcCoe Cert.Spec Cert.Lanes
open Cert.KernelIdeal Cert.KernelIdeal.Gen Cert.KernelIdeal.Hand

/-- Stretches of columns that do not overlap: a load of one does not see a write of the other. -/
theorem skip_cols {n N w o o' : ℕ} {e : EltTy} {sp : Space} (v : View sig .tc sp (⟨2, ![n, N]⟩ : Shape) e)
    (inb : ∀ a, (![0, o] : Fin 2 → ℕ) a + (⟨2, ![n, w]⟩ : Shape).size a ≤ (⟨2, ![n, N]⟩ : Shape).size a)
    (inb' : ∀ a, (![0, o'] : Fin 2 → ℕ) a + (⟨2, ![n, w]⟩ : Shape).size a ≤ (⟨2, ![n, N]⟩ : Shape).size a)
    (x : (⟨2, ![n, w]⟩ : Shape).Idx → Elt Ideal e) (L : List (View.Piece (Elt Ideal) (⟨2, ![n, N]⟩ : Shape) e)) (h : o' + w ≤ o) :
    v.readCov (⟨Rect.unit (s := ⟨2, ![n, N]⟩) ![0, o] (⟨2, ![n, w]⟩ : Shape).size inb, x⟩ :: L) (Rect.unit (s := ⟨2, ![n, N]⟩) ![0, o'] (⟨2, ![n, w]⟩ : Shape).size inb').toLoadRect
      = v.readCov L (Rect.unit (s := ⟨2, ![n, N]⟩) ![0, o'] (⟨2, ![n, w]⟩ : Shape).size inb').toLoadRect :=
  View.readCov_cons_of_disjoint v (⟨Rect.unit (s := ⟨2, ![n, N]⟩) ![0, o] (⟨2, ![n, w]⟩ : Shape).size inb, x⟩ : View.Piece (Elt Ideal) (⟨2, ![n, N]⟩ : Shape) e) L
    (Rect.unit (s := ⟨2, ![n, N]⟩) ![0, o'] (⟨2, ![n, w]⟩ : Shape).size inb').toLoadRect (Rect.unit_disjoint (inb := inb) (inb' := inb') 1 (.inr h))

variable (c : Dev nD) (arg3 : Memref sig .tc .vmem S1x256x4096 .bf16) (arg4 : Memref sig .tc .vmem S1x16x4096 .bf16)
  (arg8 : Memref sig .tc .vmem S4096x3584 .fp8e4m3) (arg9 arg10 : Memref sig .tc .vmem S1x3584 .f32)
  (arg16 : Memref sig .tc .vmem S1x256x4096 .fp8e4m3) (arg18 : Memref sig .tc .vmem S256x3584 .f32)
  (f3 : arg3.view.ty.Contents (Elt Ideal)) (f4 : arg4.view.ty.Contents (Elt Ideal)) (f8 : arg8.view.ty.Contents (Elt Ideal))
  (f9 : arg9.view.ty.Contents (Elt Ideal)) (f10 : arg10.view.ty.Contents (Elt Ideal))

theorem v1248_eq : sound_any.sl.v1248 c arg3 arg4 arg8 arg9 arg10 arg16 arg18 f3 f4 f8 f9 f10 = zc c arg3 arg4 arg8 arg9 arg10 arg16 f3 f4 f8 f9 f10 0 := by
  unfold sound_any.sl.v1248 sound_any.sl.H18_7 sound_any.sl.H18_6 sound_any.sl.H18_5 sound_any.sl.H18_4 sound_any.sl.H18_2 sound_any.sl.H18_1
  refine (skip_cols _ _ _ _ _ (by norm_num)).trans ?_
  refine (skip_cols _ _ _ _ _ (by norm_num)).trans ?_
  refine (skip_cols _ _ _ _ _ (by norm_num)).trans ?_
  refine (skip_cols _ _ _ _ _ (by norm_num)).trans ?_
  refine (skip_cols _ _ _ _ _ (by norm_num)).trans ?_
  refine (skip_cols _ _ _ _ _ (by norm_num)).trans ?_
  refine (View.readCov_cons_toLoadRect _ _ _ _).trans ?_
  exact pay7_eq _ _ _ _ _

theorem v1263_eq : sound_any.sl.v1263 c arg3 arg4 arg8 arg9 arg10 arg16 arg18 f3 f4 f8 f9 f10 = zc c arg3 arg4 arg8 arg9 arg10 arg16 f3 f4 f8 f9 f10 1 := by
  unfold sound_any.sl.v1263 sound_any.sl.H18_7 sound_any.sl.H18_6 sound_any.sl.H18_5 sound_any.sl.H18_4 sound_any.sl.H18_2 sound_any.sl.H18_1
  refine (skip_cols _ _ _ _ _ (by norm_num)).trans ?_
  refine (skip_cols _ _ _ _ _ (by norm_num)).trans ?_
  refine (skip_cols _ _ _ _ _ (by norm_num)).trans ?_
  refine (skip_cols _ _ _ _ _ (by norm_num)).trans ?_
  refine (skip_cols _ _ _ _ _ (by norm_num)).trans ?_
  refine (View.readCov_cons_toLoadRect _ _ _ _).trans ?_
  exact pay12_eq _ _ _ _ _

theorem v1278_eq : sound_any.sl.v1278 c arg3 arg4 arg8 arg9 arg10 arg16 arg18 f3 f4 f8 f9 f10 = zc c arg3 arg4 arg8 arg9 arg10 arg16 f3 f4 f8 f9 f10 2 := by
  unfold sound_any.sl.v1278 sound_any.sl.H18_7 sound_any.sl.H18_6 sound_any.sl.H18_5 sound_any.sl.H18_4 sound_any.sl.H18_2 sound_any.sl.H18_1
  refine (skip_cols _ _ _ _ _ (by norm_num)).trans ?_
  refine (skip_cols _ _ _ _ _ (by norm_num)).trans ?_
  refine (skip_cols _ _ _ _ _ (by norm_num)).trans ?_
  refine (skip_cols _ _ _ _ _ (by norm_num)).trans ?_
  refine (View.readCov_cons_toLoadRect _ _ _ _).trans ?_
  exact pay17_eq _ _ _ _ _

theorem v1293_eq : sound_any.sl.v1293 c arg3 arg4 arg8 arg9 arg10 arg16 arg18 f3 f4 f8 f9 f10 = zc c arg3 arg4 arg8 arg9 arg10 arg16 f3 f4 f8 f9 f10 3 := by
  unfold sound_any.sl.v1293 sound_any.sl.H18_7 sound_any.sl.H18_6 sound_any.sl.H18_5 sound_any.sl.H18_4 sound_any.sl.H18_2 sound_any.sl.H18_1
  refine (skip_cols _ _ _ _ _ (by norm_num)).trans ?_
  refine (skip_cols _ _ _ _ _ (by norm_num)).trans ?_
  refine (skip_cols _ _ _ _ _ (by norm_num)).trans ?_
  refine (View.readCov_cons_toLoadRect _ _ _ _).trans ?_
  exact pay21_eq _ _ _ _ _

theorem v1308_eq : sound_any.sl.v1308 c arg3 arg4 arg8 arg9 arg10 arg16 arg18 f3 f4 f8 f9 f10 = zc c arg3 arg4 arg8 arg9 arg10 arg16 f3 f4 f8 f9 f10 4 := by
  unfold sound_any.sl.v1308 sound_any.sl.H18_7 sound_any.sl.H18_6 sound_any.sl.H18_5 sound_any.sl.H18_4 sound_any.sl.H18_2 sound_any.sl.H18_1
  refine (skip_cols _ _ _ _ _ (by norm_num)).trans ?_
  refine (skip_cols _ _ _ _ _ (by norm_num)).trans ?_
  refine (View.readCov_cons_toLoadRect _ _ _ _).trans ?_
  exact pay26_eq _ _ _ _ _

theorem v1323_eq : sound_any.sl.v1323 c arg3 arg4 arg8 arg9 arg10 arg16 arg18 f3 f4 f8 f9 f10 = zc c arg3 arg4 arg8 arg9 arg10 arg16 f3 f4 f8 f9 f10 5 := by
  unfold sound_any.sl.v1323 sound_any.sl.H18_7 sound_any.sl.H18_6 sound_any.sl.H18_5 sound_any.sl.H18_4 sound_any.sl.H18_2 sound_any.sl.H18_1
  refine (skip_cols _ _ _ _ _ (by norm_num)).trans ?_
  refine (View.readCov_cons_toLoadRect _ _ _ _).trans ?_
  exact pay32_eq _ _ _ _ _

theorem v1338_eq : sound_any.sl.v1338 c arg3 arg4 arg8 arg9 arg10 arg16 arg18 f3 f4 f8 f9 f10 = zc c arg3 arg4 arg8 arg9 arg10 arg16 f3 f4 f8 f9 f10 6 := by
  unfold sound_any.sl.v1338 sound_any.sl.H18_7 sound_any.sl.H18_6 sound_any.sl.H18_5 sound_any.sl.H18_4 sound_any.sl.H18_2 sound_any.sl.H18_1
  refine (View.readCov_cons_toLoadRect _ _ _ _).trans ?_
  exact pay37_eq _ _ _ _ _

end Cert.KernelIdeal.Val

end
-- ==== Proof.BodyOut.lean ====
/- The normalised codes and the scales of a block. -/
module

public import proofs.«01_k».proof.Proof.Posts
public import proofs.«01_k».proof.Proof.BodyRead
public import proofs.«01_k».proof.Proof.BodyM
public import proofs.«01_k».proof.Proof.BodyNorm

@[expose] public section

set_option maxRecDepth 16384
set_option maxHeartbeats 1000000

noncomputable section

namespace Cert.KernelIdeal.Val

open Idealize.ShloMosaic Idealize.ShloMosaic.TcCoe Cert.Spec Cert.Lanes
open Cert.KernelIdeal Cert.KernelIdeal.Gen Cert.KernelIdeal.Hand

variable (c : Dev nD) (arg3 : Memref sig .tc .vmem S1x256x4096 .bf16) (arg4 : Memref sig .tc .vmem S1x16x4096 .bf16)
  (arg8 : Memref sig .tc .vmem S4096x3584 .fp8e4m3) (arg9 arg10 : Memref sig .tc .vmem S1x3584 .f32)
  (arg16 : Memref sig .tc .vmem S1x256x4096 .fp8e4m3) (arg18 : Memref sig .tc .vmem S256x3584 .f32)
  (f3 : arg3.view.ty.Contents (Elt Ideal)) (f4 : arg4.view.ty.Contents (Elt Ideal)) (f8 : arg8.view.ty.Contents (Elt Ideal))
  (f9 : arg9.view.ty.Contents (Elt Ideal)) (f10 : arg10.view.ty.Contents (Elt Ideal))
theorem v1_eq (i : grid0.Coords) (arg2 : Memref sig .tc .smem S16 .i32) (f2 : arg2.view.ty.Contents (Elt Ideal)) :
    sound_any.sl.v1 c i arg2 f2 = arg2.view.read (Elt Ideal) f2 (ix1 (gb i)) := by
  unfold sound_any.sl.v1
  refine congrArg (arg2.view.read (Elt Ideal) f2) (funext fun a => Fin.ext ?_)
  fin_cases a
  show k0_off1 i 0 + 1 * 0 = (i 0).val
  rw [k0_off1_eq]
  rfl

theorem v1171_apply (i : grid0.Coords) (arg2 : Memref sig .tc .smem S16 .i32) (f2 : arg2.view.ty.Contents (Elt Ideal)) (r : Fin 256) :
    sound_any.sl.v1171 c i arg2 f2 (ix2 r 0) = wet i (arg2.view.read (Elt Ideal) f2) r := by
  unfold sound_any.sl.v1171
  rw [pay40_apply, v1_eq]
  rfl

theorem code_wet (b : BitVec 1) (Y : Fin 3584 → EReal) (n : Fin 3584) (q z : EReal) (hz : z = Y n) (hq : q = Ideal.div (Ideal.exp2 (0 - qexp (amax (nrm Y)))) (nor Y)) :
    clampQ (Scalar.select b (z * q) 0) = code (nrm (fun n => Scalar.select b (Y n) 0)) n := by
  rcases BitVec.eq_zero_or_eq_one b with h | h
  · subst h
    rw [show (fun n => Scalar.select 0#1 (Y n) 0) = fun _ => (0 : EReal) from rfl, code_zero]
    rfl
  · subst h
    rw [hz, hq]
    exact code_nrm Y n _ rfl

theorem scale_wet (b : BitVec 1) (Y : Fin 3584 → EReal) (q : EReal) (hq : q = scale (nrm Y)) :
    Scalar.select b q (Ideal.ofBits .f32 0x3F800000#32) = scale (nrm (fun n => Scalar.select b (Y n) 0)) := by
  rcases BitVec.eq_zero_or_eq_one b with h | h
  · subst h
    rw [show (fun n => Scalar.select 0#1 (Y n) 0) = fun _ => (0 : EReal) from rfl, scale_zero]
    exact one32
  · subst h
    exact hq

/-- The stored scales of a block's rows. -/
theorem v1373_apply (i : grid0.Coords) (arg2 : Memref sig .tc .smem S16 .i32) (f2 : arg2.view.ty.Contents (Elt Ideal)) (r : Fin 256) :
    k0_pay60 (sound_any.sl.v1171 c i arg2 f2) (sound_any.sl.v1241 c arg3 arg4 arg8 arg9 arg10 arg16 f3 f4 f8 f9 f10) (ix2 0 r)
      = scale (nrm (Zrow i (arg2.view.read (Elt Ideal) f2) (arg3.view.read (Elt Ideal) f3) (arg4.view.read (Elt Ideal) f4) (arg8.view.read (Elt Ideal) f8) (arg9.view.read (Elt Ideal) f9) (arg10.view.read (Elt Ideal) f10) r)) := by
  rw [pay60_apply, v1171_apply]
  exact scale_wet _ _ _ (v1241_apply _ _ _ _ _ _ _ _ _ _ _ _ r)

/-- The newest of some stretches of columns written into a block, read where it lies. -/
theorem hit_cols {sp : Space} (v : View sig .tc sp S1x256x3584 .fp8e4m3) (f : v.ty.Contents (Elt Ideal)) (o : ℕ)
    (inb : ∀ a, (![0, 0, o] : Fin 3 → ℕ) a + S1x256x512.size a ≤ S1x256x3584.size a) (x : FVec Ideal S1x256x512 .fp8e4m3) (L : List (View.Piece (Elt Ideal) S1x256x3584 .fp8e4m3))
    (r : Fin 256) (j : Fin 512) (n : Fin 3584) (h : n.val = o + j.val) :
    v.read (Elt Ideal) (v.writes (Elt Ideal) f (⟨Rect.unit (s := S1x256x3584) ![0, 0, o] S1x256x512.size inb, x⟩ :: L)) (ix3 0 r n) = x (ix3 0 r j) := by
  refine View.read_writes_cons_hit_of_coords v f (Rect.unit (s := S1x256x3584) ![0, 0, o] S1x256x512.size inb) x L (ix3 0 r j) _ fun a => ?_
  fin_cases a
  · rfl
  · show r.val = 0 + 1 * r.val
    omega
  · show n.val = o + 1 * j.val
    omega

/-- Seven stretches of columns written into a block, read back. -/
theorem chunks_read {sp : Space} (v : View sig .tc sp S1x256x3584 .fp8e4m3) (f : v.ty.Contents (Elt Ideal)) (p : Fin 7 → FVec Ideal S1x256x512 .fp8e4m3) (r : Fin 256) (q : Fin 7) (j : Fin 512) :
    v.read (Elt Ideal) (v.writes (Elt Ideal) f [⟨Rect.unit (s := S1x256x3584) ![0, 0, 3072] S1x256x512.size inb_S1x256x3584_S1x256x512_0_0_3072, p 6⟩, ⟨Rect.unit (s := S1x256x3584) ![0, 0, 2560] S1x256x512.size inb_S1x256x3584_S1x256x512_0_0_2560, p 5⟩, ⟨Rect.unit (s := S1x256x3584) ![0, 0, 2048] S1x256x512.size inb_S1x256x3584_S1x256x512_0_0_2048, p 4⟩, ⟨Rect.unit (s := S1x256x3584) ![0, 0, 1536] S1x256x512.size inb_S1x256x3584_S1x256x512_0_0_1536, p 3⟩, ⟨Rect.unit (s := S1x256x3584) ![0, 0, 1024] S1x256x512.size inb_S1x256x3584_S1x256x512_0_0_1024, p 2⟩, ⟨Rect.unit (s := S1x256x3584) ![0, 0, 512] S1x256x512.size inb_S1x256x3584_S1x256x512_0_0_512, p 1⟩, ⟨Rect.unit (s := S1x256x3584) ![0, 0, 0] S1x256x512.size inb_S1x256x3584_S1x256x512_0_0_0, p 0⟩]) (ix3 0 r (at7 q j)) = p q (ix3 0 r j) := by
  fin_cases q
  · refine (View.read_writes_cons_miss_of_axis _ _ _ _ _ 2 3072 512 rfl rfl rfl (.inl ?_)).trans ?_
    · show 512 * 0 + j.val < 3072
      omega
    refine (View.read_writes_cons_miss_of_axis _ _ _ _ _ 2 2560 512 rfl rfl rfl (.inl ?_)).trans ?_
    · show 512 * 0 + j.val < 2560
      omega
    refine (View.read_writes_cons_miss_of_axis _ _ _ _ _ 2 2048 512 rfl rfl rfl (.inl ?_)).trans ?_
    · show 512 * 0 + j.val < 2048
      omega
    refine (View.read_writes_cons_miss_of_axis _ _ _ _ _ 2 1536 512 rfl rfl rfl (.inl ?_)).trans ?_
    · show 512 * 0 + j.val < 1536
      omega
    refine (View.read_writes_cons_miss_of_axis _ _ _ _ _ 2 1024 512 rfl rfl rfl (.inl ?_)).trans ?_
    · show 512 * 0 + j.val < 1024
      omega
    refine (View.read_writes_cons_miss_of_axis _ _ _ _ _ 2 512 512 rfl rfl rfl (.inl ?_)).trans ?_
    · show 512 * 0 + j.val < 512
      omega
    exact hit_cols v f 0 _ _ _ r j _ rfl
  · refine (View.read_writes_cons_miss_of_axis _ _ _ _ _ 2 3072 512 rfl rfl rfl (.inl ?_)).trans ?_
    · show 512 * 1 + j.val < 3072
      omega
    refine (View.read_writes_cons_miss_of_axis _ _ _ _ _ 2 2560 512 rfl rfl rfl (.inl ?_)).trans ?_
    · show 512 * 1 + j.val < 2560
      omega
    refine (View.read_writes_cons_miss_of_axis _ _ _ _ _ 2 2048 512 rfl rfl rfl (.inl ?_)).trans ?_
    · show 512 * 1 + j.val < 2048
      omega
    refine (View.read_writes_cons_miss_of_axis _ _ _ _ _ 2 1536 512 rfl rfl rfl (.inl ?_)).trans ?_
    · show 512 * 1 + j.val < 1536
      omega
    refine (View.read_writes_cons_miss_of_axis _ _ _ _ _ 2 1024 512 rfl rfl rfl (.inl ?_)).trans ?_
    · show 512 * 1 + j.val < 1024
      omega
    exact hit_cols v f 512 _ _ _ r j _ rfl
  · refine (View.read_writes_cons_miss_of_axis _ _ _ _ _ 2 3072 512 rfl rfl rfl (.inl ?_)).trans ?_
    · show 512 * 2 + j.val < 3072
      omega
    refine (View.read_writes_cons_miss_of_axis _ _ _ _ _ 2 2560 512 rfl rfl rfl (.inl ?_)).trans ?_
    · show 512 * 2 + j.val < 2560
      omega
    refine (View.read_writes_cons_miss_of_axis _ _ _ _ _ 2 2048 512 rfl rfl rfl (.inl ?_)).trans ?_
    · show 512 * 2 + j.val < 2048
      omega
    refine (View.read_writes_cons_miss_of_axis _ _ _ _ _ 2 1536 512 rfl rfl rfl (.inl ?_)).trans ?_
    · show 512 * 2 + j.val < 1536
      omega
    exact hit_cols v f 1024 _ _ _ r j _ rfl
  · refine (View.read_writes_cons_miss_of_axis _ _ _ _ _ 2 3072 512 rfl rfl rfl (.inl ?_)).trans ?_
    · show 512 * 3 + j.val < 3072
      omega
    refine (View.read_writes_cons_miss_of_axis _ _ _ _ _ 2 2560 512 rfl rfl rfl (.inl ?_)).trans ?_
    · show 512 * 3 + j.val < 2560
      omega
    refine (View.read_writes_cons_miss_of_axis _ _ _ _ _ 2 2048 512 rfl rfl rfl (.inl ?_)).trans ?_
    · show 512 * 3 + j.val < 2048
      omega
    exact hit_cols v f 1536 _ _ _ r j _ rfl
  · refine (View.read_writes_cons_miss_of_axis _ _ _ _ _ 2 3072 512 rfl rfl rfl (.inl ?_)).trans ?_
    · show 512 * 4 + j.val < 3072
      omega
    refine (View.read_writes_cons_miss_of_axis _ _ _ _ _ 2 2560 512 rfl rfl rfl (.inl ?_)).trans ?_
    · show 512 * 4 + j.val < 2560
      omega
    exact hit_cols v f 2048 _ _ _ r j _ rfl
  · refine (View.read_writes_cons_miss_of_axis _ _ _ _ _ 2 3072 512 rfl rfl rfl (.inl ?_)).trans ?_
    · show 512 * 5 + j.val < 3072
      omega
    exact hit_cols v f 2560 _ _ _ r j _ rfl
  · exact hit_cols v f 3072 _ _ _ r j _ rfl

variable (i : grid0.Coords) (arg2 : Memref sig .tc .smem S16 .i32) (f2 : arg2.view.ty.Contents (Elt Ideal))

theorem H14_eq : sound_any.sl.H14_7 c i arg2 arg3 arg4 arg8 arg9 arg10 arg16 arg18 f2 f3 f4 f8 f9 f10 = [⟨Rect.unit (s := S1x256x3584) ![0, 0, 3072] S1x256x512.size inb_S1x256x3584_S1x256x512_0_0_3072, k0_pay50 (sound_any.sl.v1171 c i arg2 f2) (sound_any.sl.v1247 c arg3 arg4 arg8 arg9 arg10 arg16 f3 f4 f8 f9 f10) (zc c arg3 arg4 arg8 arg9 arg10 arg16 f3 f4 f8 f9 f10 6)⟩,
    ⟨Rect.unit (s := S1x256x3584) ![0, 0, 2560] S1x256x512.size inb_S1x256x3584_S1x256x512_0_0_2560, k0_pay50 (sound_any.sl.v1171 c i arg2 f2) (sound_any.sl.v1247 c arg3 arg4 arg8 arg9 arg10 arg16 f3 f4 f8 f9 f10) (zc c arg3 arg4 arg8 arg9 arg10 arg16 f3 f4 f8 f9 f10 5)⟩,
    ⟨Rect.unit (s := S1x256x3584) ![0, 0, 2048] S1x256x512.size inb_S1x256x3584_S1x256x512_0_0_2048, k0_pay50 (sound_any.sl.v1171 c i arg2 f2) (sound_any.sl.v1247 c arg3 arg4 arg8 arg9 arg10 arg16 f3 f4 f8 f9 f10) (zc c arg3 arg4 arg8 arg9 arg10 arg16 f3 f4 f8 f9 f10 4)⟩,
    ⟨Rect.unit (s := S1x256x3584) ![0, 0, 1536] S1x256x512.size inb_S1x256x3584_S1x256x512_0_0_1536, k0_pay50 (sound_any.sl.v1171 c i arg2 f2) (sound_any.sl.v1247 c arg3 arg4 arg8 arg9 arg10 arg16 f3 f4 f8 f9 f10) (zc c arg3 arg4 arg8 arg9 arg10 arg16 f3 f4 f8 f9 f10 3)⟩,
    ⟨Rect.unit (s := S1x256x3584) ![0, 0, 1024] S1x256x512.size inb_S1x256x3584_S1x256x512_0_0_1024, k0_pay50 (sound_any.sl.v1171 c i arg2 f2) (sound_any.sl.v1247 c arg3 arg4 arg8 arg9 arg10 arg16 f3 f4 f8 f9 f10) (zc c arg3 arg4 arg8 arg9 arg10 arg16 f3 f4 f8 f9 f10 2)⟩,
    ⟨Rect.unit (s := S1x256x3584) ![0, 0, 512] S1x256x512.size inb_S1x256x3584_S1x256x512_0_0_512, k0_pay50 (sound_any.sl.v1171 c i arg2 f2) (sound_any.sl.v1247 c arg3 arg4 arg8 arg9 arg10 arg16 f3 f4 f8 f9 f10) (zc c arg3 arg4 arg8 arg9 arg10 arg16 f3 f4 f8 f9 f10 1)⟩,
    ⟨Rect.unit (s := S1x256x3584) ![0, 0, 0] S1x256x512.size inb_S1x256x3584_S1x256x512_0_0_0, k0_pay50 (sound_any.sl.v1171 c i arg2 f2) (sound_any.sl.v1247 c arg3 arg4 arg8 arg9 arg10 arg16 f3 f4 f8 f9 f10) (zc c arg3 arg4 arg8 arg9 arg10 arg16 f3 f4 f8 f9 f10 0)⟩] := by
  unfold sound_any.sl.H14_7 sound_any.sl.H14_5 sound_any.sl.H14_3 sound_any.sl.v1259 sound_any.sl.v1295 sound_any.sl.v1297 sound_any.sl.v1334
  rw [v1248_eq, v1263_eq, v1278_eq, v1293_eq, v1308_eq, v1323_eq, v1338_eq, pay49_eq, pay51_eq, pay55_eq, pay56_eq, pay58_eq, pay59_eq]
  rfl

theorem at7_surj (n : Fin 3584) : ∃ q j, n = at7 q j :=
  ⟨⟨n.val / 512, by omega⟩, ⟨n.val % 512, by omega⟩, Fin.ext (by show n.val = 512 * (n.val / 512) + n.val % 512; omega)⟩

/-- The block of normalised codes where the block reaches into the sequence. -/
theorem mv_in (arg14 : Memref sig .tc .vmem S1x256x3584 .fp8e4m3) (f14 : arg14.view.ty.Contents (Elt Ideal)) :
    IsMv (Zrow i (arg2.view.read (Elt Ideal) f2) (arg3.view.read (Elt Ideal) f3) (arg4.view.read (Elt Ideal) f4) (arg8.view.read (Elt Ideal) f8) (arg9.view.read (Elt Ideal) f9) (arg10.view.read (Elt Ideal) f10))
      (arg14.view.read (Elt Ideal) (arg14.view.writes (Elt Ideal) f14 (sound_any.sl.H14_7 c i arg2 arg3 arg4 arg8 arg9 arg10 arg16 arg18 f2 f3 f4 f8 f9 f10))) := by
  intro r n
  obtain ⟨q, j, rfl⟩ := at7_surj n
  rw [H14_eq]
  refine (chunks_read arg14.view f14 (fun q => k0_pay50 (sound_any.sl.v1171 c i arg2 f2) (sound_any.sl.v1247 c arg3 arg4 arg8 arg9 arg10 arg16 f3 f4 f8 f9 f10) (zc c arg3 arg4 arg8 arg9 arg10 arg16 f3 f4 f8 f9 f10 q)) r q j).trans ?_
  rw [pay50_apply]
  unfold mchunk
  rw [v1171_apply]
  exact code_wet _ _ _ _ _ (zc_apply _ _ _ _ _ _ _ _ _ _ _ _ q r j) (v1247_apply _ _ _ _ _ _ _ _ _ _ _ _ r)

end Cert.KernelIdeal.Val

end
-- ==== Proof.BodyPut.lean ====
/- What the body writes into the buffers of the results. -/
module

public import proofs.«01_k».proof.Proof.BodyOut

@[expose] public section

set_option maxRecDepth 16384
set_option maxHeartbeats 1000000

noncomputable section

namespace Cert.KernelIdeal.Val

open Idealize.ShloMosaic Idealize.ShloMosaic.TcCoe Cert.Spec Cert.Lanes
open Cert.KernelIdeal Cert.KernelIdeal.Gen Cert.KernelIdeal.Hand

/-- A row of an array of scales written at the block's place. -/
theorem row_put {sp : Space} (v : View sig .tc sp S16x2047 .f32) (f : v.ty.Contents (Elt Ideal)) (i : grid0.Coords) (g : Fin 256 → EReal) (w : ℕ) (off : Fin 2 → ℕ)
    (hoff : off = ![(i 0).val, 256 * (gi i).val]) (inb : ∀ a, off a + (⟨2, ![1, w]⟩ : Shape).size a ≤ S16x2047.size a) (x : FVec Ideal ⟨2, ![1, w]⟩ .f32)
    (hw : w = 256 ∨ (w = 255 ∧ (gi i).val = 7)) (hx : ∀ (k : Fin w) (h : k.val < 256), x (ix2 0 k) = g ⟨k.val, h⟩) :
    IsRow i g (v.read (Elt Ideal) f) (v.read (Elt Ideal) (v.writes (Elt Ideal) f [⟨Rect.unit (s := S16x2047) off (⟨2, ![1, w]⟩ : Shape).size inb, x⟩])) := by
  subst hoff
  intro b s
  have hs := s.isLt
  split
  · rename_i h
    have hk : s.val - 256 * (gi i).val < w := by omega
    refine (View.read_writes_cons_hit_of_coords v f (Rect.unit (s := S16x2047) ![(i 0).val, 256 * (gi i).val] (⟨2, ![1, w]⟩ : Shape).size inb) x [] (ix2 0 ⟨s.val - 256 * (gi i).val, hk⟩) (ix2 b s) fun a => ?_).trans (hx _ (by show s.val - 256 * (gi i).val < 256; omega))
    fin_cases a
    · show b.val = (i 0).val + 1 * 0
      rw [h.1]
      exact (Nat.add_zero _).symm
    · show s.val = 256 * (gi i).val + 1 * (s.val - 256 * (gi i).val)
      omega
  · rename_i h
    by_cases hb : b = gb i
    · refine View.read_writes_cons_miss_of_axis v f _ [] (ix2 b s) 1 (256 * (gi i).val) w rfl rfl rfl ?_
      show s.val < 256 * (gi i).val ∨ 256 * (gi i).val + w ≤ s.val
      have : ¬ (256 * (gi i).val ≤ s.val ∧ s.val < 256 * (gi i).val + 256) := fun hh => h ⟨hb, hh⟩
      omega
    · refine View.read_writes_cons_miss_of_axis v f _ [] (ix2 b s) 0 (i 0).val 1 rfl rfl rfl ?_
      show b.val < (i 0).val ∨ (i 0).val + 1 ≤ b.val
      have : b.val ≠ (i 0).val := fun hh => hb (Fin.ext hh)
      omega

/-- The body runs one of two branches: the block reaches into the sequence or does not. -/
theorem wet_cases (i : grid0.Coords) (v : BitVec 32) : (k0_cond9 i v = 1#1 ∧ ¬ k0_cond6 i v = 1#1) ∨ (¬ k0_cond9 i v = 1#1 ∧ k0_cond6 i v = 1#1) := by
  unfold k0_cond9 k0_cond6
  dsimp only
  generalize Scalar.cmpi .slt (Scalar.addi (Scalar.muli (BitVec.ofNat 32 (i 1).val) 256#32) 1#32) v = q
  rcases BitVec.eq_zero_or_eq_one q with h | h <;> subst h
  · exact .inr ⟨by decide, by decide⟩
  · exact .inl ⟨by decide, by decide⟩

/-- The block is the last of the sequence or is not. -/
theorem last_cases (i : grid0.Coords) : ((gi i).val = 7 ∧ k0_cond8 i = 1#1 ∧ ¬ k0_cond7 i = 1#1 ∧ k0_cond11 i = 1#1 ∧ ¬ k0_cond10 i = 1#1)
    ∨ ((gi i).val < 7 ∧ ¬ k0_cond8 i = 1#1 ∧ k0_cond7 i = 1#1 ∧ ¬ k0_cond11 i = 1#1 ∧ k0_cond10 i = 1#1) := by
  have key : ∀ i : grid0.Coords, ((gi i).val = 7 ∧ k0_cond8 i = 1#1 ∧ ¬ k0_cond7 i = 1#1 ∧ k0_cond11 i = 1#1 ∧ ¬ k0_cond10 i = 1#1)
    ∨ ((gi i).val < 7 ∧ ¬ k0_cond8 i = 1#1 ∧ k0_cond7 i = 1#1 ∧ ¬ k0_cond11 i = 1#1 ∧ k0_cond10 i = 1#1) := by decide +kernel
  exact key i

theorem toInt_small (n : ℕ) (h : n < 4096) : (BitVec.ofNat 32 n).toInt = (n : ℤ) := by
  rw [BitVec.toInt_eq_toNat_of_lt (by rw [BitVec.toNat_ofNat]; omega), BitVec.toNat_ofNat]
  congr 1
  omega

/-- A row's position in the sequence, as a word. -/
theorem pos_eq (i : grid0.Coords) (r : ℕ) : Scalar.muli (BitVec.ofNat 32 (i 1).val) 256#32 + 1#32 + BitVec.ofNat 32 r = BitVec.ofNat 32 (256 * (gi i).val + 1 + r) := by
  apply BitVec.eq_of_toNat_eq
  have h : (Scalar.muli (BitVec.ofNat 32 (i 1).val) 256#32) = BitVec.ofNat 32 (256 * (gi i).val) := by
    apply BitVec.eq_of_toNat_eq
    show (BitVec.ofNat 32 (i 1).val * 256#32).toNat = _
    rw [BitVec.toNat_mul]
    simp only [BitVec.toNat_ofNat]
    show ((gi i).val % 2 ^ 32 * (256 % 2 ^ 32)) % 2 ^ 32 = _
    omega
  rw [h]
  simp only [BitVec.toNat_add, BitVec.toNat_ofNat]
  omega

/-- Where the block does not reach into the sequence, none of its rows does. -/
theorem dry (i : grid0.Coords) (x2 : Vec Ideal S16 .i32) (h : ¬ k0_cond9 i (x2 (ix1 (gb i))) = 1#1) (r : Fin 256) : wet i x2 r = 0#1 := by
  unfold wet
  have hi := (gi i).isLt
  rw [pos_eq]
  have h0 : (x2 (ix1 (gb i))).toInt ≤ 256 * (gi i).val + 1 := by
    by_contra hc
    refine h ?_
    have hp := pos_eq i 0
    rw [show BitVec.ofNat 32 0 = 0#32 from rfl, BitVec.add_zero] at hp
    unfold k0_cond9
    dsimp only
    have e : Scalar.cmpi .slt (Scalar.addi (Scalar.muli (BitVec.ofNat 32 (i 1).val) 256#32) 1#32) (x2 (ix1 (gb i))) = 1#1 := by
      show BitVec.ofBool (BitVec.slt (Scalar.muli (BitVec.ofNat 32 (i 1).val) 256#32 + 1#32) (x2 (ix1 (gb i)))) = 1#1
      rw [hp, BitVec.slt_eq_decide, toInt_small _ (by omega), decide_eq_true (by push_cast; omega)]
      rfl
    rw [e]
    decide
  show BitVec.ofBool (BitVec.slt (BitVec.ofNat 32 (256 * (gi i).val + 1 + r.val)) (x2 (ix1 (gb i)))) = 0#1
  rw [BitVec.slt_eq_decide, toInt_small _ (by omega), decide_eq_false (by push_cast; omega)]
  rfl

theorem Zrow_dry (i : grid0.Coords) (x2 : Vec Ideal S16 .i32) (x3 : Vec Ideal S1x256x4096 .bf16) (x4 : Vec Ideal S1x16x4096 .bf16) (x8 : Vec Ideal S4096x3584 .fp8e4m3) (x9 x10 : Vec Ideal S1x3584 .f32)
    (h : ¬ k0_cond9 i (x2 (ix1 (gb i))) = 1#1) (r : Fin 256) : Zrow i x2 x3 x4 x8 x9 x10 r = fun _ => 0 := by
  funext n
  unfold Zrow
  rw [dry i x2 h r]
  rfl

theorem pay3_apply (r : Fin 256) : (k0_pay3 (F := Ideal)) (ix2 0 r) = Ideal.ofBits .f32 0x3F800000#32 := rfl
theorem pay4_apply (r : Fin 255) : (k0_pay4 (F := Ideal)) (ix2 0 r) = Ideal.ofBits .f32 0x3F800000#32 := rfl

theorem fp8_zero : Ideal.ofBits .fp8e4m3 0x00#8 = 0 := by
  simp [Ideal.ofBits, Ideal.e4m3fn]

variable (c : Dev nD) (arg3 : Memref sig .tc .vmem S1x256x4096 .bf16) (arg4 : Memref sig .tc .vmem S1x16x4096 .bf16)
  (arg8 : Memref sig .tc .vmem S4096x3584 .fp8e4m3) (arg9 arg10 : Memref sig .tc .vmem S1x3584 .f32)
  (arg16 : Memref sig .tc .vmem S1x256x4096 .fp8e4m3) (arg18 : Memref sig .tc .vmem S256x3584 .f32)
  (f3 : arg3.view.ty.Contents (Elt Ideal)) (f4 : arg4.view.ty.Contents (Elt Ideal)) (f8 : arg8.view.ty.Contents (Elt Ideal))
  (f9 : arg9.view.ty.Contents (Elt Ideal)) (f10 : arg10.view.ty.Contents (Elt Ideal))

variable (i : grid0.Coords) (arg2 : Memref sig .tc .smem S16 .i32) (f2 : arg2.view.ty.Contents (Elt Ideal))

/-- The block of codes. -/
theorem xc_put (f16 : arg16.view.ty.Contents (Elt Ideal)) : IsXc (xrow (arg3.view.read (Elt Ideal) f3) (arg4.view.read (Elt Ideal) f4))
    (arg16.view.read (Elt Ideal) (arg16.view.writes (Elt Ideal) f16 (sound_any.sl.H16_1 c arg3 arg4 f3 f4))) := by
  intro r d
  unfold sound_any.sl.H16_1
  refine (View.read_writes_cons_hit_of_coords arg16.view f16 (Rect.unit (s := S1x256x4096) ![0, 0, 0] S1x256x4096.size inb_S1x256x4096_S1x256x4096_0_0_0) _ [] (ix3 0 r d) (ix3 0 r d) fun a => ?_).trans (xcodes_apply c arg3 arg4 f3 f4 r d)
  fin_cases a
  · rfl
  · show r.val = 0 + 1 * r.val
    omega
  · show d.val = 0 + 1 * d.val
    omega

/-- The block of normalised codes where the block does not reach into the sequence. -/
theorem mv_out (arg14 : Memref sig .tc .vmem S1x256x3584 .fp8e4m3) (f14 : arg14.view.ty.Contents (Elt Ideal)) (h : ¬ k0_cond9 i (sound_any.sl.v1 c i arg2 f2) = 1#1) :
    IsMv (Zrow i (arg2.view.read (Elt Ideal) f2) (arg3.view.read (Elt Ideal) f3) (arg4.view.read (Elt Ideal) f4) (arg8.view.read (Elt Ideal) f8) (arg9.view.read (Elt Ideal) f9) (arg10.view.read (Elt Ideal) f10))
      (arg14.view.read (Elt Ideal) (arg14.view.writes (Elt Ideal) f14 sound_any.sl.H14_1)) := by
  intro r n
  rw [v1_eq] at h
  rw [Zrow_dry _ _ _ _ _ _ _ h, code_zero, clampQ_zero, ← fp8_zero, ← pay2_apply r n]
  unfold sound_any.sl.H14_1
  refine View.read_writes_cons_hit_of_coords arg14.view f14 (Rect.unit (s := S1x256x3584) ![0, 0, 0] S1x256x3584.size inb_S1x256x3584_S1x256x3584_0_0_0) _ [] (ix3 0 r n) (ix3 0 r n) fun a => ?_
  fin_cases a
  · rfl
  · show r.val = 0 + 1 * r.val
    omega
  · show n.val = 0 + 1 * n.val
    omega

/-- The scales of the normalised rows, written where the block reaches into the sequence. -/
theorem mvs_in (v : View sig .tc .vmem S16x2047 .f32) (f : v.ty.Contents (Elt Ideal))
    (inb : ∀ a, k0_off9 i a + S1x256.size a ≤ S16x2047.size a) :
    IsRow i (fun r => scale (nrm (Zrow i (arg2.view.read (Elt Ideal) f2) (arg3.view.read (Elt Ideal) f3) (arg4.view.read (Elt Ideal) f4) (arg8.view.read (Elt Ideal) f8) (arg9.view.read (Elt Ideal) f9) (arg10.view.read (Elt Ideal) f10) r))) (v.read (Elt Ideal) f) (v.read (Elt Ideal) (v.writes (Elt Ideal) f [⟨Rect.unit (s := S16x2047) (k0_off9 i) S1x256.size inb, (k0_pay60 (sound_any.sl.v1171 c i arg2 f2) (sound_any.sl.v1241 c arg3 arg4 arg8 arg9 arg10 arg16 f3 f4 f8 f9 f10))⟩])) := by
  exact row_put v f i _ 256 _ (k0_off9_eq i) inb _ (.inl rfl) fun k h => v1373_apply c arg3 arg4 arg8 arg9 arg10 arg16 f3 f4 f8 f9 f10 i arg2 f2 k

/-- The same at the last block, whose last row is not one of the array. -/
theorem mvs_in_last (v : View sig .tc .vmem S16x2047 .f32) (f : v.ty.Contents (Elt Ideal)) (hl : (gi i).val = 7)
    (inb : ∀ a, k0_off10 i a + S1x255.size a ≤ S16x2047.size a) :
    IsRow i (fun r => scale (nrm (Zrow i (arg2.view.read (Elt Ideal) f2) (arg3.view.read (Elt Ideal) f3) (arg4.view.read (Elt Ideal) f4) (arg8.view.read (Elt Ideal) f8) (arg9.view.read (Elt Ideal) f9) (arg10.view.read (Elt Ideal) f10) r))) (v.read (Elt Ideal) f) (v.read (Elt Ideal) (v.writes (Elt Ideal) f [⟨Rect.unit (s := S16x2047) (k0_off10 i) S1x255.size inb, k0_pay5 (sound_any.sl.v1373 c i arg2 arg3 arg4 arg8 arg9 arg10 arg16 f2 f3 f4 f8 f9 f10)⟩])) := by
  exact row_put v f i _ 255 _ (by rw [k0_off10_eq, hl]) inb _ (.inr ⟨rfl, hl⟩) fun k h => (pay5_apply _ k).trans (v1373_apply c arg3 arg4 arg8 arg9 arg10 arg16 f3 f4 f8 f9 f10 i arg2 f2 ⟨k.val, h⟩)

/-- The scales where the block does not reach into the sequence. -/
theorem mvs_out (v : View sig .tc .vmem S16x2047 .f32) (f : v.ty.Contents (Elt Ideal))  (h : ¬ k0_cond9 i (sound_any.sl.v1 c i arg2 f2) = 1#1)
    (inb : ∀ a, k0_off7 i a + S1x256.size a ≤ S16x2047.size a) :
    IsRow i (fun r => scale (nrm (Zrow i (arg2.view.read (Elt Ideal) f2) (arg3.view.read (Elt Ideal) f3) (arg4.view.read (Elt Ideal) f4) (arg8.view.read (Elt Ideal) f8) (arg9.view.read (Elt Ideal) f9) (arg10.view.read (Elt Ideal) f10) r))) (v.read (Elt Ideal) f) (v.read (Elt Ideal) (v.writes (Elt Ideal) f [⟨Rect.unit (s := S16x2047) (k0_off7 i) S1x256.size inb, (k0_pay3 : FVec Ideal S1x256 .f32)⟩])) := by
  rw [v1_eq] at h
  exact row_put v f i _ 256 _ (k0_off7_eq i) inb _ (.inl rfl) fun k _ => (pay3_apply k).trans (one32.trans (by rw [Zrow_dry _ _ _ _ _ _ _ h]; exact scale_zero.symm))

/-- The same at the last block. -/
theorem mvs_out_last (v : View sig .tc .vmem S16x2047 .f32) (f : v.ty.Contents (Elt Ideal)) (hl : (gi i).val = 7) (h : ¬ k0_cond9 i (sound_any.sl.v1 c i arg2 f2) = 1#1)
    (inb : ∀ a, k0_off8 i a + S1x255.size a ≤ S16x2047.size a) :
    IsRow i (fun r => scale (nrm (Zrow i (arg2.view.read (Elt Ideal) f2) (arg3.view.read (Elt Ideal) f3) (arg4.view.read (Elt Ideal) f4) (arg8.view.read (Elt Ideal) f8) (arg9.view.read (Elt Ideal) f9) (arg10.view.read (Elt Ideal) f10) r))) (v.read (Elt Ideal) f) (v.read (Elt Ideal) (v.writes (Elt Ideal) f [⟨Rect.unit (s := S16x2047) (k0_off8 i) S1x255.size inb, (k0_pay4 : FVec Ideal S1x255 .f32)⟩])) := by
  rw [v1_eq] at h
  exact row_put v f i _ 255 _ (by rw [k0_off8_eq, hl]) inb _ (.inr ⟨rfl, hl⟩) fun k _ => (pay4_apply k).trans (one32.trans (by rw [Zrow_dry _ _ _ _ _ _ _ h]; exact scale_zero.symm))

/-- The scales of the rows. -/
theorem xs_put (v : View sig .tc .vmem S16x2047 .f32) (f : v.ty.Contents (Elt Ideal))
    (inb : ∀ a, k0_off5 i a + S1x256.size a ≤ S16x2047.size a) :
    IsRow i (fun r => scale (xrow (arg3.view.read (Elt Ideal) f3) (arg4.view.read (Elt Ideal) f4) r)) (v.read (Elt Ideal) f) (v.read (Elt Ideal) (v.writes (Elt Ideal) f [⟨Rect.unit (s := S16x2047) (k0_off5 i) S1x256.size inb, k0_pay125 (sound_any.sl.v694 c arg3 f3) (sound_any.sl.v846 c arg4 f4)⟩])) := by
  exact row_put v f i _ 256 _ (k0_off5_eq i) inb _ (.inl rfl) fun k h => v897_apply c arg3 arg4 f3 f4 k

/-- The same at the last block. -/
theorem xs_put_last (v : View sig .tc .vmem S16x2047 .f32) (f : v.ty.Contents (Elt Ideal)) (hl : (gi i).val = 7)
    (inb : ∀ a, k0_off6 i a + S1x255.size a ≤ S16x2047.size a) :
    IsRow i (fun r => scale (xrow (arg3.view.read (Elt Ideal) f3) (arg4.view.read (Elt Ideal) f4) r)) (v.read (Elt Ideal) f) (v.read (Elt Ideal) (v.writes (Elt Ideal) f [⟨Rect.unit (s := S16x2047) (k0_off6 i) S1x255.size inb, k0_pay1 (sound_any.sl.v897 c arg3 arg4 f3 f4)⟩])) := by
  exact row_put v f i _ 255 _ (by rw [k0_off6_eq, hl]) inb _ (.inr ⟨rfl, hl⟩) fun k h => (pay1_apply _ k).trans (v897_apply c arg3 arg4 f3 f4 ⟨k.val, h⟩)

end Cert.KernelIdeal.Val

end
-- ==== Proof.Common.lean ====
/- The values of the results, as functions of the arguments. -/
module

public import proofs.«01_k».proof.Proof.Spec
public import Idealize.ShloMosaic.Lib.Pointwise.Index

@[expose] public section

noncomputable section

namespace Cert.Spec

open Idealize.ShloMosaic

/-- The row that a place of the results is about: the next row of the sequence. -/
def tok (x : (⟨3, ![16, 2048, 4096]⟩ : Shape).Idx → EReal) (b : Fin 16) (s : Fin 2047) (k : Fin 4096) : EReal := x (ix3 b ⟨s.val + 1, by omega⟩ k)

/-- The projected row, zero where its position is not below the length. -/
def prow (x : (⟨3, ![16, 2048, 4096]⟩ : Shape).Idx → EReal) (len : (⟨1, ![16]⟩ : Shape).Idx → BitVec 32) (w : (⟨2, ![4096, 3584]⟩ : Shape).Idx → EReal)
    (sc b' : (⟨1, ![3584]⟩ : Shape).Idx → EReal) (b : Fin 16) (s : Fin 2047) (n : Fin 3584) : EReal :=
  Scalar.select (IntOp.cmpi .slt (1#32 + BitVec.ofNat 32 s.val) (len (ix1 b))) (lin (tok x b s) (fun d => w (ix2 d n)) (sc (ix1 n)) (b' (ix1 n))) 0

end Cert.Spec

end
-- ==== Proof.HeadSpec.lean ====
/- The values of the dense result, of the token weights and of the lexical result, as functions of the arguments. -/
module

public import proofs.«01_k».proof.Proof.Common

@[expose] public section

noncomputable section

namespace Cert.Spec

open Idealize.ShloMosaic

/-- A batch row's first token, divided by its norm. -/
def dns (x : (⟨3, ![16, 2048, 4096]⟩ : Shape).Idx → EReal) (b : Fin 16) (k : Fin 4096) : EReal := nrm (fun k => x (ix3 b 0 k)) k

/-- A sum as a token weight: not below zero, and zero unless the position is at least one and below the length. -/
def twOf (s : BitVec 32) (len : BitVec 32) (v : EReal) : EReal :=
  Scalar.select (IntOp.cmpi .sge s 1#32 &&& IntOp.cmpi .slt s len) (max v 0) 0

/-- A token's weight. -/
def tww (x : (⟨3, ![16, 2048, 4096]⟩ : Shape).Idx → EReal) (len : (⟨1, ![16]⟩ : Shape).Idx → BitVec 32) (ws : (⟨1, ![4096]⟩ : Shape).Idx → EReal)
    (bs : (⟨1, ![1]⟩ : Shape).Idx → EReal) (b : Fin 16) (s : Fin 2048) : EReal :=
  twOf (BitVec.ofNat 32 s.val) (len (ix1 b)) ((∑ k : Fin 4096, x (ix3 b s k) * ws (ix1 k)) + bs (ix1 0))

/-- What a token of weight `v` at place `p` adds to place `j` of the lexical row. -/
def hitOf (p : BitVec 32) (j : Fin 2048) (v : EReal) : EReal := Scalar.select (IntOp.cmpi .eq p (BitVec.ofNat 32 j.val)) v 0

/-- The lexical row: the largest weight of the tokens at each place. -/
def lexv (fp : (⟨2, ![16, 2048]⟩ : Shape).Idx → BitVec 32) (w : Fin 16 → Fin 2048 → EReal) (b : Fin 16) (j : Fin 2048) : EReal :=
  (Finset.univ : Finset (Fin 2048)).sup fun s => hitOf (fp (ix2 b s)) j (w b s)

theorem twOf_nonneg (s len : BitVec 32) (v : EReal) : 0 ≤ twOf s len v := by
  unfold twOf Scalar.select
  split
  · exact le_max_right _ _
  · exact le_rfl

theorem hitOf_nonneg (p : BitVec 32) (j : Fin 2048) (v : EReal) (h : 0 ≤ v) : 0 ≤ hitOf p j v := by
  unfold hitOf Scalar.select
  split
  · exact h
  · exact le_rfl

end Cert.Spec

end
-- ==== Proof.BodyHead.lean ====
/- The dense result and the token weights, as the body computes them from a block of rows. -/
module

public import proofs.«01_k».proof.Proof.BodyPut
public import proofs.«01_k».proof.Proof.HeadSpec

@[expose] public section

set_option maxRecDepth 16384
set_option maxHeartbeats 1000000

noncomputable section

namespace Cert.KernelIdeal.Val

open Idealize.ShloMosaic Idealize.ShloMosaic.TcCoe Cert.Spec Cert.Lanes
open Cert.KernelIdeal Cert.KernelIdeal.Gen Cert.KernelIdeal.Hand

theorem pay63_apply (x : Vec Ideal S1x1x4096 .bf16) (k : Fin 4096) : k0_pay63 x (ix2 0 k) = nrm (fun k => x (ix3 0 0 k)) k := by
  pointwise [k0_pay63]
  rfl

/-- The array of dense rows has the block's at its row where the block is the first, and is otherwise as it was. -/
def IsDense (i : grid0.Coords) (x3 : Vec Ideal S1x256x4096 .bf16) (Y y : Vec Ideal S16x4096 .f32) : Prop :=
  ∀ (b : Fin 16) (k : Fin 4096), y (ix2 b k) = if b = gb i ∧ (gi i).val = 0 then nrm (fun k => x3 (ix3 0 0 k)) k else Y (ix2 b k)

/-- The first block is told by its number. -/
theorem cond2_iff : ∀ i : grid0.Coords, k0_cond2 i = 1#1 ↔ (gi i).val = 0 := by decide +kernel

theorem dense_put {sp : Space} (arg3 : Memref sig .tc .vmem S1x256x4096 .bf16) (f3 : arg3.view.ty.Contents (Elt Ideal)) (i : grid0.Coords) (hc : k0_cond2 i = 1#1)
    (v : View sig .tc sp S16x4096 .f32) (f : v.ty.Contents (Elt Ideal)) (inb : ∀ a, k0_off2 i a + S1x4096.size a ≤ S16x4096.size a)
    (inb3 : ∀ a, (![0, 0, 0] : Fin 3 → ℕ) a + S1x1x4096.size a ≤ S1x256x4096.size a) :
    IsDense i (arg3.view.read (Elt Ideal) f3) (v.read (Elt Ideal) f) (v.read (Elt Ideal) (v.writes (Elt Ideal) f [⟨Rect.unit (s := S16x4096) (k0_off2 i) S1x4096.size inb,
      k0_pay63 (View.readAt (Elt Ideal) arg3.view (Rect.unit (s := S1x256x4096) ![0, 0, 0] S1x1x4096.size inb3).toLoadRect f3)⟩])) := by
  have hoff := k0_off2_eq i
  generalize k0_off2 i = off at *
  subst hoff
  intro b k
  have h0 := (cond2_iff i).1 hc
  by_cases hb : b = gb i
  · rw [if_pos ⟨hb, h0⟩]
    refine (View.read_writes_cons_hit_of_coords v f (Rect.unit (s := S16x4096) ![(i 0).val, 0] S1x4096.size inb) _ [] (ix2 0 k) (ix2 b k) fun a => ?_).trans ((pay63_apply _ k).trans ?_)
    · fin_cases a
      · show b.val = (i 0).val + 1 * 0
        rw [hb]
        exact (Nat.add_zero _).symm
      · show k.val = 0 + 1 * k.val
        omega
    · refine congrArg (fun g => nrm g k) (funext fun k => congrArg (arg3.view.read (Elt Ideal) f3) (funext fun a => Fin.ext ?_))
      fin_cases a
      · rfl
      · rfl
      · show 0 + 1 * k.val = k.val
        omega
  · rw [if_neg fun h => hb h.1]
    refine View.read_writes_cons_miss_of_axis v f _ [] (ix2 b k) 0 (i 0).val 1 rfl rfl rfl ?_
    show b.val < (i 0).val ∨ (i 0).val + 1 ≤ b.val
    have : b.val ≠ (i 0).val := fun hh => hb (Fin.ext hh)
    omega

theorem dense_keep (i : grid0.Coords) (x3 : Vec Ideal S1x256x4096 .bf16) (hc : ¬ k0_cond2 i = 1#1) (Y : Vec Ideal S16x4096 .f32) : IsDense i x3 Y Y := by
  intro b k
  rw [if_neg fun h => hc ((cond2_iff i).2 h.2)]

/-- A token's weight, from the block's rows. -/
def twk (i : grid0.Coords) (x2 : Vec Ideal S16 .i32) (x3 : Vec Ideal S1x256x4096 .bf16) (x6 : Vec Ideal S1x4096 .f32) (x7 : Vec Ideal S1 .f32) (r : Fin 256) : EReal :=
  twOf (Scalar.muli (BitVec.ofNat 32 (i 1).val) 256#32 + BitVec.ofNat 32 r.val) (x2 (ix1 (gb i))) ((∑ k : Fin 4096, x3 (ix3 0 r k) * x6 (ix2 0 k)) + x7 (ix1 0))

/-- An array of rows has the block's weights at the block's place and is otherwise as it was. -/
def IsTw (i : grid0.Coords) (g : Fin 256 → EReal) (Y y : Vec Ideal S16x2048 .f32) : Prop :=
  ∀ (b : Fin 16) (s : Fin 2048), y (ix2 b s) = if h : b = gb i ∧ 256 * (gi i).val ≤ s.val ∧ s.val < 256 * (gi i).val + 256 then g ⟨s.val - 256 * (gi i).val, by omega⟩ else Y (ix2 b s)

theorem tw_row_put {sp : Space} (v : View sig .tc sp S16x2048 .f32) (f : v.ty.Contents (Elt Ideal)) (i : grid0.Coords) (g : Fin 256 → EReal) (off : Fin 2 → ℕ)
    (hoff : off = ![(i 0).val, 256 * (gi i).val]) (inb : ∀ a, off a + S1x256.size a ≤ S16x2048.size a) (x : FVec Ideal S1x256 .f32)
    (hx : ∀ k : Fin 256, x (ix2 0 k) = g k) :
    IsTw i g (v.read (Elt Ideal) f) (v.read (Elt Ideal) (v.writes (Elt Ideal) f [⟨Rect.unit (s := S16x2048) off S1x256.size inb, x⟩])) := by
  subst hoff
  intro b s
  have hs := s.isLt
  split
  · rename_i h
    have hk : s.val - 256 * (gi i).val < 256 := by omega
    refine (View.read_writes_cons_hit_of_coords v f (Rect.unit (s := S16x2048) ![(i 0).val, 256 * (gi i).val] S1x256.size inb) x [] (ix2 0 ⟨s.val - 256 * (gi i).val, hk⟩) (ix2 b s) fun a => ?_).trans (hx _)
    fin_cases a
    · show b.val = (i 0).val + 1 * 0
      rw [h.1]
      exact (Nat.add_zero _).symm
    · show s.val = 256 * (gi i).val + 1 * (s.val - 256 * (gi i).val)
      omega
  · rename_i h
    by_cases hb : b = gb i
    · refine View.read_writes_cons_miss_of_axis v f _ [] (ix2 b s) 1 (256 * (gi i).val) 256 rfl rfl rfl ?_
      show s.val < 256 * (gi i).val ∨ 256 * (gi i).val + 256 ≤ s.val
      have : ¬ (256 * (gi i).val ≤ s.val ∧ s.val < 256 * (gi i).val + 256) := fun hh => h ⟨hb, hh⟩
      omega
    · refine View.read_writes_cons_miss_of_axis v f _ [] (ix2 b s) 0 (i 0).val 1 rfl rfl rfl ?_
      show b.val < (i 0).val ∨ (i 0).val + 1 ≤ b.val
      have : b.val ≠ (i 0).val := fun hh => hb (Fin.ext hh)
      omega

end Cert.KernelIdeal.Val

end
-- ==== Proof.BodyTw.lean ====
/- The token weights, which the body sums from 32 stretches of 128 columns. -/
module

public import proofs.«01_k».proof.Proof.BodyHead

@[expose] public section

set_option maxRecDepth 16384
set_option maxHeartbeats 1000000

noncomputable section

namespace Cert.KernelIdeal.Val

open Idealize.ShloMosaic Idealize.ShloMosaic.TcCoe Cert.Spec Cert.Lanes
open Cert.KernelIdeal Cert.KernelIdeal.Gen Cert.KernelIdeal.Hand

theorem pay64_apply (x : Vec Ideal S1x256x4096 .bf16) (a b c : Vec Ideal S1x128 .f32) (r : Fin 256) (j : Fin 128) : k0_pay64 x a b c (ix2 r j) = x (ix3 0 r (at32 0 j)) * a (ix2 0 j) + x (ix3 0 r (at32 1 j)) * b (ix2 0 j) + x (ix3 0 r (at32 2 j)) * c (ix2 0 j) := by
  unfold k0_pay64
  have h := fun k => pay62_apply x r k
  generalize k0_pay62 x = v at *
  pointwise
  simp only [h]
  rw [show at32 0 j = ⟨j.val, by omega⟩ from Fin.ext (Nat.zero_add _)]
  rfl

theorem pay65_apply (x : Vec Ideal S1x256x4096 .bf16) (a : Vec Ideal S1x128 .f32) (r : Fin 256) (j : Fin 128) : k0_pay65 x a (ix2 r j) = x (ix3 0 r (at32 3 j)) * a (ix2 0 j) := by
  unfold k0_pay65
  have h := fun k => pay62_apply x r k
  generalize k0_pay62 x = v at *
  pointwise
  simp only [h]
  rfl

theorem pay66_apply (v : FVec Ideal S256x4096 .bf16) (p q : FVec Ideal S256x128 .f32) (a b c d e f : Vec Ideal S1x128 .f32) (r : Fin 256) (j : Fin 128) : k0_pay66 v p q a b c d e f (ix2 r j) = p (ix2 r j) + q (ix2 r j) + v (ix2 r (at32 4 j)) * a (ix2 0 j) + v (ix2 r (at32 5 j)) * b (ix2 0 j) + v (ix2 r (at32 6 j)) * c (ix2 0 j) + v (ix2 r (at32 7 j)) * d (ix2 0 j) + v (ix2 r (at32 8 j)) * e (ix2 0 j) + v (ix2 r (at32 9 j)) * f (ix2 0 j) := by
  pointwise [k0_pay66]
  rfl

theorem pay67_apply (v : FVec Ideal S256x4096 .bf16) (r : Fin 256) (j : Fin 128) : k0_pay67 v (ix2 r j) = v (ix2 r (at32 10 j)) := by
  pointwise [k0_pay67]
  rfl

theorem pay69_apply (v : FVec Ideal S256x4096 .bf16) (r : Fin 256) (j : Fin 128) : k0_pay69 v (ix2 r j) = v (ix2 r (at32 17 j)) := by
  pointwise [k0_pay69]
  rfl

theorem pay73_apply (v : FVec Ideal S256x4096 .bf16) (r : Fin 256) (j : Fin 128) : k0_pay73 v (ix2 r j) = v (ix2 r (at32 30 j)) := by
  pointwise [k0_pay73]
  rfl

theorem pay68_apply (v : FVec Ideal S256x4096 .bf16) (p q : FVec Ideal S256x128 .f32) (a b c d e f g : Vec Ideal S1x128 .f32) (r : Fin 256) (j : Fin 128) : k0_pay68 v p q a b c d e f g (ix2 r j) = p (ix2 r j) + q (ix2 r j) * a (ix2 0 j) + v (ix2 r (at32 11 j)) * b (ix2 0 j) + v (ix2 r (at32 12 j)) * c (ix2 0 j) + v (ix2 r (at32 13 j)) * d (ix2 0 j) + v (ix2 r (at32 14 j)) * e (ix2 0 j) + v (ix2 r (at32 15 j)) * f (ix2 0 j) + v (ix2 r (at32 16 j)) * g (ix2 0 j) := by
  pointwise [k0_pay68]
  rfl

theorem pay70_apply (v : FVec Ideal S256x4096 .bf16) (p q : FVec Ideal S256x128 .f32) (a b c d e f : Vec Ideal S1x128 .f32) (r : Fin 256) (j : Fin 128) : k0_pay70 v p q a b c d e f (ix2 r j) = p (ix2 r j) + q (ix2 r j) * a (ix2 0 j) + v (ix2 r (at32 18 j)) * b (ix2 0 j) + v (ix2 r (at32 19 j)) * c (ix2 0 j) + v (ix2 r (at32 20 j)) * d (ix2 0 j) + v (ix2 r (at32 21 j)) * e (ix2 0 j) + v (ix2 r (at32 22 j)) * f (ix2 0 j) := by
  pointwise [k0_pay70]
  rfl

theorem pay71_apply (v : FVec Ideal S256x4096 .bf16) (a : Vec Ideal S1x128 .f32) (r : Fin 256) (j : Fin 128) : k0_pay71 v a (ix2 r j) = v (ix2 r (at32 23 j)) * a (ix2 0 j) := by
  pointwise [k0_pay71]
  rfl

theorem pay72_apply (v : FVec Ideal S256x4096 .bf16) (p q : FVec Ideal S256x128 .f32) (a b c d e f : Vec Ideal S1x128 .f32) (r : Fin 256) (j : Fin 128) : k0_pay72 v p q a b c d e f (ix2 r j) = p (ix2 r j) + q (ix2 r j) + v (ix2 r (at32 24 j)) * a (ix2 0 j) + v (ix2 r (at32 25 j)) * b (ix2 0 j) + v (ix2 r (at32 26 j)) * c (ix2 0 j) + v (ix2 r (at32 27 j)) * d (ix2 0 j) + v (ix2 r (at32 28 j)) * e (ix2 0 j) + v (ix2 r (at32 29 j)) * f (ix2 0 j) := by
  pointwise [k0_pay72]
  rfl

theorem pay74_apply (v1 : BitVec 32) (v2 : BitVec 32) (v7 : FVec Ideal S256x4096 .bf16) (v221 v223 : FVec Ideal S256x128 .f32) (v224 v231 : Vec Ideal S1x128 .f32) (v238 : EReal) (r : Fin 256) :
    k0_pay74 v1 v2 v7 v221 v223 v224 v231 v238 (ix2 r 0)
      = twOf (v2 + BitVec.ofNat 32 r.val) v1 ((∑ j : Fin 128, (v221 (ix2 r j) + v223 (ix2 r j) * v224 (ix2 0 j) + v7 (ix2 r (at32 31 j)) * v231 (ix2 0 j))) + v238) := by
  pointwise [k0_pay74]
  rfl

theorem pay75_apply (v1 : BitVec 32) (v2 : BitVec 32) (v7 : FVec Ideal S256x4096 .bf16) (v221 v223 : FVec Ideal S256x128 .f32) (v224 v231 : Vec Ideal S1x128 .f32) (v238 : EReal) (r : Fin 256) :
    k0_pay75 v1 v2 v7 v221 v223 v224 v231 v238 (ix2 0 r) = k0_pay74 v1 v2 v7 v221 v223 v224 v231 v238 (ix2 r 0) := by
  unfold k0_pay75
  generalize k0_pay74 v1 v2 v7 v221 v223 v224 v231 v238 = g
  pointwise
  have hot : ∀ (a : ℕ) (f : Fin 128 → EReal) (ha : a < 128), (∑ x : Fin 128, Scalar.select (IntOp.cmpi CmpIPredicate.eq (BitVec.ofNat 32 x.val) (BitVec.ofNat 32 a)) (f x) 0) = f ⟨a, ha⟩ := by
    intro a f ha
    rw [Finset.sum_eq_single ⟨a, ha⟩]
    · simp [IntOp.cmpi, Scalar.select]
    · intro x _ hx
      have hne : ¬ BitVec.ofNat 32 x.val = BitVec.ofNat 32 a := fun h => hx (Fin.ext (by
        have := congrArg BitVec.toNat h
        simp only [BitVec.toNat_ofNat] at this
        show x.val = a
        omega))
      have hb : (BitVec.ofNat 32 x.val == BitVec.ofNat 32 a) = false := beq_eq_false_iff_ne.2 hne
      simp only [IntOp.cmpi, Scalar.select, hb]
      rfl
    · simp
  split
  · rename_i hr
    exact hot r.val (fun x => g (ix2 ⟨x.val, by omega⟩ 0)) hr
  · rename_i hr
    refine (hot (r.val - 128) (fun x => g (ix2 ⟨128 + x.val, by omega⟩ 0)) (by omega)).trans ?_
    exact congrArg (fun z => g (ix2 z 0)) (Fin.ext (by show 128 + (r.val - 128) = r.val; omega))

/-- The products of one row with the weights. -/
def prodAt (x3 : Vec Ideal S1x256x4096 .bf16) (x6 : Vec Ideal S1x4096 .f32) (r : Fin 256) (j : Fin 128) (q : Fin 32) : EReal :=
  x3 (ix3 0 r (at32 q j)) * x6 (ix2 0 (at32 q j))

variable (c : Dev nD) (arg3 : Memref sig .tc .vmem S1x256x4096 .bf16) (arg6 : Memref sig .tc .vmem S1x4096 .f32) (f3 : arg3.view.ty.Contents (Elt Ideal)) (f6 : arg6.view.ty.Contents (Elt Ideal))

omit c arg3 f3 in
theorem rd6 (q : Fin 32) (o : ℕ) (ho : o = 128 * q.val) (inb : ∀ a, (![0, o] : Fin 2 → ℕ) a + S1x128.size a ≤ S1x4096.size a) (j : Fin 128) :
    View.readAt (Elt Ideal) arg6.view (Rect.unit (s := S1x4096) ![0, o] S1x128.size inb).toLoadRect f6 (ix2 0 j) = arg6.view.read (Elt Ideal) f6 (ix2 0 (at32 q j)) := by
  subst ho
  refine congrArg (arg6.view.read (Elt Ideal) f6) (funext fun a => Fin.ext ?_)
  fin_cases a
  · rfl
  · show 128 * q.val + 1 * j.val = 128 * q.val + j.val
    omega

omit arg6 f6 in
theorem rd3 (r : Fin 256) (k : Fin 4096) (inb : ∀ a, (![0, 0, 0] : Fin 3 → ℕ) a + S1x256x4096.size a ≤ S1x256x4096.size a) :
    View.readAt (Elt Ideal) arg3.view (Rect.unit (s := S1x256x4096) ![0, 0, 0] S1x256x4096.size inb).toLoadRect f3 (ix3 0 r k) = arg3.view.read (Elt Ideal) f3 (ix3 0 r k) := by
  refine congrArg (arg3.view.read (Elt Ideal) f3) (funext fun a => Fin.ext ?_)
  fin_cases a
  · rfl
  · show 0 + 1 * r.val = r.val
    omega
  · show 0 + 1 * k.val = k.val
    omega

theorem v32_apply (r : Fin 256) (j : Fin 128) : sound_any.sl.v32 c arg3 arg6 f3 f6 (ix2 r j) =
    (fun P : Fin 32 → EReal => P 0 + P 1 + P 2) (prodAt (arg3.view.read (Elt Ideal) f3) (arg6.view.read (Elt Ideal) f6) r j) := by
  unfold sound_any.sl.v32
  rw [pay64_apply, rd3, rd3, rd3]
  rw [rd6 arg6 f6 0 0 rfl, rd6 arg6 f6 1 128 rfl, rd6 arg6 f6 2 256 rfl]
  rfl

theorem v38_apply (r : Fin 256) (j : Fin 128) : sound_any.sl.v38 c arg3 arg6 f3 f6 (ix2 r j) =
    (fun P : Fin 32 → EReal => P 3) (prodAt (arg3.view.read (Elt Ideal) f3) (arg6.view.read (Elt Ideal) f6) r j) := by
  unfold sound_any.sl.v38
  rw [pay65_apply, rd3]
  rw [rd6 arg6 f6 3 384 rfl]
  rfl

theorem v81_apply (r : Fin 256) (j : Fin 128) : sound_any.sl.v81 c arg3 arg6 f3 f6 (ix2 r j) =
    (fun P : Fin 32 → EReal => P 0 + P 1 + P 2 + P 3 + P 4 + P 5 + P 6 + P 7 + P 8 + P 9) (prodAt (arg3.view.read (Elt Ideal) f3) (arg6.view.read (Elt Ideal) f6) r j) := by
  unfold sound_any.sl.v81
  rw [pay66_apply, v32_apply, v38_apply, v7_apply, v7_apply, v7_apply, v7_apply, v7_apply, v7_apply]
  rw [rd6 arg6 f6 4 512 rfl, rd6 arg6 f6 5 640 rfl, rd6 arg6 f6 6 768 rfl, rd6 arg6 f6 7 896 rfl, rd6 arg6 f6 8 1024 rfl, rd6 arg6 f6 9 1152 rfl]
  rfl

theorem v130_apply (r : Fin 256) (j : Fin 128) : sound_any.sl.v130 c arg3 arg6 f3 f6 (ix2 r j) =
    (fun P : Fin 32 → EReal => P 0 + P 1 + P 2 + P 3 + P 4 + P 5 + P 6 + P 7 + P 8 + P 9 + P 10 + P 11 + P 12 + P 13 + P 14 + P 15 + P 16) (prodAt (arg3.view.read (Elt Ideal) f3) (arg6.view.read (Elt Ideal) f6) r j) := by
  unfold sound_any.sl.v130
  rw [pay68_apply, v81_apply, show sound_any.sl.v83 c arg3 f3 (ix2 r j) = _ from pay67_apply _ r j, show sound_any.sl.v84 c arg6 f6 (ix2 0 j) = _ from rd6 arg6 f6 10 1280 rfl _ j, v7_apply, v7_apply, v7_apply, v7_apply, v7_apply, v7_apply, v7_apply]
  rw [rd6 arg6 f6 11 1408 rfl, rd6 arg6 f6 12 1536 rfl, rd6 arg6 f6 13 1664 rfl, rd6 arg6 f6 14 1792 rfl, rd6 arg6 f6 15 1920 rfl, rd6 arg6 f6 16 2048 rfl]
  rfl

theorem v172_apply (r : Fin 256) (j : Fin 128) : sound_any.sl.v172 c arg3 arg6 f3 f6 (ix2 r j) =
    (fun P : Fin 32 → EReal => P 0 + P 1 + P 2 + P 3 + P 4 + P 5 + P 6 + P 7 + P 8 + P 9 + P 10 + P 11 + P 12 + P 13 + P 14 + P 15 + P 16 + P 17 + P 18 + P 19 + P 20 + P 21 + P 22) (prodAt (arg3.view.read (Elt Ideal) f3) (arg6.view.read (Elt Ideal) f6) r j) := by
  unfold sound_any.sl.v172
  rw [pay70_apply, v130_apply, show sound_any.sl.v132 c arg3 f3 (ix2 r j) = _ from pay69_apply _ r j, v7_apply, v7_apply, v7_apply, v7_apply, v7_apply, v7_apply]
  rw [rd6 arg6 f6 17 2176 rfl, rd6 arg6 f6 18 2304 rfl, rd6 arg6 f6 19 2432 rfl, rd6 arg6 f6 20 2560 rfl, rd6 arg6 f6 21 2688 rfl, rd6 arg6 f6 22 2816 rfl]
  rfl

theorem v178_apply (r : Fin 256) (j : Fin 128) : sound_any.sl.v178 c arg3 arg6 f3 f6 (ix2 r j) =
    (fun P : Fin 32 → EReal => P 23) (prodAt (arg3.view.read (Elt Ideal) f3) (arg6.view.read (Elt Ideal) f6) r j) := by
  unfold sound_any.sl.v178
  rw [pay71_apply, v7_apply]
  rw [rd6 arg6 f6 23 2944 rfl]
  rfl

theorem v221_apply (r : Fin 256) (j : Fin 128) : sound_any.sl.v221 c arg3 arg6 f3 f6 (ix2 r j) =
    (fun P : Fin 32 → EReal => P 0 + P 1 + P 2 + P 3 + P 4 + P 5 + P 6 + P 7 + P 8 + P 9 + P 10 + P 11 + P 12 + P 13 + P 14 + P 15 + P 16 + P 17 + P 18 + P 19 + P 20 + P 21 + P 22 + P 23 + P 24 + P 25 + P 26 + P 27 + P 28 + P 29) (prodAt (arg3.view.read (Elt Ideal) f3) (arg6.view.read (Elt Ideal) f6) r j) := by
  unfold sound_any.sl.v221
  rw [pay72_apply, v172_apply, v178_apply, v7_apply, v7_apply, v7_apply, v7_apply, v7_apply, v7_apply]
  rw [rd6 arg6 f6 24 3072 rfl, rd6 arg6 f6 25 3200 rfl, rd6 arg6 f6 26 3328 rfl, rd6 arg6 f6 27 3456 rfl, rd6 arg6 f6 28 3584 rfl, rd6 arg6 f6 29 3712 rfl]
  rfl

variable (i : grid0.Coords) (arg2 : Memref sig .tc .smem S16 .i32) (arg7 : Memref sig .tc .smem S1 .f32) (f2 : arg2.view.ty.Contents (Elt Ideal)) (f7 : arg7.view.ty.Contents (Elt Ideal))

omit arg3 arg6 f3 f6 in
theorem v238_eq : sound_any.sl.v238 c arg7 f7 = arg7.view.read (Elt Ideal) f7 (ix1 0) := by
  unfold sound_any.sl.v238
  refine congrArg (arg7.view.read (Elt Ideal) f7) (funext fun a => Fin.ext ?_)
  fin_cases a
  rfl

/-- A token's weight. -/
theorem v252_apply (r : Fin 256) : sound_any.sl.v252 c i arg2 arg3 arg6 arg7 f2 f3 f6 f7 (ix2 r 0)
    = twk i (arg2.view.read (Elt Ideal) f2) (arg3.view.read (Elt Ideal) f3) (arg6.view.read (Elt Ideal) f6) (arg7.view.read (Elt Ideal) f7) r := by
  unfold sound_any.sl.v252
  rw [pay74_apply, v1_eq, v238_eq]
  refine congrArg (fun z : EReal => twOf (Scalar.muli (BitVec.ofNat 32 (i 1).val) 256#32 + BitVec.ofNat 32 r.val) (arg2.view.read (Elt Ideal) f2 (ix1 (gb i))) (z + arg7.view.read (Elt Ideal) f7 (ix1 0))) ?_
  rw [sum_split (show 4096 = 32 * 128 from rfl) at32 (fun _ _ => rfl), Finset.sum_comm]
  refine Finset.sum_congr rfl fun j _ => ?_
  rw [v221_apply, show sound_any.sl.v223 c arg3 f3 (ix2 r j) = _ from pay73_apply _ r j, show sound_any.sl.v224 c arg6 f6 (ix2 0 j) = _ from rd6 arg6 f6 30 3840 rfl _ j,
    v7_apply, v7_apply, rd6 arg6 f6 31 3968 rfl]
  show _ = ∑ q, prodAt (arg3.view.read (Elt Ideal) f3) (arg6.view.read (Elt Ideal) f6) r j q
  simp only [Fin.sum_univ_castSucc, Fin.sum_univ_zero, zero_add]
  rfl

theorem tw_put {sp : Space} (v : View sig .tc sp S16x2048 .f32) (f : v.ty.Contents (Elt Ideal)) :
    IsTw i (twk i (arg2.view.read (Elt Ideal) f2) (arg3.view.read (Elt Ideal) f3) (arg6.view.read (Elt Ideal) f6) (arg7.view.read (Elt Ideal) f7)) (v.read (Elt Ideal) f)
      (v.read (Elt Ideal) (v.writes (Elt Ideal) f (sound_any.sl.H13_1 c i arg2 arg3 arg6 arg7 f2 f3 f6 f7))) := by
  refine tw_row_put v f i _ _ (k0_off3_eq i) _ _ fun k => ?_
  unfold sound_any.sl.v271
  rw [pay75_apply]
  exact v252_apply c arg3 arg6 f3 f6 i arg2 arg7 f2 f7 k

end Cert.KernelIdeal.Val

end
-- ==== Proof.BodyLex.lean ====
/- The lexical row, which the body keeps as a running maximum over a batch row's blocks. -/
module

public import proofs.«01_k».proof.Proof.BodyTw

@[expose] public section

set_option maxRecDepth 16384
set_option maxHeartbeats 1000000

noncomputable section

namespace Cert.KernelIdeal.Val

open Idealize.ShloMosaic Idealize.ShloMosaic.TcCoe Cert.Spec Cert.Lanes
open Cert.KernelIdeal Cert.KernelIdeal.Gen Cert.KernelIdeal.Hand

/-- A 32-bit integer survives the way to a number and back. -/
theorem fptosi_sitofp (z : BitVec 32) : FloatOps.fptosi (F := Ideal) (φ := .f32) 32 (FloatOps.sitofp .f32 z) = z := by
  show Ideal.fptosi 32 (((z.toInt : ℝ)) : EReal) = z
  unfold Ideal.fptosi
  rw [Ideal.toIntClamped_coe]
  have h1 := z.toInt_lt
  have h2 := z.le_toInt
  norm_num at h1 h2
  have h3 : (if (0 : ℝ) ≤ (z.toInt : ℝ) then ⌊(z.toInt : ℝ)⌋ else ⌈(z.toInt : ℝ)⌉) = z.toInt := by
    split
    · exact Int.floor_intCast _
    · exact Int.ceil_intCast _
  rw [h3]
  show BitVec.ofInt 32 (max (-2147483648) (min 2147483647 z.toInt)) = z
  rw [min_eq_right (by omega), max_eq_right (by omega)]
  exact BitVec.ofInt_toInt

/-- The row of places turned into a column. -/
theorem pay76_apply (x : Vec Ideal S1x1x256 .i32) (r : Fin 256) : k0_pay76 (F := Ideal) x (ix2 r 0) = x (ix3 0 0 r) := by
  pointwise [k0_pay76]
  have hot : ∀ (a : ℕ) (f : Fin 128 → EReal) (ha : a < 128), (∑ x : Fin 128, Scalar.select (IntOp.cmpi CmpIPredicate.eq (BitVec.ofNat 32 a) (BitVec.ofNat 32 x.val)) (f x) 0) = f ⟨a, ha⟩ := by
    intro a f ha
    rw [Finset.sum_eq_single ⟨a, ha⟩]
    · simp [IntOp.cmpi, Scalar.select]
    · intro x _ hx
      have hne : ¬ BitVec.ofNat 32 a = BitVec.ofNat 32 x.val := fun h => hx (Fin.ext (by
        have := congrArg BitVec.toNat h
        simp only [BitVec.toNat_ofNat] at this
        show x.val = a
        omega))
      have hb : (BitVec.ofNat 32 a == BitVec.ofNat 32 x.val) = false := beq_eq_false_iff_ne.2 hne
      simp only [IntOp.cmpi, Scalar.select, hb]
      rfl
    · simp
  split
  · rename_i hr
    rw [hot r.val (fun y => FloatOps.sitofp (F := Ideal) .f32 (x (ix3 0 0 ⟨y.val, by omega⟩))) hr]
    exact fptosi_sitofp _
  · rename_i hr
    rw [hot (r.val - 128) (fun y => FloatOps.sitofp (F := Ideal) .f32 (x (ix3 0 0 ⟨128 + y.val, by omega⟩))) (by omega), fptosi_sitofp]
    exact congrArg (fun k => x (ix3 0 0 k)) (Fin.ext (by show 128 + (r.val - 128) = r.val; omega))

/-- The largest of what the block's tokens add to one place. -/
def lexMx (w : FVec Ideal S256x1 .f32) (f : IVec S256x1 32) (o : BitVec 32) (j : Fin 128) : EReal :=
  (Finset.univ : Finset (Fin 256)).fold max (Ideal.ofBits .f32 0xFF800000#32) fun r =>
    Scalar.select (IntOp.cmpi .eq (f (ix2 r 0)) (IntOp.addi o (BitVec.ofNat 32 j.val))) (w (ix2 r 0)) 0

theorem pay77_apply (w : FVec Ideal S256x1 .f32) (x : Vec Ideal S1x1x256 .i32) (old : Vec Ideal S1x128 .f32) (j : Fin 128) : k0_pay77 w x old (ix2 0 j) = max (old (ix2 0 j)) (lexMx w (k0_pay76 (F := Ideal) x) 0#32 j) := by
  unfold k0_pay77
  generalize k0_pay76 (F := Ideal) x = g
  pointwise
  rfl

theorem pay80_apply (w : FVec Ideal S256x1 .f32) (f : IVec S256x1 32) (old : Vec Ideal S1x128 .f32) (j : Fin 128) : k0_pay80 w f old (ix2 0 j) = max (old (ix2 0 j)) (lexMx w f 256#32 j) := by
  pointwise [k0_pay80]
  rfl

theorem pay83_apply (w : FVec Ideal S256x1 .f32) (f : IVec S256x1 32) (old : Vec Ideal S1x128 .f32) (j : Fin 128) : k0_pay83 w f old (ix2 0 j) = max (old (ix2 0 j)) (lexMx w f 512#32 j) := by
  pointwise [k0_pay83]
  rfl

theorem pay84_apply (w : FVec Ideal S256x1 .f32) (f : IVec S256x1 32) (old : Vec Ideal S1x128 .f32) (j : Fin 128) : k0_pay84 w f old (ix2 0 j) = max (old (ix2 0 j)) (lexMx w f 640#32 j) := by
  pointwise [k0_pay84]
  rfl

theorem pay87_apply (w : FVec Ideal S256x1 .f32) (f : IVec S256x1 32) (old : Vec Ideal S1x128 .f32) (j : Fin 128) : k0_pay87 w f old (ix2 0 j) = max (old (ix2 0 j)) (lexMx w f 896#32 j) := by
  pointwise [k0_pay87]
  rfl

theorem pay90_apply (w : FVec Ideal S256x1 .f32) (f : IVec S256x1 32) (old : Vec Ideal S1x128 .f32) (j : Fin 128) : k0_pay90 w f old (ix2 0 j) = max (old (ix2 0 j)) (lexMx w f 1152#32 j) := by
  pointwise [k0_pay90]
  rfl

theorem pay91_apply (w : FVec Ideal S256x1 .f32) (f : IVec S256x1 32) (old : Vec Ideal S1x128 .f32) (j : Fin 128) : k0_pay91 w f old (ix2 0 j) = max (old (ix2 0 j)) (lexMx w f 1280#32 j) := by
  pointwise [k0_pay91]
  rfl

theorem pay94_apply (w : FVec Ideal S256x1 .f32) (f : IVec S256x1 32) (old : Vec Ideal S1x128 .f32) (j : Fin 128) : k0_pay94 w f old (ix2 0 j) = max (old (ix2 0 j)) (lexMx w f 1536#32 j) := by
  pointwise [k0_pay94]
  rfl

theorem pay97_apply (w : FVec Ideal S256x1 .f32) (f : IVec S256x1 32) (old : Vec Ideal S1x128 .f32) (j : Fin 128) : k0_pay97 w f old (ix2 0 j) = max (old (ix2 0 j)) (lexMx w f 1792#32 j) := by
  pointwise [k0_pay97]
  rfl

theorem pay98_apply (w : FVec Ideal S256x1 .f32) (f : IVec S256x1 32) (old : Vec Ideal S1x128 .f32) (j : Fin 128) : k0_pay98 w f old (ix2 0 j) = max (old (ix2 0 j)) (lexMx w f 1920#32 j) := by
  pointwise [k0_pay98]
  rfl

theorem pay79_apply (w : FVec Ideal S256x1 .f32) (f : IVec S256x1 32) (old : Vec Ideal S1x128 .f32) (j : Fin 128) : k0_pay79 w f (iota .tc S256x128 32 [1] iota_S256x128_d1_w32) k0_pay78 old (ix2 0 j) = max (old (ix2 0 j)) (lexMx w f 128#32 j) := by
  pointwise [k0_pay79, k0_pay78]
  rfl

theorem pay86_apply (w : FVec Ideal S256x1 .f32) (f : IVec S256x1 32) (old : Vec Ideal S1x128 .f32) (j : Fin 128) : k0_pay86 w f (iota .tc S256x128 32 [1] iota_S256x128_d1_w32) k0_pay85 old (ix2 0 j) = max (old (ix2 0 j)) (lexMx w f 768#32 j) := by
  pointwise [k0_pay86, k0_pay85]
  rfl

theorem pay93_apply (w : FVec Ideal S256x1 .f32) (f : IVec S256x1 32) (old : Vec Ideal S1x128 .f32) (j : Fin 128) : k0_pay93 w f (iota .tc S256x128 32 [1] iota_S256x128_d1_w32) k0_pay92 old (ix2 0 j) = max (old (ix2 0 j)) (lexMx w f 1408#32 j) := by
  pointwise [k0_pay93, k0_pay92]
  rfl

theorem pay82_apply (w : FVec Ideal S256x1 .f32) (f : IVec S256x1 32) (old : Vec Ideal S1x128 .f32) (j : Fin 128) : k0_pay82 (k0_pay81 w f) old (ix2 0 j) = max (old (ix2 0 j)) (lexMx w f 384#32 j) := by
  pointwise [k0_pay82, k0_pay81]
  rfl

theorem pay89_apply (w : FVec Ideal S256x1 .f32) (f : IVec S256x1 32) (old : Vec Ideal S1x128 .f32) (j : Fin 128) : k0_pay89 (k0_pay88 w f) old (ix2 0 j) = max (old (ix2 0 j)) (lexMx w f 1024#32 j) := by
  pointwise [k0_pay89, k0_pay88]
  rfl

theorem pay96_apply (w : FVec Ideal S256x1 .f32) (f : IVec S256x1 32) (old : Vec Ideal S1x128 .f32) (j : Fin 128) : k0_pay96 (k0_pay95 w f) old (ix2 0 j) = max (old (ix2 0 j)) (lexMx w f 1664#32 j) := by
  pointwise [k0_pay96, k0_pay95]
  rfl

/-- Column `j` of stretch `p` of the lexical row. -/
def at16 (p : Fin 16) (j : Fin 128) : Fin 2048 := ⟨128 * p.val + j.val, by omega⟩

/-- The lexical row before the block: zero at the first block. -/
def lexOld (i : grid0.Coords) (y : Vec Ideal S1x2048 .f32) (j : Fin 2048) : EReal := if (gi i).val = 0 then 0 else y (ix2 0 j)

/-- The lexical row after the block. -/
def lexNew (i : grid0.Coords) (fp : Vec Ideal S1x1x256 .i32) (g : Fin 256 → EReal) (y : Vec Ideal S1x2048 .f32) (j : Fin 2048) : EReal :=
  max (lexOld i y j) ((Finset.univ : Finset (Fin 256)).sup fun r => hitOf (fp (ix3 0 0 r)) j (g r))

theorem lexMx_eq (w : FVec Ideal S256x1 .f32) (f : IVec S256x1 32) (fp : Vec Ideal S1x1x256 .i32) (g : Fin 256 → EReal) (hw : ∀ r, w (ix2 r 0) = g r) (hf : ∀ r, f (ix2 r 0) = fp (ix3 0 0 r))
    (p : Fin 16) (o : BitVec 32) (ho : o = BitVec.ofNat 32 (128 * p.val)) (j : Fin 128) :
    lexMx w f o j = (Finset.univ : Finset (Fin 256)).sup fun r => hitOf (fp (ix3 0 0 r)) (at16 p j) (g r) := by
  subst ho
  unfold lexMx
  rw [botE]
  simp only [hw, hf]
  have : IntOp.addi (BitVec.ofNat 32 (128 * p.val)) (BitVec.ofNat 32 j.val) = BitVec.ofNat 32 (at16 p j).val := (BitVec.ofNat_add _ _).symm
  rw [this]
  rfl

theorem pay61_apply (j : Fin 2048) : k0_pay61 (F := Ideal) (ix2 0 j) = (0 : EReal) := by
  pointwise [k0_pay61]

variable (arg19 : Memref sig .tc .vmem S1x2048 .f32) (f19 : arg19.view.ty.Contents (Elt Ideal)) (i : grid0.Coords)

theorem rd19 (p : Fin 16) (o : ℕ) (ho : o = 128 * p.val) (inb : ∀ a, (![0, o] : Fin 2 → ℕ) a + S1x128.size a ≤ S1x2048.size a) (inb' : ∀ a, (![0, 0] : Fin 2 → ℕ) a + S1x2048.size a ≤ S1x2048.size a) (j : Fin 128) :
    View.readAt (Elt Ideal) arg19.view (Rect.unit (s := S1x2048) ![0, o] S1x128.size inb).toLoadRect
      (if hc : k0_cond2 i = 1#1 then arg19.view.writes (Elt Ideal) f19 [⟨Rect.unit (s := S1x2048) ![0, 0] S1x2048.size inb', k0_pay61 (F := Ideal)⟩] else f19) (ix2 0 j)
      = lexOld i (arg19.view.read (Elt Ideal) f19) (at16 p j) := by
  subst ho
  have hidx : (Rect.unit (s := S1x2048) ![0, 128 * p.val] S1x128.size inb).toLoadRect.idx (ix2 0 j) = ix2 0 (at16 p j) := funext fun a => Fin.ext (by
    fin_cases a
    · rfl
    · show 128 * p.val + 1 * j.val = 128 * p.val + j.val
      omega)
  show arg19.view.read (Elt Ideal) _ ((Rect.unit (s := S1x2048) ![0, 128 * p.val] S1x128.size inb).toLoadRect.idx (ix2 0 j)) = _
  rw [hidx]
  unfold lexOld
  by_cases hc : k0_cond2 i = 1#1
  · rw [dif_pos hc, if_pos ((cond2_iff i).1 hc)]
    refine (View.read_writes_cons_hit_of_coords arg19.view f19 (Rect.unit (s := S1x2048) ![0, 0] S1x2048.size inb') _ [] (ix2 0 (at16 p j)) (ix2 0 (at16 p j)) fun a => ?_).trans (pay61_apply _)
    fin_cases a
    · rfl
    · show (at16 p j).val = 0 + 1 * (at16 p j).val
      omega
  · rw [dif_neg hc, if_neg fun h => hc ((cond2_iff i).2 h)]

/-- The stores so far give the first `n` columns. -/
def LexTo (v : View sig .tc .vmem S1x2048 .f32) (g : Fin 2048 → EReal) (L : List (View.Piece (Elt Ideal) S1x2048 .f32)) (n : ℕ) : Prop :=
  ∀ (f : v.ty.Contents (Elt Ideal)) (j : Fin 2048), j.val < n → v.read (Elt Ideal) (v.writes (Elt Ideal) f L) (ix2 0 j) = g j

theorem lex_step (v : View sig .tc .vmem S1x2048 .f32) (g : Fin 2048 → EReal) (L : List (View.Piece (Elt Ideal) S1x2048 .f32)) (p : Fin 16) (o : ℕ) (ho : o = 128 * p.val)
    (inb : ∀ a, (![0, o] : Fin 2 → ℕ) a + S1x128.size a ≤ S1x2048.size a) (x : FVec Ideal S1x128 .f32) (hx : ∀ j, x (ix2 0 j) = g (at16 p j)) (h : LexTo v g L o) :
    LexTo v g (⟨Rect.unit (s := S1x2048) ![0, o] S1x128.size inb, x⟩ :: L) (o + 128) := by
  subst ho
  intro f j hj
  by_cases hlt : j.val < 128 * p.val
  · refine (View.read_writes_cons_miss_of_axis v f _ L (ix2 0 j) 1 (128 * p.val) 128 rfl rfl rfl (Or.inl hlt)).trans (h f j hlt)
  · refine (View.read_writes_cons_hit_of_coords v f (Rect.unit (s := S1x2048) ![0, 128 * p.val] S1x128.size inb) x L (ix2 0 ⟨j.val - 128 * p.val, by omega⟩) (ix2 0 j) fun a => ?_).trans ((hx _).trans (congrArg g (Fin.ext ?_)))
    · fin_cases a
      · rfl
      · show j.val = 128 * p.val + 1 * (j.val - 128 * p.val)
        omega
    · show 128 * p.val + (j.val - 128 * p.val) = j.val
      omega

variable (c : Dev nD) (arg3 : Memref sig .tc .vmem S1x256x4096 .bf16) (arg6 : Memref sig .tc .vmem S1x4096 .f32) (f3 : arg3.view.ty.Contents (Elt Ideal)) (f6 : arg6.view.ty.Contents (Elt Ideal))
  (arg2 : Memref sig .tc .smem S16 .i32) (arg7 : Memref sig .tc .smem S1 .f32) (f2 : arg2.view.ty.Contents (Elt Ideal)) (f7 : arg7.view.ty.Contents (Elt Ideal))
  (arg5 : Memref sig .tc .vmem S1x1x256 .i32) (f5 : arg5.view.ty.Contents (Elt Ideal))

theorem rd5 (r : Fin 256) (inb : ∀ a, (![0, 0, 0] : Fin 3 → ℕ) a + S1x1x256.size a ≤ S1x1x256.size a) :
    View.readAt (Elt Ideal) arg5.view (Rect.unit (s := S1x1x256) ![0, 0, 0] S1x1x256.size inb).toLoadRect f5 (ix3 0 0 r) = arg5.view.read (Elt Ideal) f5 (ix3 0 0 r) := by
  refine congrArg (arg5.view.read (Elt Ideal) f5) (funext fun a => Fin.ext ?_)
  fin_cases a
  · rfl
  · rfl
  · show 0 + 1 * r.val = r.val
    omega

theorem v298_apply (r : Fin 256) : sound_any.sl.v298 (F := Ideal) c arg5 f5 (ix2 r 0) = arg5.view.read (Elt Ideal) f5 (ix3 0 0 r) := by
  unfold sound_any.sl.v298
  rw [pay76_apply, rd5]

/-- The lexical row after the block, from what the body reads. -/
abbrev lexN : Fin 2048 → EReal := lexNew i (arg5.view.read (Elt Ideal) f5) (twk i (arg2.view.read (Elt Ideal) f2) (arg3.view.read (Elt Ideal) f3) (arg6.view.read (Elt Ideal) f6) (arg7.view.read (Elt Ideal) f7)) (arg19.view.read (Elt Ideal) f19)

/-- One stretch's payload. -/
theorem lex_pay (p : Fin 16) (j : Fin 128) (z old : EReal) (o : BitVec 32) (ho : o = BitVec.ofNat 32 (128 * p.val)) (f : IVec S256x1 32) (hf : ∀ r, f (ix2 r 0) = arg5.view.read (Elt Ideal) f5 (ix3 0 0 r))
    (hz : z = max old (lexMx (sound_any.sl.v252 c i arg2 arg3 arg6 arg7 f2 f3 f6 f7) f o j)) (hold : old = lexOld i (arg19.view.read (Elt Ideal) f19) (at16 p j)) :
    z = lexN arg19 f19 i arg3 arg6 f3 f6 arg2 arg7 f2 f7 arg5 f5 (at16 p j) := by
  rw [hz, hold, lexMx_eq _ _ (arg5.view.read (Elt Ideal) f5) _ (v252_apply c arg3 arg6 f3 f6 i arg2 arg7 f2 f7) hf p o ho j]
  rfl

theorem lexTo_1 : LexTo arg19.view (lexN arg19 f19 i arg3 arg6 f3 f6 arg2 arg7 f2 f7 arg5 f5) (sound_any.sl.H19_1 c i arg2 arg3 arg5 arg6 arg7 arg19 f2 f3 f5 f6 f7 f19) 128 :=
  lex_step arg19.view _ _ 0 0 rfl _ _
      (fun j => lex_pay arg19 f19 i c arg3 arg6 f3 f6 arg2 arg7 f2 f7 arg5 f5 0 j _ _ 0#32 rfl _ (v298_apply c arg5 f5) (pay77_apply _ _ _ j) (show sound_any.sl.v310 (F := Ideal) c i arg19 f19 (ix2 0 j) = _ from rd19 arg19 f19 i 0 0 rfl _ _ j)) (fun _ _ h => absurd h (Nat.not_lt_zero _))

theorem lexTo_3 : LexTo arg19.view (lexN arg19 f19 i arg3 arg6 f3 f6 arg2 arg7 f2 f7 arg5 f5) (sound_any.sl.H19_3 c i arg2 arg3 arg5 arg6 arg7 arg19 f2 f3 f5 f6 f7 f19) 384 :=
  lex_step arg19.view _ _ 2 256 rfl _ _
      (fun j => lex_pay arg19 f19 i c arg3 arg6 f3 f6 arg2 arg7 f2 f7 arg5 f5 2 j _ _ 256#32 rfl _ (v298_apply c arg5 f5) (pay80_apply _ _ _ j) (show sound_any.sl.v342 (F := Ideal) c i arg19 f19 (ix2 0 j) = _ from rd19 arg19 f19 i 2 256 rfl _ _ j)) (lex_step arg19.view _ _ 1 128 rfl _ _
      (fun j => lex_pay arg19 f19 i c arg3 arg6 f3 f6 arg2 arg7 f2 f7 arg5 f5 1 j _ _ 128#32 rfl _ (v298_apply c arg5 f5) (pay79_apply _ _ _ j) (show sound_any.sl.v326 (F := Ideal) c i arg19 f19 (ix2 0 j) = _ from rd19 arg19 f19 i 1 128 rfl _ _ j)) (lexTo_1 arg19 f19 i c arg3 arg6 f3 f6 arg2 arg7 f2 f7 arg5 f5))

theorem lexTo_6 : LexTo arg19.view (lexN arg19 f19 i arg3 arg6 f3 f6 arg2 arg7 f2 f7 arg5 f5) (sound_any.sl.H19_6 c i arg2 arg3 arg5 arg6 arg7 arg19 f2 f3 f5 f6 f7 f19) 768 :=
  lex_step arg19.view _ _ 5 640 rfl _ _
      (fun j => lex_pay arg19 f19 i c arg3 arg6 f3 f6 arg2 arg7 f2 f7 arg5 f5 5 j _ _ 640#32 rfl _ (v298_apply c arg5 f5) (pay84_apply _ _ _ j) (show sound_any.sl.v390 (F := Ideal) c i arg19 f19 (ix2 0 j) = _ from rd19 arg19 f19 i 5 640 rfl _ _ j)) (lex_step arg19.view _ _ 4 512 rfl _ _
      (fun j => lex_pay arg19 f19 i c arg3 arg6 f3 f6 arg2 arg7 f2 f7 arg5 f5 4 j _ _ 512#32 rfl _ (v298_apply c arg5 f5) (pay83_apply _ _ _ j) (show sound_any.sl.v374 (F := Ideal) c i arg19 f19 (ix2 0 j) = _ from rd19 arg19 f19 i 4 512 rfl _ _ j)) (lex_step arg19.view _ _ 3 384 rfl _ _
      (fun j => lex_pay arg19 f19 i c arg3 arg6 f3 f6 arg2 arg7 f2 f7 arg5 f5 3 j _ _ 384#32 rfl _ (v298_apply c arg5 f5) (pay82_apply _ _ _ j) (show sound_any.sl.v358 (F := Ideal) c i arg19 f19 (ix2 0 j) = _ from rd19 arg19 f19 i 3 384 rfl _ _ j)) (lexTo_3 arg19 f19 i c arg3 arg6 f3 f6 arg2 arg7 f2 f7 arg5 f5)))

theorem lexTo_8 : LexTo arg19.view (lexN arg19 f19 i arg3 arg6 f3 f6 arg2 arg7 f2 f7 arg5 f5) (sound_any.sl.H19_8 c i arg2 arg3 arg5 arg6 arg7 arg19 f2 f3 f5 f6 f7 f19) 1024 :=
  lex_step arg19.view _ _ 7 896 rfl _ _
      (fun j => lex_pay arg19 f19 i c arg3 arg6 f3 f6 arg2 arg7 f2 f7 arg5 f5 7 j _ _ 896#32 rfl _ (v298_apply c arg5 f5) (pay87_apply _ _ _ j) (show sound_any.sl.v422 (F := Ideal) c i arg19 f19 (ix2 0 j) = _ from rd19 arg19 f19 i 7 896 rfl _ _ j)) (lex_step arg19.view _ _ 6 768 rfl _ _
      (fun j => lex_pay arg19 f19 i c arg3 arg6 f3 f6 arg2 arg7 f2 f7 arg5 f5 6 j _ _ 768#32 rfl _ (v298_apply c arg5 f5) (pay86_apply _ _ _ j) (show sound_any.sl.v406 (F := Ideal) c i arg19 f19 (ix2 0 j) = _ from rd19 arg19 f19 i 6 768 rfl _ _ j)) (lexTo_6 arg19 f19 i c arg3 arg6 f3 f6 arg2 arg7 f2 f7 arg5 f5))

theorem lexTo_11 : LexTo arg19.view (lexN arg19 f19 i arg3 arg6 f3 f6 arg2 arg7 f2 f7 arg5 f5) (sound_any.sl.H19_11 c i arg2 arg3 arg5 arg6 arg7 arg19 f2 f3 f5 f6 f7 f19) 1408 :=
  lex_step arg19.view _ _ 10 1280 rfl _ _
      (fun j => lex_pay arg19 f19 i c arg3 arg6 f3 f6 arg2 arg7 f2 f7 arg5 f5 10 j _ _ 1280#32 rfl _ (v298_apply c arg5 f5) (pay91_apply _ _ _ j) (show sound_any.sl.v470 (F := Ideal) c i arg19 f19 (ix2 0 j) = _ from rd19 arg19 f19 i 10 1280 rfl _ _ j)) (lex_step arg19.view _ _ 9 1152 rfl _ _
      (fun j => lex_pay arg19 f19 i c arg3 arg6 f3 f6 arg2 arg7 f2 f7 arg5 f5 9 j _ _ 1152#32 rfl _ (v298_apply c arg5 f5) (pay90_apply _ _ _ j) (show sound_any.sl.v454 (F := Ideal) c i arg19 f19 (ix2 0 j) = _ from rd19 arg19 f19 i 9 1152 rfl _ _ j)) (lex_step arg19.view _ _ 8 1024 rfl _ _
      (fun j => lex_pay arg19 f19 i c arg3 arg6 f3 f6 arg2 arg7 f2 f7 arg5 f5 8 j _ _ 1024#32 rfl _ (v298_apply c arg5 f5) (pay89_apply _ _ _ j) (show sound_any.sl.v438 (F := Ideal) c i arg19 f19 (ix2 0 j) = _ from rd19 arg19 f19 i 8 1024 rfl _ _ j)) (lexTo_8 arg19 f19 i c arg3 arg6 f3 f6 arg2 arg7 f2 f7 arg5 f5)))

theorem lexTo_13 : LexTo arg19.view (lexN arg19 f19 i arg3 arg6 f3 f6 arg2 arg7 f2 f7 arg5 f5) (sound_any.sl.H19_13 c i arg2 arg3 arg5 arg6 arg7 arg19 f2 f3 f5 f6 f7 f19) 1664 :=
  lex_step arg19.view _ _ 12 1536 rfl _ _
      (fun j => lex_pay arg19 f19 i c arg3 arg6 f3 f6 arg2 arg7 f2 f7 arg5 f5 12 j _ _ 1536#32 rfl _ (v298_apply c arg5 f5) (pay94_apply _ _ _ j) (show sound_any.sl.v502 (F := Ideal) c i arg19 f19 (ix2 0 j) = _ from rd19 arg19 f19 i 12 1536 rfl _ _ j)) (lex_step arg19.view _ _ 11 1408 rfl _ _
      (fun j => lex_pay arg19 f19 i c arg3 arg6 f3 f6 arg2 arg7 f2 f7 arg5 f5 11 j _ _ 1408#32 rfl _ (v298_apply c arg5 f5) (pay93_apply _ _ _ j) (show sound_any.sl.v486 (F := Ideal) c i arg19 f19 (ix2 0 j) = _ from rd19 arg19 f19 i 11 1408 rfl _ _ j)) (lexTo_11 arg19 f19 i c arg3 arg6 f3 f6 arg2 arg7 f2 f7 arg5 f5))

theorem lexTo_16 : LexTo arg19.view (lexN arg19 f19 i arg3 arg6 f3 f6 arg2 arg7 f2 f7 arg5 f5) (sound_any.sl.H19_16 c i arg2 arg3 arg5 arg6 arg7 arg19 f2 f3 f5 f6 f7 f19) 2048 :=
  lex_step arg19.view _ _ 15 1920 rfl _ _
      (fun j => lex_pay arg19 f19 i c arg3 arg6 f3 f6 arg2 arg7 f2 f7 arg5 f5 15 j _ _ 1920#32 rfl _ (v298_apply c arg5 f5) (pay98_apply _ _ _ j) (show sound_any.sl.v550 (F := Ideal) c i arg19 f19 (ix2 0 j) = _ from rd19 arg19 f19 i 15 1920 rfl _ _ j)) (lex_step arg19.view _ _ 14 1792 rfl _ _
      (fun j => lex_pay arg19 f19 i c arg3 arg6 f3 f6 arg2 arg7 f2 f7 arg5 f5 14 j _ _ 1792#32 rfl _ (v298_apply c arg5 f5) (pay97_apply _ _ _ j) (show sound_any.sl.v534 (F := Ideal) c i arg19 f19 (ix2 0 j) = _ from rd19 arg19 f19 i 14 1792 rfl _ _ j)) (lex_step arg19.view _ _ 13 1664 rfl _ _
      (fun j => lex_pay arg19 f19 i c arg3 arg6 f3 f6 arg2 arg7 f2 f7 arg5 f5 13 j _ _ 1664#32 rfl _ (v298_apply c arg5 f5) (pay96_apply _ _ _ j) (show sound_any.sl.v518 (F := Ideal) c i arg19 f19 (ix2 0 j) = _ from rd19 arg19 f19 i 13 1664 rfl _ _ j)) (lexTo_13 arg19 f19 i c arg3 arg6 f3 f6 arg2 arg7 f2 f7 arg5 f5)))

theorem lex_row (f : arg19.view.ty.Contents (Elt Ideal)) (j : Fin 2048) :
    arg19.view.read (Elt Ideal) (arg19.view.writes (Elt Ideal) f (sound_any.sl.H19_16 c i arg2 arg3 arg5 arg6 arg7 arg19 f2 f3 f5 f6 f7 f19)) (ix2 0 j) = lexN arg19 f19 i arg3 arg6 f3 f6 arg2 arg7 f2 f7 arg5 f5 j :=
  lexTo_16 arg19 f19 i c arg3 arg6 f3 f6 arg2 arg7 f2 f7 arg5 f5 f j j.isLt

theorem v911_apply (j : Fin 2048) : sound_any.sl.v911 c i arg2 arg3 arg5 arg6 arg7 arg19 f2 f3 f5 f6 f7 f19 (ix2 0 j) = lexN arg19 f19 i arg3 arg6 f3 f6 arg2 arg7 f2 f7 arg5 f5 j := by
  refine Eq.trans ?_ (lex_row arg19 f19 i c arg3 arg6 f3 f6 arg2 arg7 f2 f7 arg5 f5 arg19.view.junk j)
  unfold sound_any.sl.v911
  refine congrArg (arg19.view.read (Elt Ideal) _) (funext fun a => Fin.ext ?_)
  fin_cases a
  · rfl
  · show 0 + 1 * j.val = j.val
    omega

/-- The array of lexical rows has the batch row's where the block is its last, and is otherwise as it was. -/
def IsLex (i : grid0.Coords) (g : Fin 2048 → EReal) (Y y : Vec Ideal S16x2048 .f32) : Prop :=
  ∀ (b : Fin 16) (j : Fin 2048), y (ix2 b j) = if b = gb i ∧ (gi i).val = 7 then g j else Y (ix2 b j)

theorem lex_keep (g : Fin 2048 → EReal) (h : ¬ (gi i).val = 7) (Y : Vec Ideal S16x2048 .f32) : IsLex i g Y Y := by
  intro b k
  rw [if_neg fun hh => h hh.2]

theorem lex_put {sp : Space} (v : View sig .tc sp S16x2048 .f32) (f : v.ty.Contents (Elt Ideal)) (h7 : (gi i).val = 7) (inb : ∀ a, k0_off4 i a + S1x2048.size a ≤ S16x2048.size a) :
    IsLex i (lexN arg19 f19 i arg3 arg6 f3 f6 arg2 arg7 f2 f7 arg5 f5) (v.read (Elt Ideal) f)
      (v.read (Elt Ideal) (v.writes (Elt Ideal) f [⟨Rect.unit (s := S16x2048) (k0_off4 i) S1x2048.size inb, sound_any.sl.v911 c i arg2 arg3 arg5 arg6 arg7 arg19 f2 f3 f5 f6 f7 f19⟩])) := by
  have hoff := k0_off4_eq i
  generalize k0_off4 i = off at *
  subst hoff
  intro b k
  by_cases hb : b = gb i
  · rw [if_pos ⟨hb, h7⟩]
    refine (View.read_writes_cons_hit_of_coords v f (Rect.unit (s := S16x2048) ![(i 0).val, 0] S1x2048.size inb) _ [] (ix2 0 k) (ix2 b k) fun a => ?_).trans (v911_apply arg19 f19 i c arg3 arg6 f3 f6 arg2 arg7 f2 f7 arg5 f5 k)
    fin_cases a
    · show b.val = (i 0).val + 1 * 0
      rw [hb]
      exact (Nat.add_zero _).symm
    · show k.val = 0 + 1 * k.val
      omega
  · rw [if_neg fun h => hb h.1]
    refine View.read_writes_cons_miss_of_axis v f _ [] (ix2 b k) 0 (i 0).val 1 rfl rfl rfl ?_
    show b.val < (i 0).val ∨ (i 0).val + 1 ≤ b.val
    have : b.val ≠ (i 0).val := fun hh => hb (Fin.ext hh)
    omega

end Cert.KernelIdeal.Val

end
-- ==== Proof.BodyVal.lean ====
/- The body runs from any contents and leaves the values of the results. -/
module

public import proofs.«01_k».proof.Proof.BodyPut
public import proofs.«01_k».proof.Proof.BodyLex

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)
open Cert.Spec Cert.KernelIdeal Cert.KernelIdeal.Gen Cert.KernelIdeal.Hand

local notation "𝕄" => MT nD τ sig Unit (Elt Ideal) ℕ (UR sig nD τ) ℕ

/-- A memref's region is owned at contents of which something is known. -/
theorem owns_post_of {spc : Space} {s : Shape} {e : EltTy} (c : Dev nD) (a : Memref sig .tc spc s e) (q : PosShare TreeShare)
    (f : a.view.ty.Contents (Elt Ideal)) (P : (s.Idx → Elt Ideal e) → Prop) :
    iprop((a.view.loc (c : Thread nD τ) ↦[a.view.set]{q} f : sProp 𝕄) ∗ ⌜P (a.view.read (Elt Ideal) f)⌝) ⊢ iprop(∃ y, ⌜P y⌝ ∗ owns (c : Thread nD τ) a q y) := by
  iintro ⟨H, %h⟩
  iexists _; isplitr; · ipureintro; exact h
  iapply (owns_read_of c a q f); iexact H

set_option sl_exec.parts true in
set_option sl_exec.resultNames true in
set_option maxHeartbeats 4000000 in
/-- From any contents the body runs to its end. It leaves the inputs' buffers as it found them, and in the buffers of the results what
    it should. -/
theorem sound_val (c : Dev nD) (E : Set ℕ) (i : grid0.Coords) (arg2 : Memref sig .tc .smem S16 .i32) (harg2 : arg2.IsWhole) (arg3 : Memref sig .tc .vmem S1x256x4096 .bf16) (harg3 : arg3.IsWhole) (arg4 : Memref sig .tc .vmem S1x16x4096 .bf16) (harg4 : arg4.IsWhole) (arg5 : Memref sig .tc .vmem S1x1x256 .i32) (harg5 : arg5.IsWhole) (arg6 : Memref sig .tc .vmem S1x4096 .f32) (harg6 : arg6.IsWhole) (arg7 : Memref sig .tc .smem S1 .f32) (harg7 : arg7.IsWhole) (arg8 : Memref sig .tc .vmem S4096x3584 .fp8e4m3) (harg8 : arg8.IsWhole) (arg9 : Memref sig .tc .vmem S1x3584 .f32) (harg9 : arg9.IsWhole) (arg10 : Memref sig .tc .vmem S1x3584 .f32) (harg10 : arg10.IsWhole) (arg11 : Memref sig .tc .vmem S16x4096 .f32) (harg11 : arg11.IsWhole) (arg12 : Memref sig .tc .vmem S16x2048 .f32) (harg12 : arg12.IsWhole) (arg13 : Memref sig .tc .vmem S16x2048 .f32) (harg13 : arg13.IsWhole) (arg14 : Memref sig .tc .vmem S1x256x3584 .fp8e4m3) (harg14 : arg14.IsWhole) (arg15 : Memref sig .tc .vmem S16x2047 .f32) (harg15 : arg15.IsWhole) (arg16 : Memref sig .tc .vmem S1x256x4096 .fp8e4m3) (harg16 : arg16.IsWhole) (arg17 : Memref sig .tc .vmem S16x2047 .f32) (harg17 : arg17.IsWhole) (arg18 : Memref sig .tc .vmem S256x3584 .f32) (harg18 : arg18.IsWhole) (arg19 : Memref sig .tc .vmem S1x2048 .f32) (harg19 : arg19.IsWhole)
    (q : PosShare TreeShare) (x2 : Vec Ideal S16 .i32) (x3 : Vec Ideal S1x256x4096 .bf16) (x4 : Vec Ideal S1x16x4096 .bf16) (x5 : Vec Ideal S1x1x256 .i32) (x6 : Vec Ideal S1x4096 .f32) (x7 : Vec Ideal S1 .f32) (x8 : Vec Ideal S4096x3584 .fp8e4m3) (x9 : Vec Ideal S1x3584 .f32) (x10 : Vec Ideal S1x3584 .f32) (x11 : Vec Ideal S16x4096 .f32) (x12 : Vec Ideal S16x2048 .f32) (x13 : Vec Ideal S16x2048 .f32) (x14 : Vec Ideal S1x256x3584 .fp8e4m3) (x15 : Vec Ideal S16x2047 .f32) (x16 : Vec Ideal S1x256x4096 .fp8e4m3) (x17 : Vec Ideal S16x2047 .f32) (x18 : Vec Ideal S256x3584 .f32) (x19 : Vec Ideal S1x2048 .f32)
    (K : PUnit → sProp 𝕄) :
    iprop(owns (c : Thread nD τ) arg2 q x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ (iprop(owns (c : Thread nD τ) arg2 q x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ y, ⌜IsDense i x3 x11 y⌝ ∗ owns (c : Thread nD τ) arg11 fullShare y) ∗ (∃ y, ⌜IsLex i (lexNew i x5 (twk i x2 x3 x6 x7) x19) x12 y⌝ ∗ owns (c : Thread nD τ) arg12 fullShare y) ∗ (∃ y, ⌜IsTw i (twk i x2 x3 x6 x7) x13 y⌝ ∗ owns (c : Thread nD τ) arg13 fullShare y) ∗ (∃ y, ⌜IsMv (Zrow i x2 x3 x4 x8 x9 x10) y⌝ ∗ owns (c : Thread nD τ) arg14 fullShare y) ∗ (∃ y, ⌜IsRow i (fun r => scale (nrm (Zrow i x2 x3 x4 x8 x9 x10 r))) x15 y⌝ ∗ owns (c : Thread nD τ) arg15 fullShare y) ∗ (∃ y, ⌜IsXc (xrow x3 x4) y⌝ ∗ owns (c : Thread nD τ) arg16 fullShare y) ∗ (∃ y, ⌜IsRow i (fun r => scale (xrow x3 x4 r)) x17 y⌝ ∗ owns (c : Thread nD τ) arg17 fullShare y) ∗ (∃ y, owns (c : Thread nD τ) arg18 fullShare y) ∗ (∃ y, ⌜∀ j, y (ix2 0 j) = lexNew i x5 (twk i x2 x3 x6 x7) x19 j⌝ ∗ owns (c : Thread nD τ) arg19 fullShare y)) -∗ K ⟨⟩))
 ⊢ wp frame (wpE (defs₀ (F := Ideal)) Variants.none c none) E (cc0_bge_m3_heads i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_bge_m3_heads_eq_skeleton]; unfold cc0_bge_m3_heads_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
  subst hf2 hf3 hf4 hf5 hf6 hf7 hf8 hf9 hf10 hf11 hf12 hf13 hf14 hf15 hf16 hf17 hf18 hf19
  sl_exec
  sl_step
  iapply Hk
  isplitl [H2]; · iexists f2; isplitr; (ipureintro; rfl); iexact H2
  isplitl [H3]; · iexists f3; isplitr; (ipureintro; rfl); iexact H3
  isplitl [H4]; · iexists f4; isplitr; (ipureintro; rfl); iexact H4
  isplitl [H5]; · iexists f5; isplitr; (ipureintro; rfl); iexact H5
  isplitl [H6]; · iexists f6; isplitr; (ipureintro; rfl); iexact H6
  isplitl [H7]; · iexists f7; isplitr; (ipureintro; rfl); iexact H7
  isplitl [H8]; · iexists f8; isplitr; (ipureintro; rfl); iexact H8
  isplitl [H9]; · iexists f9; isplitr; (ipureintro; rfl); iexact H9
  isplitl [H10]; · iexists f10; isplitr; (ipureintro; rfl); iexact H10
  isplitl [H11]
  · iapply (owns_post_of c arg11 fullShare _ _); isplitl [H11]; · iexact H11
    ipureintro
    by_cases hc : k0_cond2 i = 1#1
    · rw [dif_pos hc]
      exact dense_put arg3 f3 i hc arg11.view f11 _ _
    · rw [dif_neg hc]
      exact dense_keep i _ hc _
  isplitl [H12]
  · iapply (owns_post_of c arg12 fullShare _ _); isplitl [H12]; · iexact H12
    ipureintro
    rcases wet_cases i (sound_val.sl.v1 c i arg2 f2) with ⟨h9, h6⟩ | ⟨h9, h6⟩
    · rcases last_cases i with ⟨hl, h8, h7, h11, h10⟩ | ⟨hl, h8, h7, h11, h10⟩
      · rw [dif_pos h9, dif_pos h11, dif_neg h6]
        exact lex_put arg19 f19 i c arg3 arg6 f3 f6 arg2 arg7 f2 f7 arg5 f5 arg12.view f12 hl _
      · rw [dif_pos h9, dif_neg h11, dif_neg h6]
        exact lex_keep i _ (Nat.ne_of_lt hl) _
    · rcases last_cases i with ⟨hl, h8, h7, h11, h10⟩ | ⟨hl, h8, h7, h11, h10⟩
      · rw [dif_neg h9, dif_pos h6, dif_pos h8]
        exact lex_put arg19 f19 i c arg3 arg6 f3 f6 arg2 arg7 f2 f7 arg5 f5 arg12.view f12 hl _
      · rw [dif_neg h9, dif_pos h6, dif_neg h8]
        exact lex_keep i _ (Nat.ne_of_lt hl) _
  isplitl [H13]
  · iapply (owns_post_of c arg13 fullShare _ _); isplitl [H13]; · iexact H13
    ipureintro
    exact tw_put c arg3 arg6 f3 f6 i arg2 arg7 f2 f7 arg13.view f13
  isplitl [H14]
  · iapply (owns_post_of c arg14 fullShare _ _); isplitl [H14]; · iexact H14
    ipureintro
    rcases wet_cases i (sound_val.sl.v1 c i arg2 f2) with ⟨h9, h6⟩ | ⟨h9, h6⟩
    · rw [dif_pos h9, dif_neg h6]
      exact mv_in c arg3 arg4 arg8 arg9 arg10 arg16 arg18 f3 f4 f8 f9 f10 i arg2 f2 arg14 f14
    · rw [dif_neg h9, dif_pos h6]
      exact mv_out c arg3 arg4 arg8 arg9 arg10 f3 f4 f8 f9 f10 i arg2 f2 arg14 f14 h9
  isplitl [H15]
  · iapply (owns_post_of c arg15 fullShare _ _); isplitl [H15]; · iexact H15
    ipureintro
    rcases wet_cases i (sound_val.sl.v1 c i arg2 f2) with ⟨h9, h6⟩ | ⟨h9, h6⟩
    · rcases last_cases i with ⟨hl, h8, h7, h11, h10⟩ | ⟨hl, h8, h7, h11, h10⟩
      · rw [dif_pos h9, dif_pos h11, dif_neg h10, dif_neg h6]
        exact mvs_in_last c arg3 arg4 arg8 arg9 arg10 arg16 f3 f4 f8 f9 f10 i arg2 f2 arg15.view f15 hl _
      · rw [dif_pos h9, dif_neg h11, dif_pos h10, dif_neg h6]
        exact mvs_in c arg3 arg4 arg8 arg9 arg10 arg16 f3 f4 f8 f9 f10 i arg2 f2 arg15.view f15 _
    · rcases last_cases i with ⟨hl, h8, h7, h11, h10⟩ | ⟨hl, h8, h7, h11, h10⟩
      · rw [dif_neg h9, dif_pos h6, dif_pos h8, dif_neg h7]
        exact mvs_out_last c arg3 arg4 arg8 arg9 arg10 f3 f4 f8 f9 f10 i arg2 f2 arg15.view f15 hl h9 _
      · rw [dif_neg h9, dif_pos h6, dif_neg h8, dif_pos h7]
        exact mvs_out c arg3 arg4 arg8 arg9 arg10 f3 f4 f8 f9 f10 i arg2 f2 arg15.view f15 h9 _
  isplitl [H16]
  · iapply (owns_post_of c arg16 fullShare _ _); isplitl [H16]; · iexact H16
    ipureintro
    exact xc_put c arg3 arg4 arg16 f3 f4 f16
  isplitl [H17]
  · iapply (owns_post_of c arg17 fullShare _ _); isplitl [H17]; · iexact H17
    ipureintro
    rcases wet_cases i (sound_val.sl.v1 c i arg2 f2) with ⟨h9, h6⟩ | ⟨h9, h6⟩
    · rcases last_cases i with ⟨hl, h8, h7, h11, h10⟩ | ⟨hl, h8, h7, h11, h10⟩
      · rw [dif_pos h9, dif_pos h11, dif_neg h10, dif_neg h6]
        exact xs_put_last c arg3 arg4 f3 f4 i arg17.view f17 hl _
      · rw [dif_pos h9, dif_neg h11, dif_pos h10, dif_neg h6]
        exact xs_put c arg3 arg4 f3 f4 i arg17.view f17 _
    · rcases last_cases i with ⟨hl, h8, h7, h11, h10⟩ | ⟨hl, h8, h7, h11, h10⟩
      · rw [dif_neg h9, dif_pos h6, dif_pos h8, dif_neg h7]
        exact xs_put_last c arg3 arg4 f3 f4 i arg17.view f17 hl _
      · rw [dif_neg h9, dif_pos h6, dif_neg h8, dif_pos h7]
        exact xs_put c arg3 arg4 f3 f4 i arg17.view f17 _
  isplitl [H18]; · iapply (owns_some_of c arg18 fullShare _); iexact H18
  iapply (owns_post_of c arg19 fullShare _ _); isplitl [H19]; · iexact H19
  ipureintro
  exact fun j => lex_row arg19 f19 i c arg3 arg6 f3 f6 arg2 arg7 f2 f7 arg5 f5 _ j

end Cert.KernelIdeal.Val

end
-- ==== Proof.KerBlk.lean ====
/- The blocks that the kernel's windows hold, as parts of the arguments. -/
module

public import proofs.«01_k».proof.Proof.Posts
public import proofs.«01_k».proof.Proof.BodyPut
public import proofs.«01_k».proof.Proof.Common

@[expose] public section

set_option maxRecDepth 16384
set_option maxHeartbeats 1000000

noncomputable section

namespace Cert.KernelIdeal.Val

open Idealize.ShloMosaic Idealize.ShloMosaic.TcCoe Cert.Spec Cert.Lanes Idealize.SL.Sem
open Cert.KernelIdeal Cert.KernelIdeal.Gen Cert.KernelIdeal.Hand
open Idealize.ShloMosaic.Pipeline (Window)

variable (m : (l : Loc nD τ sig) → Buf (Elt Ideal) l)

/-- Grid point `t` is row `t / 8` of the batch and block `t % 8` of the sequence. -/
theorem coords_val (t : Fin grid0.N) : (gb (grid0.coords t)).val = t.val / 8 ∧ (gi (grid0.coords t)).val = t.val % 8 := by
  revert t
  decide +kernel

theorem tr0 : ∀ i : grid0.Coords, cc0_transform_0 i = ![(gb i).val, (gi i).val, 0] := by decide +kernel
theorem tr1 : ∀ i : grid0.Coords, cc0_transform_1 i = ![(gb i).val, min (16 * ((gi i).val + 1)) 127, 0] := by decide +kernel

/-- The block of rows at a grid point. -/
abbrev X0 (c : Dev nD) (t : Fin (cfgM m).N) : Vec Ideal S1x256x4096 .bf16 := iblk m c 0 t
/-- The rows after the block. -/
abbrev X1 (c : Dev nD) (t : Fin (cfgM m).N) : Vec Ideal S1x16x4096 .bf16 := iblk m c 1 t
/-- The weights. -/
abbrev X5 (c : Dev nD) (t : Fin (cfgM m).N) : Vec Ideal S4096x3584 .fp8e4m3 := iblk m c 5 t
/-- The weights' scales. -/
abbrev X6 (c : Dev nD) (t : Fin (cfgM m).N) : Vec Ideal S1x3584 .f32 := iblk m c 6 t
/-- The bias. -/
abbrev X7 (c : Dev nD) (t : Fin (cfgM m).N) : Vec Ideal S1x3584 .f32 := iblk m c 7 t
/-- The lengths. -/
abbrev XT : Vec Ideal S16 .i32 := V m 0 main_arg1

theorem X0_apply (c : Dev nD) (t : Fin (cfgM m).N) (r : Fin 256) (k : Fin 4096) :
    X0 m c t (ix3 0 r k) = m ((c : Thread nD τ).loc main_arg0) (ix3 (gb (grid0.coords t)) ⟨256 * (gi (grid0.coords t)).val + r.val, by have := (gi (grid0.coords t)).isLt; omega⟩ k) := by
  refine Eq.trans (congrArg (V m c main_arg0) (funext fun a => Fin.ext ?_)) (congrFun (V_main_arg0 (m := m) c) _)
  refine (Window.rect_emb_val ((cfgM m).win 0) t (ix3 (0 : Fin 1) r k) a rfl).trans ?_
  have h := tr0 (grid0.coords t)
  fin_cases a
  · show cc0_transform_0 (grid0.coords t) 0 * 1 + 0 = (gb (grid0.coords t)).val
    rw [h]
    show (gb (grid0.coords t)).val * 1 + 0 = _
    omega
  · show cc0_transform_0 (grid0.coords t) 1 * 256 + r.val = 256 * (gi (grid0.coords t)).val + r.val
    rw [h]
    show (gi (grid0.coords t)).val * 256 + r.val = _
    omega
  · show cc0_transform_0 (grid0.coords t) 2 * 4096 + k.val = k.val
    rw [h]
    show 0 * 4096 + k.val = _
    omega

theorem X1_apply (c : Dev nD) (t : Fin (cfgM m).N) (k : Fin 4096) (hi : (gi (grid0.coords t)).val < 7) :
    X1 m c t (ix3 0 0 k) = m ((c : Thread nD τ).loc main_arg0) (ix3 (gb (grid0.coords t)) ⟨256 * (gi (grid0.coords t)).val + 256, by omega⟩ k) := by
  refine Eq.trans (congrArg (V m c main_arg0) (funext fun a => Fin.ext ?_)) (congrFun (V_main_arg0 (m := m) c) _)
  refine (Window.rect_emb_val ((cfgM m).win 1) t (ix3 (0 : Fin 1) (0 : Fin 16) k) a rfl).trans ?_
  have h := tr1 (grid0.coords t)
  fin_cases a
  · show cc0_transform_1 (grid0.coords t) 0 * 1 + 0 = (gb (grid0.coords t)).val
    rw [h]
    show (gb (grid0.coords t)).val * 1 + 0 = _
    omega
  · show cc0_transform_1 (grid0.coords t) 1 * 16 + 0 = 256 * (gi (grid0.coords t)).val + 256
    rw [h]
    show min (16 * ((gi (grid0.coords t)).val + 1)) 127 * 16 + 0 = _
    omega
  · show cc0_transform_1 (grid0.coords t) 2 * 4096 + k.val = k.val
    rw [h]
    show 0 * 4096 + k.val = _
    omega

theorem X5_eq (c : Dev nD) (t : Fin (cfgM m).N) : X5 m c t = m ((c : Thread nD τ).loc main_arg5) := by
  funext i
  refine Eq.trans (congrArg (V m c main_arg5) (funext fun a => Fin.ext ?_)) (congrFun (V_main_arg5 (m := m) c) i)
  exact Window.rect_emb_val_of_index_zero ((cfgM m).win 5) t a (by fin_cases a <;> rfl) i

theorem V_main_v2 (c : Dev nD) : V m c main_v2 = shapeCast S1x3584 (m ((c : Thread nD τ).loc main_arg6)) shapeCasts_S3584_S1x3584 := by
  unfold V hostOps0
  after_results
  rfl

theorem V_main_v3 (c : Dev nD) : V m c main_v3 = shapeCast S1x3584 (m ((c : Thread nD τ).loc main_arg7)) shapeCasts_S3584_S1x3584 := by
  unfold V hostOps0
  after_results
  rfl

theorem cast_row (x : Vec Ideal S3584 .f32) (n : Fin 3584) : shapeCast S1x3584 x shapeCasts_S3584_S1x3584 (ix2 0 n) = x (ix1 n) := by
  pointwise

theorem X6_apply (c : Dev nD) (t : Fin (cfgM m).N) (n : Fin 3584) : X6 m c t (ix2 0 n) = m ((c : Thread nD τ).loc main_arg6) (ix1 n) := by
  refine Eq.trans (congrArg (V m c main_v2) (funext fun a => Fin.ext ?_)) ((congrFun (V_main_v2 m c) (ix2 0 n)).trans (cast_row _ n))
  exact Window.rect_emb_val_of_index_zero ((cfgM m).win 6) t a (by fin_cases a <;> rfl) (ix2 0 n)

theorem X7_apply (c : Dev nD) (t : Fin (cfgM m).N) (n : Fin 3584) : X7 m c t (ix2 0 n) = m ((c : Thread nD τ).loc main_arg7) (ix1 n) := by
  refine Eq.trans (congrArg (V m c main_v3) (funext fun a => Fin.ext ?_)) ((congrFun (V_main_v3 m c) (ix2 0 n)).trans (cast_row _ n))
  exact Window.rect_emb_val_of_index_zero ((cfgM m).win 7) t a (by fin_cases a <;> rfl) (ix2 0 n)

/-- The row a block's place is about is the next row of the sequence. -/
theorem xrow_eq (c : Dev nD) (t : Fin (cfgM m).N) (r : Fin 256) (h : 256 * (gi (grid0.coords t)).val + r.val < 2047) :
    xrow (X0 m c t) (X1 m c t) r = tok (m ((c : Thread nD τ).loc main_arg0)) (gb (grid0.coords t)) ⟨256 * (gi (grid0.coords t)).val + r.val, h⟩ := by
  funext k
  unfold xrow tok
  split
  · rw [X0_apply]
    rfl
  · rename_i hr
    have h255 : r.val = 255 := by omega
    rw [X1_apply m c t k (by omega)]
    refine congrArg (m ((c : Thread nD τ).loc main_arg0)) (congrArg (fun z => ix3 (gb (grid0.coords t)) z k) (Fin.ext ?_))
    show 256 * (gi (grid0.coords t)).val + 256 = 256 * (gi (grid0.coords t)).val + r.val + 1
    omega

theorem wet_eq (t : Fin (cfgM m).N) (r : Fin 256) : wet (grid0.coords t) (XT m) r
    = IntOp.cmpi .slt (1#32 + BitVec.ofNat 32 (256 * (gi (grid0.coords t)).val + r.val)) (m (((0 : Dev nD) : Thread nD τ).loc main_arg1) (ix1 (gb (grid0.coords t)))) := by
  unfold wet
  rw [pos_eq, show XT m = m (((0 : Dev nD) : Thread nD τ).loc main_arg1) from V_main_arg1 0]
  refine congrArg (fun z => IntOp.cmpi .slt z _) ?_
  apply BitVec.eq_of_toNat_eq
  simp only [BitVec.toNat_add, BitVec.toNat_ofNat]
  omega

/-- The kernel's projected row. -/
abbrev krow (c : Dev nD) (b : Fin 16) (s : Fin 2047) : Fin 3584 → EReal :=
  prow (m ((c : Thread nD τ).loc main_arg0)) (m ((c : Thread nD τ).loc main_arg1)) (m ((c : Thread nD τ).loc main_arg5)) (m ((c : Thread nD τ).loc main_arg6)) (m ((c : Thread nD τ).loc main_arg7)) b s

theorem Zrow_eq (t : Fin (cfgM m).N) (r : Fin 256) (h : 256 * (gi (grid0.coords t)).val + r.val < 2047) :
    Zrow (grid0.coords t) (XT m) (X0 m 0 t) (X1 m 0 t) (X5 m 0 t) (X6 m 0 t) (X7 m 0 t) r = krow m 0 (gb (grid0.coords t)) ⟨256 * (gi (grid0.coords t)).val + r.val, h⟩ := by
  funext n
  unfold Zrow krow prow Yrow
  rw [wet_eq, xrow_eq m 0 t r h, X5_eq, X6_apply, X7_apply]

end Cert.KernelIdeal.Val

end
-- ==== Proof.KerHead.lean ====
/- What the kernel's blocks hold of the lexical places and of the token weights' operands, and the running maximum over a batch row. -/
module

public import proofs.«01_k».proof.Proof.KerBlk
public import proofs.«01_k».proof.Proof.BodyLex

@[expose] public section

set_option maxRecDepth 16384
set_option maxHeartbeats 1000000

noncomputable section

namespace Cert.KernelIdeal.Val

open Idealize.ShloMosaic Idealize.ShloMosaic.TcCoe Cert.Spec Cert.Lanes Idealize.SL.Sem
open Cert.KernelIdeal Cert.KernelIdeal.Gen Cert.KernelIdeal.Hand
open Idealize.ShloMosaic.Pipeline (Window)

variable (m : (l : Loc nD τ sig) → Buf (Elt Ideal) l)

theorem tr2 : ∀ i : grid0.Coords, cc0_transform_2 i = ![(gb i).val, 0, (gi i).val] := by decide +kernel

/-- The block's places. -/
abbrev X2 (c : Dev nD) (t : Fin (cfgM m).N) : Vec Ideal S1x1x256 .i32 := iblk m c 2 t
/-- The sparse weights. -/
abbrev X3 (c : Dev nD) (t : Fin (cfgM m).N) : Vec Ideal S1x4096 .f32 := iblk m c 3 t
/-- The sparse bias. -/
abbrev X4 (c : Dev nD) (t : Fin (cfgM m).N) : Vec Ideal S1 .f32 := iblk m c 4 t

theorem V_main_v0 (c : Dev nD) : V m c main_v0 = shapeCast S16x1x2048 (m ((c : Thread nD τ).loc main_arg2)) shapeCasts_S16x2048_S16x1x2048 := by
  unfold V hostOps0
  after_results
  rfl

theorem V_main_v1 (c : Dev nD) : V m c main_v1 = shapeCast S1x4096 (m ((c : Thread nD τ).loc main_arg3)) shapeCasts_S4096_S1x4096 := by
  unfold V hostOps0
  after_results
  rfl

theorem cast_fp (x : Vec Ideal S16x2048 .i32) (b : Fin 16) (n : Fin 2048) : shapeCast S16x1x2048 x shapeCasts_S16x2048_S16x1x2048 (ix3 b 0 n) = x (ix2 b n) := by
  pointwise

theorem cast_ws (x : Vec Ideal S4096 .f32) (n : Fin 4096) : shapeCast S1x4096 x shapeCasts_S4096_S1x4096 (ix2 0 n) = x (ix1 n) := by
  pointwise

theorem X2_apply (c : Dev nD) (t : Fin (cfgM m).N) (r : Fin 256) :
    X2 m c t (ix3 0 0 r) = m ((c : Thread nD τ).loc main_arg2) (ix2 (gb (grid0.coords t)) ⟨256 * (gi (grid0.coords t)).val + r.val, by have := (gi (grid0.coords t)).isLt; omega⟩) := by
  refine Eq.trans (congrArg (V m c main_v0) (funext fun a => Fin.ext ?_)) ((congrFun (V_main_v0 m c) (ix3 (gb (grid0.coords t)) 0 ⟨256 * (gi (grid0.coords t)).val + r.val, by have := (gi (grid0.coords t)).isLt; omega⟩)).trans (cast_fp _ _ _))
  refine (Window.rect_emb_val ((cfgM m).win 2) t (ix3 (0 : Fin 1) (0 : Fin 1) r) a rfl).trans ?_
  have h := tr2 (grid0.coords t)
  fin_cases a
  · show cc0_transform_2 (grid0.coords t) 0 * 1 + 0 = (gb (grid0.coords t)).val
    rw [h]
    show (gb (grid0.coords t)).val * 1 + 0 = _
    omega
  · show cc0_transform_2 (grid0.coords t) 1 * 1 + 0 = 0
    rw [h]
    rfl
  · show cc0_transform_2 (grid0.coords t) 2 * 256 + r.val = 256 * (gi (grid0.coords t)).val + r.val
    rw [h]
    show (gi (grid0.coords t)).val * 256 + r.val = _
    omega

theorem X3_apply (c : Dev nD) (t : Fin (cfgM m).N) (n : Fin 4096) : X3 m c t (ix2 0 n) = m ((c : Thread nD τ).loc main_arg3) (ix1 n) := by
  refine Eq.trans (congrArg (V m c main_v1) (funext fun a => Fin.ext ?_)) ((congrFun (V_main_v1 m c) (ix2 0 n)).trans (cast_ws _ n))
  exact Window.rect_emb_val_of_index_zero ((cfgM m).win 3) t a (by fin_cases a <;> rfl) (ix2 0 n)

theorem X4_eq (c : Dev nD) (t : Fin (cfgM m).N) : X4 m c t = m ((c : Thread nD τ).loc main_arg4) := by
  funext i
  refine Eq.trans (congrArg (V m c main_arg4) (funext fun a => Fin.ext ?_)) (congrFun (V_main_arg4 (m := m) c) i)
  exact Window.rect_emb_val_of_index_zero ((cfgM m).win 4) t a (by fin_cases a <;> rfl) i

/-- The kernel's dense row. -/
abbrev kdns (b : Fin 16) (k : Fin 4096) : EReal := dns (m (((0 : Dev nD) : Thread nD τ).loc main_arg0)) b k

/-- The kernel's token weights. -/
abbrev ktw (b : Fin 16) (s : Fin 2048) : EReal :=
  tww (m (((0 : Dev nD) : Thread nD τ).loc main_arg0)) (m (((0 : Dev nD) : Thread nD τ).loc main_arg1)) (m (((0 : Dev nD) : Thread nD τ).loc main_arg3)) (m (((0 : Dev nD) : Thread nD τ).loc main_arg4)) b s

/-- The kernel's lexical row. -/
abbrev klex (b : Fin 16) (j : Fin 2048) : EReal := lexv (m (((0 : Dev nD) : Thread nD τ).loc main_arg2)) (ktw m) b j

/-- The block's token weights. -/
abbrev twb (t : Fin (cfgM m).N) : Fin 256 → EReal := twk (grid0.coords t) (XT m) (X0 m 0 t) (X3 m 0 t) (X4 m 0 t)

theorem dense_eq (t : Fin (cfgM m).N) (h : (gi (grid0.coords t)).val = 0) (k : Fin 4096) : nrm (fun k => X0 m 0 t (ix3 0 0 k)) k = kdns m (gb (grid0.coords t)) k := by
  unfold kdns dns
  refine congrArg (fun g => nrm g k) (funext fun k => (X0_apply m 0 t 0 k).trans ?_)
  exact congrArg (m (((0 : Dev nD) : Thread nD τ).loc main_arg0)) (congrArg (fun z => ix3 (gb (grid0.coords t)) z k) (Fin.ext (by show 256 * (gi (grid0.coords t)).val + 0 = 0; omega)))

theorem pos0_eq (i : grid0.Coords) (r : ℕ) : Scalar.muli (BitVec.ofNat 32 (i 1).val) 256#32 + BitVec.ofNat 32 r = BitVec.ofNat 32 (256 * (gi i).val + r) := by
  apply BitVec.eq_of_toNat_eq
  have h : (Scalar.muli (BitVec.ofNat 32 (i 1).val) 256#32) = BitVec.ofNat 32 (256 * (gi i).val) := by
    apply BitVec.eq_of_toNat_eq
    show (BitVec.ofNat 32 (i 1).val * 256#32).toNat = _
    rw [BitVec.toNat_mul]
    simp only [BitVec.toNat_ofNat]
    show ((gi i).val % 2 ^ 32 * (256 % 2 ^ 32)) % 2 ^ 32 = _
    omega
  rw [h]
  simp only [BitVec.toNat_add, BitVec.toNat_ofNat]
  omega

theorem twb_eq (t : Fin (cfgM m).N) (r : Fin 256) : twb m t r = ktw m (gb (grid0.coords t)) ⟨256 * (gi (grid0.coords t)).val + r.val, by have := (gi (grid0.coords t)).isLt; omega⟩ := by
  unfold twb ktw twk tww
  rw [X4_eq, pos0_eq, show XT m = m (((0 : Dev nD) : Thread nD τ).loc main_arg1) from V_main_arg1 0]
  refine congrArg (fun z : EReal => twOf (BitVec.ofNat 32 (256 * (gi (grid0.coords t)).val + r.val)) (m (((0 : Dev nD) : Thread nD τ).loc main_arg1) (ix1 (gb (grid0.coords t)))) (z + m (((0 : Dev nD) : Thread nD τ).loc main_arg4) (ix1 0))) ?_
  refine Finset.sum_congr rfl fun k _ => ?_
  rw [X0_apply, X3_apply]

/-- The lexical row of a batch row's first `n` tokens. -/
def lexTo (b : Fin 16) (n : ℕ) (j : Fin 2048) : EReal :=
  (Finset.univ : Finset (Fin 2048)).sup fun s => if s.val < n then hitOf (m (((0 : Dev nD) : Thread nD τ).loc main_arg2) (ix2 b s)) j (ktw m b s) else 0

theorem hit_nonneg (b : Fin 16) (s j : Fin 2048) : 0 ≤ hitOf (m (((0 : Dev nD) : Thread nD τ).loc main_arg2) (ix2 b s)) j (ktw m b s) :=
  hitOf_nonneg _ _ _ (twOf_nonneg _ _ _)

theorem lexTo_all (b : Fin 16) (j : Fin 2048) : lexTo m b 2048 j = klex m b j :=
  Finset.sup_congr rfl fun s _ => if_pos s.isLt

theorem lexTo_zero (b : Fin 16) (j : Fin 2048) : lexTo m b 0 j = 0 := by
  refine le_antisymm (Finset.sup_le fun s _ => le_of_eq (if_neg (Nat.not_lt_zero _))) ?_
  refine le_trans (le_of_eq (if_neg (Nat.not_lt_zero _)).symm) (Finset.le_sup (f := fun s : Fin 2048 => if s.val < 0 then hitOf (m (((0 : Dev nD) : Thread nD τ).loc main_arg2) (ix2 b s)) j (ktw m b s) else 0) (Finset.mem_univ (0 : Fin 2048)))

theorem lexTo_nonneg (b : Fin 16) (n : ℕ) (j : Fin 2048) : 0 ≤ lexTo m b n j := by
  refine le_trans ?_ (Finset.le_sup (f := fun s : Fin 2048 => if s.val < n then hitOf (m (((0 : Dev nD) : Thread nD τ).loc main_arg2) (ix2 b s)) j (ktw m b s) else 0) (Finset.mem_univ (0 : Fin 2048)))
  show 0 ≤ ite _ _ _
  split
  · exact hit_nonneg m b 0 j
  · exact le_rfl

theorem lexTo_step (b : Fin 16) (q : Fin 8) (j : Fin 2048) :
    max (lexTo m b (256 * q.val) j) ((Finset.univ : Finset (Fin 256)).sup fun r => hitOf (m (((0 : Dev nD) : Thread nD τ).loc main_arg2) (ix2 b ⟨256 * q.val + r.val, by omega⟩)) j (ktw m b ⟨256 * q.val + r.val, by omega⟩))
      = lexTo m b (256 * (q.val + 1)) j := by
  have up : ∀ s : Fin 2048, s.val < 256 * (q.val + 1) → hitOf (m (((0 : Dev nD) : Thread nD τ).loc main_arg2) (ix2 b s)) j (ktw m b s) ≤ lexTo m b (256 * (q.val + 1)) j := fun s hs =>
    le_trans (le_of_eq (if_pos hs).symm) (Finset.le_sup (f := fun s : Fin 2048 => if s.val < 256 * (q.val + 1) then hitOf (m (((0 : Dev nD) : Thread nD τ).loc main_arg2) (ix2 b s)) j (ktw m b s) else 0) (Finset.mem_univ s))
  refine le_antisymm (max_le (Finset.sup_le fun s _ => ?_) (Finset.sup_le fun r _ => up _ (by show 256 * q.val + r.val < _; omega))) (Finset.sup_le fun s _ => ?_)
  · split
    · exact up s (by omega)
    · exact lexTo_nonneg m b _ j
  · split
    · rename_i h
      by_cases hs : s.val < 256 * q.val
      · exact le_max_of_le_left (le_trans (le_of_eq (if_pos hs).symm) (Finset.le_sup (f := fun s : Fin 2048 => if s.val < 256 * q.val then hitOf (m (((0 : Dev nD) : Thread nD τ).loc main_arg2) (ix2 b s)) j (ktw m b s) else 0) (Finset.mem_univ s)))
      · refine le_max_of_le_right ?_
        have hsr : s = ⟨256 * q.val + (⟨s.val - 256 * q.val, by omega⟩ : Fin 256).val, by show 256 * q.val + (s.val - 256 * q.val) < 2048; have := s.isLt; omega⟩ := Fin.ext (by show s.val = 256 * q.val + (s.val - 256 * q.val); omega)
        refine le_trans (le_of_eq (congrArg (fun s => hitOf (m (((0 : Dev nD) : Thread nD τ).loc main_arg2) (ix2 b s)) j (ktw m b s)) hsr)) ?_
        exact Finset.le_sup (f := fun r : Fin 256 => hitOf (m (((0 : Dev nD) : Thread nD τ).loc main_arg2) (ix2 b ⟨256 * q.val + r.val, by omega⟩)) j (ktw m b ⟨256 * q.val + r.val, by omega⟩)) (Finset.mem_univ _)
    · exact le_max_of_le_left (lexTo_nonneg m b _ j)

/-- What is known of the running row before a grid point: within a batch row it covers the tokens before the block. -/
def LexBefore (n : ℕ) (l : Vec Ideal S1x2048 .f32) : Prop :=
  ¬ n % 8 = 0 → ∀ b : Fin 16, b.val = n / 8 → ∀ j : Fin 2048, l (ix2 0 j) = lexTo m b (256 * (n % 8)) j

theorem lexBefore_zero (l : Vec Ideal S1x2048 .f32) : LexBefore m 0 l := fun h => absurd rfl h

theorem lexNew_eq (t : Fin (cfgM m).N) (l : Vec Ideal S1x2048 .f32) (hl : LexBefore m t.val l) (j : Fin 2048) :
    lexNew (grid0.coords t) (X2 m 0 t) (twb m t) l j = lexTo m (gb (grid0.coords t)) (256 * ((gi (grid0.coords t)).val + 1)) j := by
  obtain ⟨c0, c1⟩ := coords_val t
  rw [← lexTo_step m (gb (grid0.coords t)) (gi (grid0.coords t)) j]
  unfold lexNew
  refine congrArg₂ max ?_ (Finset.sup_congr rfl fun r _ => ?_)
  · unfold lexOld
    split
    · rename_i h
      rw [h]
      exact (lexTo_zero m _ j).symm
    · rename_i h
      rw [hl (fun h' => h (c1.trans h')) _ c0 j, c1]
  · rw [X2_apply, twb_eq]

theorem lexBefore_succ (t : Fin (cfgM m).N) (l l' : Vec Ideal S1x2048 .f32) (hl : LexBefore m t.val l)
    (h : ∀ j, l' (ix2 0 j) = lexNew (grid0.coords t) (X2 m 0 t) (twb m t) l j) : LexBefore m (t.val + 1) l' := by
  obtain ⟨c0, c1⟩ := coords_val t
  intro hn b hb j
  rw [h, lexNew_eq m t l hl j]
  have e1 : (gi (grid0.coords t)).val + 1 = (t.val + 1) % 8 := by omega
  have e2 : gb (grid0.coords t) = b := Fin.ext (by omega)
  rw [e1, e2]

theorem lex_last (t : Fin (cfgM m).N) (l : Vec Ideal S1x2048 .f32) (hl : LexBefore m t.val l) (Y y : Vec Ideal S16x2048 .f32)
    (h : IsLex (grid0.coords t) (lexNew (grid0.coords t) (X2 m 0 t) (twb m t) l) Y y) : IsLex (grid0.coords t) (klex m (gb (grid0.coords t))) Y y := by
  intro b j
  rw [h b j]
  split
  · rename_i h7
    rw [lexNew_eq m t l hl j, h7.2]
    exact lexTo_all m _ j
  · rfl

end Cert.KernelIdeal.Val

end
-- ==== Proof.KerRun.lean ====
/- What the kernel's run leaves in the arrays of the results. -/
module

public import proofs.«01_k».proof.Proof.BodyVal
public import proofs.«01_k».proof.Proof.KerHead
public import Idealize.ShloMosaic.Lib.Pipeline.ArrRel

@[expose] public section

set_option maxRecDepth 16384
set_option maxHeartbeats 1000000

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Dat Cfg Window)
open Cert.Spec Cert.KernelIdeal Cert.KernelIdeal.Gen Cert.KernelIdeal.Hand

local notation "𝕄" => MT nD τ sig Unit (Elt Ideal) ℕ (UR sig nD τ) ℕ

variable (m : (l : Loc nD τ sig) → Buf (Elt Ideal) l)

/-- The block's projected rows. -/
abbrev zb (t : Fin (cfgM m).N) : Fin 256 → Fin 3584 → EReal := Zrow (grid0.coords t) (XT m) (X0 m 0 t) (X1 m 0 t) (X5 m 0 t) (X6 m 0 t) (X7 m 0 t)
/-- The block's rows. -/
abbrev xb (t : Fin (cfgM m).N) : Fin 256 → Fin 4096 → EReal := xrow (X0 m 0 t) (X1 m 0 t)

/-- What the body makes of an output's buffer. -/
def RelV (w : Fin (cfgM m).W) (t : Fin (cfgM m).N) (Y X : ((cfgM m).win w).block.Idx → Elt Ideal ((cfgM m).win w).elt) : Prop :=
  (∀ h : w = 11, IsMv (zb m t) (by subst h; exact X))
  ∧ (∀ h : w = 12, IsRow (grid0.coords t) (fun r => scale (nrm (zb m t r))) (by subst h; exact Y) (by subst h; exact X))
  ∧ (∀ h : w = 13, IsXc (xb m t) (by subst h; exact X))
  ∧ (∀ h : w = 14, IsRow (grid0.coords t) (fun r => scale (xb m t r)) (by subst h; exact Y) (by subst h; exact X))
  ∧ (∀ h : w = 8, IsDense (grid0.coords t) (X0 m 0 t) (by subst h; exact Y) (by subst h; exact X))
  ∧ (∀ h : w = 9, IsLex (grid0.coords t) (klex m (gb (grid0.coords t))) (by subst h; exact Y) (by subst h; exact X))
  ∧ (∀ h : w = 10, IsTw (grid0.coords t) (twb m t) (by subst h; exact Y) (by subst h; exact X))

/-- What is known of the buffers. -/
def knV : Known m := ⟨RelV m, LexBefore m, lexBefore_zero m⟩

theorem rel8 (t : Fin (cfgM m).N) (Y X : Vec Ideal S16x4096 .f32) (hX : IsDense (grid0.coords t) (X0 m 0 t) Y X) : RelV m 8 t Y X := ⟨fun h => absurd (show (8 : Fin 15) = 11 from h) (by decide), fun h => absurd (show (8 : Fin 15) = 12 from h) (by decide), fun h => absurd (show (8 : Fin 15) = 13 from h) (by decide), fun h => absurd (show (8 : Fin 15) = 14 from h) (by decide), fun _ => hX, fun h => absurd (show (8 : Fin 15) = 9 from h) (by decide), fun h => absurd (show (8 : Fin 15) = 10 from h) (by decide)⟩
theorem rel9 (t : Fin (cfgM m).N) (Y X : Vec Ideal S16x2048 .f32) (hX : IsLex (grid0.coords t) (klex m (gb (grid0.coords t))) Y X) : RelV m 9 t Y X := ⟨fun h => absurd (show (9 : Fin 15) = 11 from h) (by decide), fun h => absurd (show (9 : Fin 15) = 12 from h) (by decide), fun h => absurd (show (9 : Fin 15) = 13 from h) (by decide), fun h => absurd (show (9 : Fin 15) = 14 from h) (by decide), fun h => absurd (show (9 : Fin 15) = 8 from h) (by decide), fun _ => hX, fun h => absurd (show (9 : Fin 15) = 10 from h) (by decide)⟩
theorem rel10 (t : Fin (cfgM m).N) (Y X : Vec Ideal S16x2048 .f32) (hX : IsTw (grid0.coords t) (twb m t) Y X) : RelV m 10 t Y X := ⟨fun h => absurd (show (10 : Fin 15) = 11 from h) (by decide), fun h => absurd (show (10 : Fin 15) = 12 from h) (by decide), fun h => absurd (show (10 : Fin 15) = 13 from h) (by decide), fun h => absurd (show (10 : Fin 15) = 14 from h) (by decide), fun h => absurd (show (10 : Fin 15) = 8 from h) (by decide), fun h => absurd (show (10 : Fin 15) = 9 from h) (by decide), fun _ => hX⟩
theorem rel11 (t : Fin (cfgM m).N) (Y) (X : Vec Ideal S1x256x3584 .fp8e4m3) (hX : IsMv (zb m t) X) : RelV m 11 t Y X := ⟨fun _ => hX, fun h => absurd (show (11 : Fin 15) = 12 from h) (by decide), fun h => absurd (show (11 : Fin 15) = 13 from h) (by decide), fun h => absurd (show (11 : Fin 15) = 14 from h) (by decide), fun h => absurd (show (11 : Fin 15) = 8 from h) (by decide), fun h => absurd (show (11 : Fin 15) = 9 from h) (by decide), fun h => absurd (show (11 : Fin 15) = 10 from h) (by decide)⟩
theorem rel12 (t : Fin (cfgM m).N) (Y X : Vec Ideal S16x2047 .f32) (hX : IsRow (grid0.coords t) (fun r => scale (nrm (zb m t r))) Y X) : RelV m 12 t Y X := ⟨fun h => absurd (show (12 : Fin 15) = 11 from h) (by decide), fun _ => hX, fun h => absurd (show (12 : Fin 15) = 13 from h) (by decide), fun h => absurd (show (12 : Fin 15) = 14 from h) (by decide), fun h => absurd (show (12 : Fin 15) = 8 from h) (by decide), fun h => absurd (show (12 : Fin 15) = 9 from h) (by decide), fun h => absurd (show (12 : Fin 15) = 10 from h) (by decide)⟩
theorem rel13 (t : Fin (cfgM m).N) (Y) (X : Vec Ideal S1x256x4096 .fp8e4m3) (hX : IsXc (xb m t) X) : RelV m 13 t Y X := ⟨fun h => absurd (show (13 : Fin 15) = 11 from h) (by decide), fun h => absurd (show (13 : Fin 15) = 12 from h) (by decide), fun _ => hX, fun h => absurd (show (13 : Fin 15) = 14 from h) (by decide), fun h => absurd (show (13 : Fin 15) = 8 from h) (by decide), fun h => absurd (show (13 : Fin 15) = 9 from h) (by decide), fun h => absurd (show (13 : Fin 15) = 10 from h) (by decide)⟩
theorem rel14 (t : Fin (cfgM m).N) (Y X : Vec Ideal S16x2047 .f32) (hX : IsRow (grid0.coords t) (fun r => scale (xb m t r)) Y X) : RelV m 14 t Y X := ⟨fun h => absurd (show (14 : Fin 15) = 11 from h) (by decide), fun h => absurd (show (14 : Fin 15) = 12 from h) (by decide), fun h => absurd (show (14 : Fin 15) = 13 from h) (by decide), fun _ => hX, fun h => absurd (show (14 : Fin 15) = 8 from h) (by decide), fun h => absurd (show (14 : Fin 15) = 9 from h) (by decide), fun h => absurd (show (14 : Fin 15) = 10 from h) (by decide)⟩

set_option maxHeartbeats 4000000 in
/-- The body at every grid point meets the relations. -/
theorem bodyRuns_val : BodyRuns (knV m) := by
  intro c t Y y l K hY hl
  obtain rfl : c = 0 := Subsingleton.elim c 0
  have h0 := finds_0 (knV m) 0 t _ (hY 0)
  have h1 := finds_1 (knV m) 0 t _ (hY 1)
  have h2 := finds_2 (knV m) 0 t _ (hY 2)
  have h3 := finds_3 (knV m) 0 t _ (hY 3)
  have h4 := finds_4 (knV m) 0 t _ (hY 4)
  have h5 := finds_5 (knV m) 0 t _ (hY 5)
  have h6 := finds_6 (knV m) 0 t _ (hY 6)
  have h7 := finds_7 (knV m) 0 t _ (hY 7)
  rw [body_row]
  refine .trans ?_ (sound_val 0 Set.univ (grid0.coords t) _ _ _ _ _ _ _ _ _ _ _ _ _ _ _ _ _ _ _ _ _ _ _ _ _ _ _ _ _ _ _ _ _ _ _ _ fullShare.right (V m 0 main_arg1) (Y 0) (Y 1) (Y 2) (Y 3) (Y 4) (Y 5) (Y 6) (Y 7) (Y 8) (Y 9) (Y 10) (Y 11) (Y 12) (Y 13) (Y 14) y l K)
  iintro ⟨HT, H0, H1, H2, H3, H4, H5, H6, H7, H8, H9, H10, H11, H12, H13, H14, Hy, Hl, Hk⟩
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [Hy]; · iexact Hy
  isplitl [Hl]; · iexact Hl
  iintro ⟨HT, H0, H1, H2, H3, H4, H5, H6, H7, ⟨%y8, %p8, H8⟩, ⟨%y9, %p9, H9⟩, ⟨%y10, %p10, H10⟩, ⟨%y11, %p11, H11⟩, ⟨%y12, %p12, H12⟩, ⟨%y13, %p13, H13⟩, ⟨%y14, %p14, H14⟩, ⟨%yy, Hy⟩, ⟨%ll, %pl, Hl⟩⟩
  iapply Hk $$ %y8 %y9 %y10 %y11 %y12 %y13 %y14 %yy %ll [] [HT] [H0] [H1] [H2] [H3] [H4] [H5] [H6] [H7] [H8] [H9] [H10] [H11] [H12] [H13] [H14] [Hy] [Hl]
  · ipureintro
    rw [h0, h1, h5, h6, h7] at p11 p12
    rw [h0, h1] at p13 p14
    rw [h0] at p8
    rw [h0, h2, h3, h4] at p9 pl
    rw [h0, h3, h4] at p10
    exact ⟨rel8 m t _ _ p8, rel9 m t _ _ (lex_last m t l hl _ _ p9), rel10 m t _ _ p10, rel11 m t _ _ p11, rel12 m t _ _ p12, rel13 m t _ _ p13, rel14 m t _ _ p14, lexBefore_succ m t l ll hl pl⟩
  · iexact HT
  · iexact H0
  · iexact H1
  · iexact H2
  · iexact H3
  · iexact H4
  · iexact H5
  · iexact H6
  · iexact H7
  · iexact H8
  · iexact H9
  · iexact H10
  · iexact H11
  · iexact H12
  · iexact H13
  · iexact H14
  · iexact Hy
  · iexact Hl

end Cert.KernelIdeal.Val

end
-- ==== Proof.KerArr.lean ====
/- The four arrays of the colbert results and of the tokens' codes after the kernel's run. -/
module

public import proofs.«01_k».proof.Proof.KerRun

@[expose] public section

set_option maxRecDepth 16384
set_option maxHeartbeats 1000000

noncomputable section

namespace Cert.KernelIdeal.Val

open Idealize.ShloMosaic Idealize.ShloMosaic.TcCoe
open Idealize.ShloMosaic.Pipeline (RDat Dat Cfg Window)
open Cert.Spec Cert.KernelIdeal Cert.KernelIdeal.Gen Cert.KernelIdeal.Hand

variable (m : (l : Loc nD τ sig) → Buf (Elt Ideal) l)

theorem flush11_of : ∀ t : Fin grid0.N, Window.flushOf grid0 true cc0_transform_11 t = true := by decide +kernel

theorem tr11 : ∀ i : grid0.Coords, cc0_transform_11 i = ![(gb i).val, (gi i).val, 0] := by decide +kernel

theorem flush11 (t : Fin (cfgM m).N) : ((cfgM m).win 11).flush t = true := flush11_of t

theorem flush13_of : ∀ t : Fin grid0.N, Window.flushOf grid0 true cc0_transform_13 t = true := by decide +kernel

theorem tr13 : ∀ i : grid0.Coords, cc0_transform_13 i = ![(gb i).val, (gi i).val, 0] := by decide +kernel

theorem flush13 (t : Fin (cfgM m).N) : ((cfgM m).win 13).flush t = true := flush13_of t

theorem flush12_of : ∀ t : Fin grid0.N, Window.flushOf grid0 true cc0_transform_12 t = decide (t.val = 127) := by decide +kernel

theorem tr12 : ∀ i : grid0.Coords, ∀ a, cc0_transform_12 i a = 0 := by decide +kernel

theorem flush12 (t : Fin (cfgM m).N) : ((cfgM m).win 12).flush t = decide (t.val = 127) := flush12_of t

theorem whole12 : ((cfgM m).win 12).WholeAt (⟨127, by decide⟩ : Fin grid0.N) :=
  ⟨(flush12 m _).trans rfl, fun t ht => Fin.ext (of_decide_eq_true ((flush12 m t).symm.trans ht)),
    fun a => ⟨tr12 (grid0.coords ⟨127, by decide⟩) a, by fin_cases a <;> rfl⟩⟩

theorem flush14_of : ∀ t : Fin grid0.N, Window.flushOf grid0 true cc0_transform_14 t = decide (t.val = 127) := by decide +kernel

theorem tr14 : ∀ i : grid0.Coords, ∀ a, cc0_transform_14 i a = 0 := by decide +kernel

theorem flush14 (t : Fin (cfgM m).N) : ((cfgM m).win 14).flush t = decide (t.val = 127) := flush14_of t

theorem whole14 : ((cfgM m).win 14).WholeAt (⟨127, by decide⟩ : Fin grid0.N) :=
  ⟨(flush14 m _).trans rfl, fun t ht => Fin.ext (of_decide_eq_true ((flush14 m t).symm.trans ht)),
    fun a => ⟨tr14 (grid0.coords ⟨127, by decide⟩) a, by fin_cases a <;> rfl⟩⟩

/-- The grid point of a row. -/
theorem pt_of (t : Fin grid0.N) (b : Fin 16) (s : Fin 2047) (hb : b = gb (grid0.coords t)) (h1 : 256 * (gi (grid0.coords t)).val ≤ s.val)
    (h2 : s.val < 256 * (gi (grid0.coords t)).val + 256) : 8 * b.val + s.val / 256 = t.val := by
  obtain ⟨c0, c1⟩ := coords_val t
  have := congrArg Fin.val hb
  have : s.val / 256 = (gi (grid0.coords t)).val := by omega
  omega

theorem pt_iff (t : Fin grid0.N) (b : Fin 16) (s : Fin 2047) (h : 8 * b.val + s.val / 256 = t.val) :
    b = gb (grid0.coords t) ∧ 256 * (gi (grid0.coords t)).val ≤ s.val ∧ s.val < 256 * (gi (grid0.coords t)).val + 256 := by
  obtain ⟨c0, c1⟩ := coords_val t
  have := s.isLt
  exact ⟨Fin.ext (by omega), by omega, by omega⟩

/-- The projected row at its grid point. -/
theorem zb_eq (t : Fin (cfgM m).N) (b : Fin 16) (s : Fin 2047) (hb : b = gb (grid0.coords t)) (r : Fin 256)
    (h : 256 * (gi (grid0.coords t)).val + r.val = s.val) : zb m t r = krow m 0 b s := by
  subst hb
  have hs : s = ⟨256 * (gi (grid0.coords t)).val + r.val, by have := s.isLt; omega⟩ := Fin.ext h.symm
  rw [hs]
  exact Zrow_eq m t r _

/-- The token at its grid point. -/
theorem xb_eq (t : Fin (cfgM m).N) (b : Fin 16) (s : Fin 2047) (hb : b = gb (grid0.coords t)) (r : Fin 256)
    (h : 256 * (gi (grid0.coords t)).val + r.val = s.val) : xb m t r = tok (m (((0 : Dev nD) : Thread nD τ).loc main_arg0)) b s := by
  subst hb
  have hs : s = ⟨256 * (gi (grid0.coords t)).val + r.val, by have := s.isLt; omega⟩ := Fin.ext h.symm
  rw [hs]
  exact xrow_eq m 0 t r _

theorem after12 (t : Fin (cfgM m).N) (X : Vec Ideal S16x2047 .f32) (hX : (rdat (knV m) 0).Leaves 12 t X) :
    ∃ Y : Vec Ideal S16x2047 .f32, (rdat (knV m) 0).Finds 12 t Y ∧ IsRow (grid0.coords t) (fun r => scale (nrm (zb m t r))) Y X := by
  obtain ⟨Y, hF, hA⟩ := hX
  have h : RelV m 12 t Y X := hA.2 rfl
  exact ⟨Y, hF, h.2.1 rfl⟩

/-- After a grid point the buffer holds the scales of every row up to it. -/
theorem leaves12 : ∀ (n : ℕ) (hn : n < grid0.N) (X : Vec Ideal S16x2047 .f32), (rdat (knV m) 0).Leaves 12 (⟨n, hn⟩ : Fin (cfgM m).N) X →
    ∀ (b : Fin 16) (s : Fin 2047), 8 * b.val + s.val / 256 ≤ n → X (ix2 b s) = scale (nrm (krow m 0 b s)) := by
  intro n
  induction n with
  | zero =>
    intro hn X hX b s hle
    obtain ⟨Y, hF, hR⟩ := after12 m ⟨0, hn⟩ X hX
    have hc := pt_iff ⟨0, hn⟩ b s (by show _ = 0; omega)
    refine (hR b s).trans ?_
    rw [dif_pos hc]
    show _ = _
    rw [← zb_eq m ⟨0, hn⟩ b s hc.1 ⟨s.val - 256 * (gi (grid0.coords ⟨0, hn⟩)).val, by omega⟩ (by show _ + (s.val - _) = _; omega)]
  | succ n ih =>
    intro hn X hX b s hle
    obtain ⟨Y, hF, hR⟩ := after12 m ⟨n + 1, hn⟩ X hX
    refine (hR b s).trans ?_
    by_cases he : 8 * b.val + s.val / 256 = n + 1
    · have hc := pt_iff ⟨n + 1, hn⟩ b s he
      rw [dif_pos hc]
      rw [← zb_eq m ⟨n + 1, hn⟩ b s hc.1 ⟨s.val - 256 * (gi (grid0.coords ⟨n + 1, hn⟩)).val, by omega⟩ (by show _ + (s.val - _) = _; omega)]
    · rw [dif_neg fun hc => he (pt_of ⟨n + 1, hn⟩ b s hc.1 hc.2.1 hc.2.2)]
      rcases ((rdat (knV m) 0).finds_of_pos (w := 12) (t := (⟨n + 1, hn⟩ : Fin grid0.N)) rfl (Nat.succ_ne_zero n) Y).mp hF with hf | hL
      · have h127 := of_decide_eq_true ((flush12 m _).symm.trans hf)
        exact absurd hn (by have : n = 127 := h127; subst this; decide)
      · exact ih (by omega) Y hL b s (by omega)

theorem after14 (t : Fin (cfgM m).N) (X : Vec Ideal S16x2047 .f32) (hX : (rdat (knV m) 0).Leaves 14 t X) :
    ∃ Y : Vec Ideal S16x2047 .f32, (rdat (knV m) 0).Finds 14 t Y ∧ IsRow (grid0.coords t) (fun r => scale (xb m t r)) Y X := by
  obtain ⟨Y, hF, hA⟩ := hX
  have h : RelV m 14 t Y X := hA.2 rfl
  exact ⟨Y, hF, h.2.2.2.1 rfl⟩

/-- After a grid point the buffer holds the scales of every row up to it. -/
theorem leaves14 : ∀ (n : ℕ) (hn : n < grid0.N) (X : Vec Ideal S16x2047 .f32), (rdat (knV m) 0).Leaves 14 (⟨n, hn⟩ : Fin (cfgM m).N) X →
    ∀ (b : Fin 16) (s : Fin 2047), 8 * b.val + s.val / 256 ≤ n → X (ix2 b s) = scale (tok (m (((0 : Dev nD) : Thread nD τ).loc main_arg0)) b s) := by
  intro n
  induction n with
  | zero =>
    intro hn X hX b s hle
    obtain ⟨Y, hF, hR⟩ := after14 m ⟨0, hn⟩ X hX
    have hc := pt_iff ⟨0, hn⟩ b s (by show _ = 0; omega)
    refine (hR b s).trans ?_
    rw [dif_pos hc]
    show _ = _
    rw [← xb_eq m ⟨0, hn⟩ b s hc.1 ⟨s.val - 256 * (gi (grid0.coords ⟨0, hn⟩)).val, by omega⟩ (by show _ + (s.val - _) = _; omega)]
  | succ n ih =>
    intro hn X hX b s hle
    obtain ⟨Y, hF, hR⟩ := after14 m ⟨n + 1, hn⟩ X hX
    refine (hR b s).trans ?_
    by_cases he : 8 * b.val + s.val / 256 = n + 1
    · have hc := pt_iff ⟨n + 1, hn⟩ b s he
      rw [dif_pos hc]
      rw [← xb_eq m ⟨n + 1, hn⟩ b s hc.1 ⟨s.val - 256 * (gi (grid0.coords ⟨n + 1, hn⟩)).val, by omega⟩ (by show _ + (s.val - _) = _; omega)]
    · rw [dif_neg fun hc => he (pt_of ⟨n + 1, hn⟩ b s hc.1 hc.2.1 hc.2.2)]
      rcases ((rdat (knV m) 0).finds_of_pos (w := 14) (t := (⟨n + 1, hn⟩ : Fin grid0.N)) rfl (Nat.succ_ne_zero n) Y).mp hF with hf | hL
      · have h127 := of_decide_eq_true ((flush14 m _).symm.trans hf)
        exact absurd hn (by have : n = 127 := h127; subst this; decide)
      · exact ih (by omega) Y hL b s (by omega)

variable {m}
variable {r : PUnit × MemSt nD τ sig (Elt Ideal)}

/-- After the run the array `mvs` holds every row's scale. -/
theorem ker_mvs (h : RDat.FramePost (cfgM m) (rdat (knV m)) (V m) r) (b : Fin 16) (s : Fin 2047) :
    r.2.mem (((0 : Dev nD) : Thread nD τ).loc main_v4_4) (ix2 b s) = scale (nrm (krow m 0 b s)) := by
  obtain ⟨X, hX, hA⟩ := RDat.ArrAt.emb_eq_of_wholeAt ((h 0).1 12) (whole12 m)
  refine (hA (ix2 b s)).trans ?_
  refine Eq.trans ?_ (leaves12 m 127 (by decide) X hX b s (by omega))
  rfl

/-- After the run the array `xs` holds every row's scale. -/
theorem ker_xs (h : RDat.FramePost (cfgM m) (rdat (knV m)) (V m) r) (b : Fin 16) (s : Fin 2047) :
    r.2.mem (((0 : Dev nD) : Thread nD τ).loc main_v4_6) (ix2 b s) = scale (tok (m (((0 : Dev nD) : Thread nD τ).loc main_arg0)) b s) := by
  obtain ⟨X, hX, hA⟩ := RDat.ArrAt.emb_eq_of_wholeAt ((h 0).1 14) (whole14 m)
  refine (hA (ix2 b s)).trans ?_
  refine Eq.trans ?_ (leaves14 m 127 (by decide) X hX b s (by omega))
  rfl

theorem emb11 (t : Fin (cfgM m).N) (y : (⟨3, ![1, 256, 3584]⟩ : Shape).Idx) :
    (((cfgM m).win 11).blk t).view.emb y = (ix3 (gb (grid0.coords t)) (⟨256 * (gi (grid0.coords t)).val + (y 1).val, by have h1 := (gi (grid0.coords t)).isLt; have h2 : (y 1).val < 256 := (y 1).isLt; omega⟩ : Fin 2048) (⟨(y 2).val, (y 2).isLt⟩ : Fin 3584) : (⟨3, ![16, 2048, 3584]⟩ : Shape).Idx) := by
  funext a
  refine Fin.ext ((Window.rect_emb_val ((cfgM m).win 11) t y a rfl).trans ?_)
  have h := tr11 (grid0.coords t)
  have hy : (y 0).val < 1 := (y 0).isLt
  fin_cases a
  · show cc0_transform_11 (grid0.coords t) 0 * 1 + (y 0).val = (gb (grid0.coords t)).val
    rw [h]
    show (gb (grid0.coords t)).val * 1 + (y 0).val = _
    omega
  · show cc0_transform_11 (grid0.coords t) 1 * 256 + (y 1).val = 256 * (gi (grid0.coords t)).val + (y 1).val
    rw [h]
    show (gi (grid0.coords t)).val * 256 + (y 1).val = _
    omega
  · show cc0_transform_11 (grid0.coords t) 2 * 3584 + (y 2).val = (y 2).val
    rw [h]
    show 0 * 3584 + (y 2).val = _
    omega

theorem leaves11 (t : Fin (cfgM m).N) (X : Vec Ideal S1x256x3584 .fp8e4m3) (hX : (rdat (knV m) 0).Leaves 11 t X) : IsMv (zb m t) X := by
  obtain ⟨Y, hF, hA⟩ := hX
  have h : RelV m 11 t Y X := hA.2 rfl
  exact h.1 rfl

/-- After the run the array `mv` holds every row's codes. -/
theorem ker_mv (h : RDat.FramePost (cfgM m) (rdat (knV m)) (V m) r) (b : Fin 16) (s : Fin 2047) (n : Fin 3584) :
    r.2.mem (((0 : Dev nD) : Thread nD τ).loc main_v4_3) (ix3 b (⟨s.val, by omega⟩ : Fin 2048) n) = code (nrm (krow m 0 b s)) n := by
  obtain ⟨after, hL, hA⟩ := h.exists_exact 0
  have hN : 8 * b.val + s.val / 256 < grid0.N := by
    have h1 := b.isLt
    have h2 := s.isLt
    show _ < 128
    omega
  obtain ⟨hb, h1, h2⟩ := pt_iff ⟨8 * b.val + s.val / 256, hN⟩ b s rfl
  have key := Dat.arrAt_forall_of_flushed ((rdat (knV m) 0).withAfter after) 11
    (fun i v => ∀ (b : Fin 16) (s : Fin 2047) (n : Fin 3584), i = ix3 b (⟨s.val, by omega⟩ : Fin 2048) n → v = code (nrm (krow m 0 b s)) n)
    (fun t hf (y : (⟨3, ![1, 256, 3584]⟩ : Shape).Idx) b s n he => ?_) (cfgM m).N (⟨8 * b.val + s.val / 256, hN⟩ : Fin grid0.N) (ix3 b (⟨s.val, by omega⟩ : Fin 2048) n) hN (flush11 m _) ?_ b s n rfl
  · exact (congrFun (hA 11) _).trans key
  · have e := (emb11 t y).symm.trans he
    have e0 : (gb (grid0.coords t)).val = b.val := congrArg (fun i : (⟨3, ![16, 2048, 3584]⟩ : Shape).Idx => (i 0).val) e
    have e1 : 256 * (gi (grid0.coords t)).val + (y 1).val = s.val := congrArg (fun i : (⟨3, ![16, 2048, 3584]⟩ : Shape).Idx => (i 1).val) e
    have e2 : (y 2).val = n.val := congrArg (fun i : (⟨3, ![16, 2048, 3584]⟩ : Shape).Idx => (i 2).val) e
    have hX := leaves11 t (after 11 t) (hL 11 t hf) ⟨(y 1).val, (y 1).isLt⟩ n
    rw [zb_eq m t b s (Fin.ext e0.symm) ⟨(y 1).val, (y 1).isLt⟩ e1] at hX
    refine Eq.trans ?_ hX
    show after 11 t _ = after 11 t _
    refine congrArg (after 11 t) (funext fun a => Fin.ext ?_)
    have hy : (y 0).val < 1 := (y 0).isLt
    fin_cases a
    · show (y 0).val = 0
      omega
    · rfl
    · exact e2
  · refine Finset.mem_map.mpr ⟨(ix3 0 ⟨s.val - 256 * (gi (grid0.coords ⟨8 * b.val + s.val / 256, hN⟩)).val, by omega⟩ n : (⟨3, ![1, 256, 3584]⟩ : Shape).Idx), Finset.mem_univ _, ?_⟩
    refine (emb11 _ _).trans ?_
    rw [← hb]
    refine congrArg (fun x => ix3 b x n) (Fin.ext ?_)
    show 256 * _ + (s.val - 256 * _) = s.val
    omega

theorem emb13 (t : Fin (cfgM m).N) (y : (⟨3, ![1, 256, 4096]⟩ : Shape).Idx) :
    (((cfgM m).win 13).blk t).view.emb y = (ix3 (gb (grid0.coords t)) (⟨256 * (gi (grid0.coords t)).val + (y 1).val, by have h1 := (gi (grid0.coords t)).isLt; have h2 : (y 1).val < 256 := (y 1).isLt; omega⟩ : Fin 2048) (⟨(y 2).val, (y 2).isLt⟩ : Fin 4096) : (⟨3, ![16, 2048, 4096]⟩ : Shape).Idx) := by
  funext a
  refine Fin.ext ((Window.rect_emb_val ((cfgM m).win 13) t y a rfl).trans ?_)
  have h := tr13 (grid0.coords t)
  have hy : (y 0).val < 1 := (y 0).isLt
  fin_cases a
  · show cc0_transform_13 (grid0.coords t) 0 * 1 + (y 0).val = (gb (grid0.coords t)).val
    rw [h]
    show (gb (grid0.coords t)).val * 1 + (y 0).val = _
    omega
  · show cc0_transform_13 (grid0.coords t) 1 * 256 + (y 1).val = 256 * (gi (grid0.coords t)).val + (y 1).val
    rw [h]
    show (gi (grid0.coords t)).val * 256 + (y 1).val = _
    omega
  · show cc0_transform_13 (grid0.coords t) 2 * 4096 + (y 2).val = (y 2).val
    rw [h]
    show 0 * 4096 + (y 2).val = _
    omega

theorem leaves13 (t : Fin (cfgM m).N) (X : Vec Ideal S1x256x4096 .fp8e4m3) (hX : (rdat (knV m) 0).Leaves 13 t X) : IsXc (xb m t) X := by
  obtain ⟨Y, hF, hA⟩ := hX
  have h : RelV m 13 t Y X := hA.2 rfl
  exact h.2.2.1 rfl

/-- After the run the array `xc` holds every row's codes. -/
theorem ker_xc (h : RDat.FramePost (cfgM m) (rdat (knV m)) (V m) r) (b : Fin 16) (s : Fin 2047) (n : Fin 4096) :
    r.2.mem (((0 : Dev nD) : Thread nD τ).loc main_v4_5) (ix3 b (⟨s.val, by omega⟩ : Fin 2048) n) = code (tok (m (((0 : Dev nD) : Thread nD τ).loc main_arg0)) b s) n := by
  obtain ⟨after, hL, hA⟩ := h.exists_exact 0
  have hN : 8 * b.val + s.val / 256 < grid0.N := by
    have h1 := b.isLt
    have h2 := s.isLt
    show _ < 128
    omega
  obtain ⟨hb, h1, h2⟩ := pt_iff ⟨8 * b.val + s.val / 256, hN⟩ b s rfl
  have key := Dat.arrAt_forall_of_flushed ((rdat (knV m) 0).withAfter after) 13
    (fun i v => ∀ (b : Fin 16) (s : Fin 2047) (n : Fin 4096), i = ix3 b (⟨s.val, by omega⟩ : Fin 2048) n → v = code (tok (m (((0 : Dev nD) : Thread nD τ).loc main_arg0)) b s) n)
    (fun t hf (y : (⟨3, ![1, 256, 4096]⟩ : Shape).Idx) b s n he => ?_) (cfgM m).N (⟨8 * b.val + s.val / 256, hN⟩ : Fin grid0.N) (ix3 b (⟨s.val, by omega⟩ : Fin 2048) n) hN (flush13 m _) ?_ b s n rfl
  · exact (congrFun (hA 13) _).trans key
  · have e := (emb13 t y).symm.trans he
    have e0 : (gb (grid0.coords t)).val = b.val := congrArg (fun i : (⟨3, ![16, 2048, 4096]⟩ : Shape).Idx => (i 0).val) e
    have e1 : 256 * (gi (grid0.coords t)).val + (y 1).val = s.val := congrArg (fun i : (⟨3, ![16, 2048, 4096]⟩ : Shape).Idx => (i 1).val) e
    have e2 : (y 2).val = n.val := congrArg (fun i : (⟨3, ![16, 2048, 4096]⟩ : Shape).Idx => (i 2).val) e
    have hX := leaves13 t (after 13 t) (hL 13 t hf) ⟨(y 1).val, (y 1).isLt⟩ n
    rw [xb_eq m t b s (Fin.ext e0.symm) ⟨(y 1).val, (y 1).isLt⟩ e1] at hX
    refine Eq.trans ?_ hX
    show after 13 t _ = after 13 t _
    refine congrArg (after 13 t) (funext fun a => Fin.ext ?_)
    have hy : (y 0).val < 1 := (y 0).isLt
    fin_cases a
    · show (y 0).val = 0
      omega
    · rfl
    · exact e2
  · refine Finset.mem_map.mpr ⟨(ix3 0 ⟨s.val - 256 * (gi (grid0.coords ⟨8 * b.val + s.val / 256, hN⟩)).val, by omega⟩ n : (⟨3, ![1, 256, 4096]⟩ : Shape).Idx), Finset.mem_univ _, ?_⟩
    refine (emb13 _ _).trans ?_
    rw [← hb]
    refine congrArg (fun x => ix3 b x n) (Fin.ext ?_)
    show 256 * _ + (s.val - 256 * _) = s.val
    omega

end Cert.KernelIdeal.Val

end
-- ==== Proof.HeadArr.lean ====
/- The arrays of the dense result, of the lexical result and of the token weights after the kernel's run. -/
module

public import proofs.«01_k».proof.Proof.KerArr

@[expose] public section

set_option maxRecDepth 16384
set_option maxHeartbeats 1000000

noncomputable section

namespace Cert.KernelIdeal.Val

open Idealize.ShloMosaic Idealize.ShloMosaic.TcCoe
open Idealize.ShloMosaic.Pipeline (RDat Dat Cfg Window)
open Cert.Spec Cert.KernelIdeal Cert.KernelIdeal.Gen Cert.KernelIdeal.Hand

variable (m : (l : Loc nD τ sig) → Buf (Elt Ideal) l)

/-- The first block of a batch row. -/
theorem first_iff (t : Fin grid0.N) (b : Fin 16) : 8 * b.val = t.val ↔ b = gb (grid0.coords t) ∧ (gi (grid0.coords t)).val = 0 := by
  obtain ⟨c0, c1⟩ := coords_val t
  constructor
  · intro h
    exact ⟨Fin.ext (by omega), by omega⟩
  · rintro ⟨h, h'⟩
    have := congrArg Fin.val h
    omega

/-- The last block of a batch row. -/
theorem last_iff (t : Fin grid0.N) (b : Fin 16) : 8 * b.val + 7 = t.val ↔ b = gb (grid0.coords t) ∧ (gi (grid0.coords t)).val = 7 := by
  obtain ⟨c0, c1⟩ := coords_val t
  constructor
  · intro h
    exact ⟨Fin.ext (by omega), by omega⟩
  · rintro ⟨h, h'⟩
    have := congrArg Fin.val h
    omega

/-- The block of a token. -/
theorem tok_iff (t : Fin grid0.N) (b : Fin 16) (s : Fin 2048) : 8 * b.val + s.val / 256 = t.val
    ↔ b = gb (grid0.coords t) ∧ 256 * (gi (grid0.coords t)).val ≤ s.val ∧ s.val < 256 * (gi (grid0.coords t)).val + 256 := by
  obtain ⟨c0, c1⟩ := coords_val t
  have := s.isLt
  constructor
  · intro h
    exact ⟨Fin.ext (by omega), by omega, by omega⟩
  · rintro ⟨h, h1, h2⟩
    have := congrArg Fin.val h
    have : s.val / 256 = (gi (grid0.coords t)).val := by omega
    omega

theorem flush8_of : ∀ t : Fin grid0.N, Window.flushOf grid0 true cc0_transform_8 t = decide (t.val = 127) := by decide +kernel

theorem tr8 : ∀ i : grid0.Coords, ∀ a, cc0_transform_8 i a = 0 := by decide +kernel

theorem flush8 (t : Fin (cfgM m).N) : ((cfgM m).win 8).flush t = decide (t.val = 127) := flush8_of t

theorem whole8 : ((cfgM m).win 8).WholeAt (⟨127, by decide⟩ : Fin grid0.N) :=
  ⟨(flush8 m _).trans rfl, fun t ht => Fin.ext (of_decide_eq_true ((flush8 m t).symm.trans ht)),
    fun a => ⟨tr8 (grid0.coords ⟨127, by decide⟩) a, by fin_cases a <;> rfl⟩⟩

theorem at8 (t : Fin (cfgM m).N) (Y X : Vec Ideal S16x4096 .f32) (h : IsDense (grid0.coords t) (X0 m 0 t) Y X) (b : Fin 16) (j : Fin 4096) :
    X (ix2 b j) = if 8 * b.val = t.val then kdns m b j else Y (ix2 b j) := by
  rw [h b j]
  by_cases hc : 8 * b.val = t.val
  · have h' := (first_iff t b).1 hc
    rw [if_pos h', if_pos hc, dense_eq m t h'.2, ← h'.1]
  · rw [if_neg fun hh => hc ((first_iff t b).2 hh), if_neg hc]

theorem after8 (t : Fin (cfgM m).N) (X : Vec Ideal S16x4096 .f32) (hX : (rdat (knV m) 0).Leaves 8 t X) :
    ∃ Y : Vec Ideal S16x4096 .f32, (rdat (knV m) 0).Finds 8 t Y ∧ ∀ (b : Fin 16) (j : Fin 4096), X (ix2 b j) = if 8 * b.val = t.val then kdns m b j else Y (ix2 b j) := by
  obtain ⟨Y, hF, hA⟩ := hX
  have h0 : RelV m 8 t Y X := hA.2 rfl
  exact ⟨Y, hF, at8 m t Y X (h0.2.2.2.2.1 rfl)⟩

/-- After a grid point the buffer holds the dense rows written up to it. -/
theorem leaves8 : ∀ (n : ℕ) (hn : n < grid0.N) (X : Vec Ideal S16x4096 .f32), (rdat (knV m) 0).Leaves 8 (⟨n, hn⟩ : Fin (cfgM m).N) X →
    ∀ (b : Fin 16) (j : Fin 4096), 8 * b.val ≤ n → X (ix2 b j) = kdns m b j := by
  intro n
  induction n with
  | zero =>
    intro hn X hX b j hle
    obtain ⟨Y, hF, hR⟩ := after8 m ⟨0, hn⟩ X hX
    exact (hR b j).trans (if_pos (by show _ = 0; omega))
  | succ n ih =>
    intro hn X hX b j hle
    obtain ⟨Y, hF, hR⟩ := after8 m ⟨n + 1, hn⟩ X hX
    refine (hR b j).trans ?_
    by_cases he : 8 * b.val = n + 1
    · exact if_pos he
    · refine (if_neg he).trans ?_
      rcases ((rdat (knV m) 0).finds_of_pos (w := 8) (t := (⟨n + 1, hn⟩ : Fin grid0.N)) rfl (Nat.succ_ne_zero n) Y).mp hF with hf | hL
      · have h127 := of_decide_eq_true ((flush8 m _).symm.trans hf)
        exact absurd hn (by have : n = 127 := h127; subst this; decide)
      · exact ih (by omega) Y hL b j (by omega)

theorem flush9_of : ∀ t : Fin grid0.N, Window.flushOf grid0 true cc0_transform_9 t = decide (t.val = 127) := by decide +kernel

theorem tr9 : ∀ i : grid0.Coords, ∀ a, cc0_transform_9 i a = 0 := by decide +kernel

theorem flush9 (t : Fin (cfgM m).N) : ((cfgM m).win 9).flush t = decide (t.val = 127) := flush9_of t

theorem whole9 : ((cfgM m).win 9).WholeAt (⟨127, by decide⟩ : Fin grid0.N) :=
  ⟨(flush9 m _).trans rfl, fun t ht => Fin.ext (of_decide_eq_true ((flush9 m t).symm.trans ht)),
    fun a => ⟨tr9 (grid0.coords ⟨127, by decide⟩) a, by fin_cases a <;> rfl⟩⟩

theorem at9 (t : Fin (cfgM m).N) (Y X : Vec Ideal S16x2048 .f32) (h : IsLex (grid0.coords t) (klex m (gb (grid0.coords t))) Y X) (b : Fin 16) (j : Fin 2048) :
    X (ix2 b j) = if 8 * b.val + 7 = t.val then klex m b j else Y (ix2 b j) := by
  rw [h b j]
  by_cases hc : 8 * b.val + 7 = t.val
  · have h' := (last_iff t b).1 hc
    rw [if_pos h', if_pos hc, ← h'.1]
  · rw [if_neg fun hh => hc ((last_iff t b).2 hh), if_neg hc]

theorem after9 (t : Fin (cfgM m).N) (X : Vec Ideal S16x2048 .f32) (hX : (rdat (knV m) 0).Leaves 9 t X) :
    ∃ Y : Vec Ideal S16x2048 .f32, (rdat (knV m) 0).Finds 9 t Y ∧ ∀ (b : Fin 16) (j : Fin 2048), X (ix2 b j) = if 8 * b.val + 7 = t.val then klex m b j else Y (ix2 b j) := by
  obtain ⟨Y, hF, hA⟩ := hX
  have h0 : RelV m 9 t Y X := hA.2 rfl
  exact ⟨Y, hF, at9 m t Y X (h0.2.2.2.2.2.1 rfl)⟩

/-- After a grid point the buffer holds the lexical rows written up to it. -/
theorem leaves9 : ∀ (n : ℕ) (hn : n < grid0.N) (X : Vec Ideal S16x2048 .f32), (rdat (knV m) 0).Leaves 9 (⟨n, hn⟩ : Fin (cfgM m).N) X →
    ∀ (b : Fin 16) (j : Fin 2048), 8 * b.val + 7 ≤ n → X (ix2 b j) = klex m b j := by
  intro n
  induction n with
  | zero =>
    intro hn X hX b j hle
    obtain ⟨Y, hF, hR⟩ := after9 m ⟨0, hn⟩ X hX
    exact (hR b j).trans (if_pos (by show _ = 0; omega))
  | succ n ih =>
    intro hn X hX b j hle
    obtain ⟨Y, hF, hR⟩ := after9 m ⟨n + 1, hn⟩ X hX
    refine (hR b j).trans ?_
    by_cases he : 8 * b.val + 7 = n + 1
    · exact if_pos he
    · refine (if_neg he).trans ?_
      rcases ((rdat (knV m) 0).finds_of_pos (w := 9) (t := (⟨n + 1, hn⟩ : Fin grid0.N)) rfl (Nat.succ_ne_zero n) Y).mp hF with hf | hL
      · have h127 := of_decide_eq_true ((flush9 m _).symm.trans hf)
        exact absurd hn (by have : n = 127 := h127; subst this; decide)
      · exact ih (by omega) Y hL b j (by omega)

theorem flush10_of : ∀ t : Fin grid0.N, Window.flushOf grid0 true cc0_transform_10 t = decide (t.val = 127) := by decide +kernel

theorem tr10 : ∀ i : grid0.Coords, ∀ a, cc0_transform_10 i a = 0 := by decide +kernel

theorem flush10 (t : Fin (cfgM m).N) : ((cfgM m).win 10).flush t = decide (t.val = 127) := flush10_of t

theorem whole10 : ((cfgM m).win 10).WholeAt (⟨127, by decide⟩ : Fin grid0.N) :=
  ⟨(flush10 m _).trans rfl, fun t ht => Fin.ext (of_decide_eq_true ((flush10 m t).symm.trans ht)),
    fun a => ⟨tr10 (grid0.coords ⟨127, by decide⟩) a, by fin_cases a <;> rfl⟩⟩

theorem at10 (t : Fin (cfgM m).N) (Y X : Vec Ideal S16x2048 .f32) (h : IsTw (grid0.coords t) (twb m t) Y X) (b : Fin 16) (j : Fin 2048) :
    X (ix2 b j) = if 8 * b.val + j.val / 256 = t.val then ktw m b j else Y (ix2 b j) := by
  rw [h b j]
  by_cases hc : 8 * b.val + j.val / 256 = t.val
  · have h' := (tok_iff t b j).1 hc
    rw [dif_pos h', if_pos hc, twb_eq, ← h'.1]
    exact congrArg (ktw m b) (Fin.ext (by show 256 * _ + (j.val - 256 * _) = j.val; omega))
  · rw [dif_neg fun hh => hc ((tok_iff t b j).2 hh), if_neg hc]

theorem after10 (t : Fin (cfgM m).N) (X : Vec Ideal S16x2048 .f32) (hX : (rdat (knV m) 0).Leaves 10 t X) :
    ∃ Y : Vec Ideal S16x2048 .f32, (rdat (knV m) 0).Finds 10 t Y ∧ ∀ (b : Fin 16) (j : Fin 2048), X (ix2 b j) = if 8 * b.val + j.val / 256 = t.val then ktw m b j else Y (ix2 b j) := by
  obtain ⟨Y, hF, hA⟩ := hX
  have h0 : RelV m 10 t Y X := hA.2 rfl
  exact ⟨Y, hF, at10 m t Y X (h0.2.2.2.2.2.2 rfl)⟩

/-- After a grid point the buffer holds the token weights written up to it. -/
theorem leaves10 : ∀ (n : ℕ) (hn : n < grid0.N) (X : Vec Ideal S16x2048 .f32), (rdat (knV m) 0).Leaves 10 (⟨n, hn⟩ : Fin (cfgM m).N) X →
    ∀ (b : Fin 16) (j : Fin 2048), 8 * b.val + j.val / 256 ≤ n → X (ix2 b j) = ktw m b j := by
  intro n
  induction n with
  | zero =>
    intro hn X hX b j hle
    obtain ⟨Y, hF, hR⟩ := after10 m ⟨0, hn⟩ X hX
    exact (hR b j).trans (if_pos (by show _ = 0; omega))
  | succ n ih =>
    intro hn X hX b j hle
    obtain ⟨Y, hF, hR⟩ := after10 m ⟨n + 1, hn⟩ X hX
    refine (hR b j).trans ?_
    by_cases he : 8 * b.val + j.val / 256 = n + 1
    · exact if_pos he
    · refine (if_neg he).trans ?_
      rcases ((rdat (knV m) 0).finds_of_pos (w := 10) (t := (⟨n + 1, hn⟩ : Fin grid0.N)) rfl (Nat.succ_ne_zero n) Y).mp hF with hf | hL
      · have h127 := of_decide_eq_true ((flush10 m _).symm.trans hf)
        exact absurd hn (by have : n = 127 := h127; subst this; decide)
      · exact ih (by omega) Y hL b j (by omega)

variable {m}
variable {r : PUnit × MemSt nD τ sig (Elt Ideal)}

/-- After the run the array holds the dense rows. -/
theorem ker_dense (h : RDat.FramePost (cfgM m) (rdat (knV m)) (V m) r) (b : Fin 16) (j : Fin 4096) :
    r.2.mem (((0 : Dev nD) : Thread nD τ).loc main_v4_0) (ix2 b j) = kdns m b j := by
  obtain ⟨X, hX, hA⟩ := RDat.ArrAt.emb_eq_of_wholeAt ((h 0).1 8) (whole8 m)
  refine (hA (ix2 b j)).trans ?_
  refine Eq.trans ?_ (leaves8 m 127 (by decide) X hX b j (by omega))
  rfl

/-- After the run the array holds the lexical rows. -/
theorem ker_lex (h : RDat.FramePost (cfgM m) (rdat (knV m)) (V m) r) (b : Fin 16) (j : Fin 2048) :
    r.2.mem (((0 : Dev nD) : Thread nD τ).loc main_v4_1) (ix2 b j) = klex m b j := by
  obtain ⟨X, hX, hA⟩ := RDat.ArrAt.emb_eq_of_wholeAt ((h 0).1 9) (whole9 m)
  refine (hA (ix2 b j)).trans ?_
  refine Eq.trans ?_ (leaves9 m 127 (by decide) X hX b j (by omega))
  rfl

/-- After the run the array holds the token weights. -/
theorem ker_tw (h : RDat.FramePost (cfgM m) (rdat (knV m)) (V m) r) (b : Fin 16) (j : Fin 2048) :
    r.2.mem (((0 : Dev nD) : Thread nD τ).loc main_v4_2) (ix2 b j) = ktw m b j := by
  obtain ⟨X, hX, hA⟩ := RDat.ArrAt.emb_eq_of_wholeAt ((h 0).1 10) (whole10 m)
  refine (hA (ix2 b j)).trans ?_
  refine Eq.trans ?_ (leaves10 m 127 (by decide) X hX b j (by omega))
  rfl

end Cert.KernelIdeal.Val

end
-- ==== Proof.RefBlocks.lean ====
/- The reference's run, with each array its kernel region leaves named by what the region's one point writes back. -/
module

public import proofs.«01_k».proof.Proof.Gen.ReferenceIdeal.Frame
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S16x2048x3584.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S16x2047.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S16x2048x4096.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S16x2047.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v55_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v55_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v55_2) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v55_3) = (dats m 0 c).arrAt 8 cfg0.N :=
  (h c).1 8

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 2 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 2).trans (((dats m 0 c).arrAt_in 2 rfl _).trans ((A_eq m c 2).trans (V_main_arg5 m c)))

/-- After the frame run, argument `main_arg6` is as launched: input window 3 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 3).trans (((dats m 0 c).arrAt_in 3 rfl _).trans ((A_eq m c 3).trans (V_main_arg6 m c)))

/-- After the frame run, argument `main_arg7` is as launched: input window 4 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 4).trans (((dats m 0 c).arrAt_in 4 rfl _).trans ((A_eq m c 4).trans (V_main_arg7 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v55_0) = (dats m 0 c).arrAt 5 cfg0.N
      ∧ r.2.mem ((c : Thread nD τ).loc main_v55_1) = (dats m 0 c).arrAt 6 cfg0.N
      ∧ r.2.mem ((c : Thread nD τ).loc main_v55_2) = (dats m 0 c).arrAt 7 cfg0.N
      ∧ r.2.mem ((c : Thread nD τ).loc main_v55_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post5 m r h c,
      post6 m r h c,
      post7 m r h c,
      post8 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.ReferenceIdeal.Value

end
-- ==== Proof.RefHost.lean ====
/- What the reference computes before its kernel region: the rows shifted up by one, and which rows lie inside the sequence. -/
module

public import proofs.«01_k».proof.Proof.RefBlocks
public import proofs.«01_k».proof.Proof.Spec
public import proofs.«01_k».proof.Proof.Reads

@[expose] public section

set_option maxRecDepth 16384
set_option maxHeartbeats 1000000

noncomputable section

namespace Cert.ReferenceIdeal.Value

open Cert.ReferenceIdeal Cert.ReferenceIdeal.Gen Idealize.ShloMosaic Idealize.ShloMosaic.TcCoe Idealize.SL.Sem Cert.Spec
open Idealize.ShloMosaic.Pipeline (Dat)

variable (m : (l : Loc nD τ sig) → Buf (Elt Ideal) l)

theorem V44 (c : Dev nD) : V m c main_v44 = concatenate S16x2048x4096 1 [⟨S16x2047x4096, extractStridedSlice S16x2047x4096 ![0, 1, 0] (m ((c : Thread nD τ).loc main_arg0)) slices_S16x2048x4096_S16x2047x4096_0_1_0⟩,
    ⟨S16x1x4096, broadcastInDim S16x1x4096 ![] bcast_S_S16x1x4096 (constant (F := Ideal) S_ .bf16 0x0000#16)⟩] concatenates_S16x2047x4096_S16x1x4096_S16x2048x4096_d1 := by
  unfold V hostOps0 hostOps0_1 hostOps0_2 hostOps0_3 hostOps0_4
  simp only [List.flatten_cons, List.flatten_nil, List.append_nil, List.cons_append, List.nil_append]
  after_results

/-- The kernel region's rows are the sequence's rows from the second on, with a zero row at the end. -/
theorem xm_apply (c : Dev nD) (b : Fin 16) (s : Fin 2048) (d : Fin 4096) (h : s.val < 2047) :
    V m c main_v44 (ix3 b s d) = m ((c : Thread nD τ).loc main_arg0) (ix3 b ⟨s.val + 1, by omega⟩ d) := by
  rw [V44]
  generalize m ((c : Thread nD τ).loc main_arg0) = x
  generalize broadcastInDim S16x1x4096 ![] bcast_S_S16x1x4096 (constant (F := Ideal) S_ .bf16 0x0000#16) = z
  pointwise
  simp only [h, dif_pos, Nat.add_comm]

theorem V54 (c : Dev nD) : V m c main_v54 = broadcastInDim S16x2048x1 ![0, 1] bcast_S16x2048_S16x2048x1_0_1 (extui 32 (cmpi .slt
      (broadcastInDim S16x2048 ![0, 1] bcast_S1x2048_S16x2048_0_1 (broadcastInDim S1x2048 ![1] bcast_S2048_S1x2048_1
        (addi (broadcastInDim S2048 ![] bcast_S_S2048 (constantI S_ 32 1#32)) (iotaInDim S2048 32 0))))
      (broadcastInDim S16x2048 ![0, 1] bcast_S16x1_S16x2048_0_1 (broadcastInDim S16x1 ![0] bcast_S16_S16x1_0 (m ((c : Thread nD τ).loc main_arg1))))) natLt_1_32) := by
  unfold V hostOps0 hostOps0_1 hostOps0_2 hostOps0_3 hostOps0_4
  simp only [List.flatten_cons, List.flatten_nil, List.append_nil, List.cons_append, List.nil_append]
  after_results

/-- A row is used where its position in the sequence is below the length. -/
theorem valid_apply (c : Dev nD) (b : Fin 16) (s : Fin 2048) :
    IntOp.cmpi .sgt (V m c main_v54 (ix3 b s 0)) 0#32 = IntOp.cmpi .slt (1#32 + BitVec.ofNat 32 s.val) (m ((c : Thread nD τ).loc main_arg1) (ix1 b)) := by
  rw [V54]
  generalize m ((c : Thread nD τ).loc main_arg1) = x
  pointwise
  show IntOp.cmpi .sgt (BitVec.setWidth 32 (IntOp.cmpi .slt (1#32 + BitVec.ofNat 32 s.val) (x (ix1 b)))) 0#32 = _
  generalize IntOp.cmpi .slt (1#32 + BitVec.ofNat 32 s.val) (x (ix1 b)) = q
  rcases BitVec.eq_zero_or_eq_one q with h | h <;> subst h <;> rfl

end Cert.ReferenceIdeal.Value

end
-- ==== Proof.RefValue.lean ====
/- What the reference's kernel region computes, over the extended reals, index by index. -/
module

public import proofs.«01_k».proof.Proof.RefBlocks
public import proofs.«01_k».proof.Proof.Spec
public import proofs.«01_k».proof.Proof.Reads

@[expose] public section

set_option maxRecDepth 16384
set_option maxHeartbeats 1000000

noncomputable section

namespace Cert.ReferenceIdeal.Value

open Cert.ReferenceIdeal Cert.ReferenceIdeal.Gen Idealize.ShloMosaic Idealize.ShloMosaic.TcCoe Idealize.SL.Sem Cert.Spec
open Idealize.ShloMosaic.Pipeline (Dat)

theorem pay4_apply (x : Vec Ideal S16x2048x4096 .bf16) (i : S16x2048x4096.Idx) : k0_pay4 x i = x i := by
  pointwise [k0_pay4]

/-- The chain of vector operations that computes a scale's exponent, at an index. -/
theorem qexpV {S : Shape} (M : FVec Ideal S .f32) (i : S.Idx) :
    select (cmpf .oeq M (broadcast S (Scalar.ofBits .f32 0x00000000#32 : Ideal .f32))) (broadcast S (Scalar.ofBits .f32 0x00000000#32 : Ideal .f32))
      (minimumf (broadcast S (Scalar.ofBits .f32 0x42FC0000#32 : Ideal .f32)) (maximumf (broadcast S (Scalar.ofBits .f32 0xC2FC0000#32 : Ideal .f32))
        (addf (floor (divf (log (mulf M (broadcast S (Scalar.ofBits .f32 0x3B124925#32 : Ideal .f32)))) (log (broadcast S (Scalar.ofBits .f32 0x40000000#32 : Ideal .f32)))))
          (broadcast S (Scalar.ofBits .f32 0x3F800000#32 : Ideal .f32))))) i = qexp (M i) := by
  rw [qexp_raw]
  rfl

theorem exp2V {S : Shape} (M : FVec Ideal S .f32) (i : S.Idx) : exp2 M i = Ideal.exp2 (M i) := rfl
theorem pay7g (p : FVec Ideal S16x2048 .f32) (q : FVec Ideal S16x2048x4096 .f32) (b : Fin 16) (s : Fin 2048) (d : Fin 4096) :
  truncf FTy.fp8e4m3
      (minimumf (broadcast S16x2048x4096 (FloatOps.ofBits FTy.f32 1138753536#32))
        (maximumf (broadcast S16x2048x4096 (FloatOps.ofBits FTy.f32 3286237184#32))
          (mulf q
            (broadcastTo S16x2048x4096
              (shapeCast S16x2048x1 (exp2 (subf (broadcast S16x2048 (FloatOps.ofBits FTy.f32 0#32)) p))
                shapeCasts_S16x2048_S16x2048x1)
              broadcasts_S16x2048x1_S16x2048x4096))))
      bitsLt_fp8e4m3_f32 (ix3 b s d) = clampQ (q (ix3 b s d) * Ideal.exp2 (0 - p (ix2 b s))) := by
  pointwise
  rfl

theorem pay5g (x : Vec Ideal S16x2048x4096 .bf16) (b : Fin 16) (s : Fin 2048) :
    k0_pay5 x (ix2 b s) = qexp (multiReduction .maximumf [2] S16x2048 (absf (k0_pay4 x)) 0xFF800000#32 reduces_S16x2048x4096_S16x2048 (.inl rfl) rfl (ix2 b s)) := by
  unfold k0_pay5
  exact qexpV _ _

theorem pay6g (x : Vec Ideal S16x2048x4096 .bf16) (b : Fin 16) (s : Fin 2048) :
    k0_pay6 x (ix2 b s) = Ideal.exp2 (k0_pay5 x (ix2 b s)) := by
  unfold k0_pay6
  exact exp2V _ _

theorem pay7h (x : Vec Ideal S16x2048x4096 .bf16) (b : Fin 16) (s : Fin 2048) (d : Fin 4096) :
    k0_pay7 x (ix3 b s d) = clampQ (k0_pay4 x (ix3 b s d) * Ideal.exp2 (0 - k0_pay5 x (ix2 b s))) := by
  unfold k0_pay7
  exact pay7g _ _ _ _ _

theorem pay10g (y : FVec Ideal S16x2048x3584 .f32) (w b' : Vec Ideal S3584 .f32) (v : Vec Ideal S16x2048x1 .i32) (b : Fin 16) (s : Fin 2048) :
    k0_pay10 y w b' v (ix2 b s) = qexp (amax fun n : Fin 3584 => k0_pay9 y w b' v (ix3 b s n)) := by
  have h := Cert.Reads.max_last3 (absf (k0_pay9 y w b' v)) 0xFF800000#32 reduces_S16x2048x3584_S16x2048 (.inl rfl) rfl b s
  have e : amax (fun n : Fin 3584 => k0_pay9 y w b' v (ix3 b s n)) = _ := h.symm
  rw [e]
  unfold k0_pay10
  exact qexpV _ _
theorem pay11g (y : FVec Ideal S16x2048x3584 .f32) (w b' : Vec Ideal S3584 .f32) (v : Vec Ideal S16x2048x1 .i32) (b : Fin 16) (s : Fin 2048) :
    k0_pay11 y w b' v (ix2 b s) = Ideal.exp2 (k0_pay10 y w b' v (ix2 b s)) := by
  unfold k0_pay11
  exact exp2V _ _

theorem pay2g (x : FVec Ideal S16x2048 .f32) (b : Fin 16) (s : Fin 2047) : k0_pay2 x (ix2 b s) = x (ix2 b ⟨s.val, by omega⟩) := by
  pointwise [k0_pay2]
theorem pay3g (x : FVec Ideal S16x2048 .f32) (b : Fin 16) (s : Fin 2047) : k0_pay3 x (ix2 b s) = x (ix2 b ⟨s.val, by omega⟩) := by
  pointwise [k0_pay3]
theorem ld3 (x : Vec Ideal S16x2048x4096 .bf16) : View.ld x r0_0 = x := View.ld_unit_zero (by funext k; fin_cases k <;> rfl) _ x
theorem ldw (x : Vec Ideal S4096x3584 .fp8e4m3) : View.ld x r0_1 = x := View.ld_unit_zero (by funext k; fin_cases k <;> rfl) _ x
theorem ld1 (x : Vec Ideal S3584 .f32) : View.ld x r0_2 = x := View.ld_unit_zero (by funext k; fin_cases k; rfl) _ x
theorem ldv (x : Vec Ideal S16x2048x1 .i32) : View.ld x r0_3 = x := View.ld_unit_zero (by funext k; fin_cases k <;> rfl) _ x
theorem canon5 (w : Vec Ideal S16x2048x3584 .fp8e4m3) : View.canon [⟨r0_4, w⟩] = w := View.canon_unit_zero (by funext k; fin_cases k <;> rfl) _ w
theorem canon6 (w : Vec Ideal S16x2047 .f32) : View.canon [⟨r0_5, w⟩] = w := View.canon_unit_zero (by funext k; fin_cases k <;> rfl) _ w
theorem canon7 (w : Vec Ideal S16x2048x4096 .fp8e4m3) : View.canon [⟨r0_0, w⟩] = w := View.canon_unit_zero (by funext k; fin_cases k <;> rfl) _ w

theorem pay5_apply (x : Vec Ideal S16x2048x4096 .bf16) (b : Fin 16) (s : Fin 2048) :
    k0_pay5 x (ix2 b s) = qexp (amax fun k : Fin 4096 => x (ix3 b s k)) := by
  rw [pay5g]
  refine congrArg qexp ?_
  rw [Cert.Reads.max_last3 (absf (k0_pay4 x)) 0xFF800000#32 reduces_S16x2048x4096_S16x2048 (.inl rfl) rfl b s]
  unfold amax
  refine congrArg (fun f => (Finset.univ : Finset (Fin 4096)).fold max _ f) (funext fun k => ?_)
  show max (k0_pay4 x (ix3 b s k)) (-(k0_pay4 x (ix3 b s k))) = _
  rw [pay4_apply]

theorem pay6_apply (x : Vec Ideal S16x2048x4096 .bf16) (b : Fin 16) (s : Fin 2048) :
    k0_pay6 x (ix2 b s) = scale fun k : Fin 4096 => x (ix3 b s k) := by
  rw [pay6g, pay5_apply]; rfl

theorem pay7_apply (x : Vec Ideal S16x2048x4096 .bf16) (b : Fin 16) (s : Fin 2048) (d : Fin 4096) :
    k0_pay7 x (ix3 b s d) = code (fun k : Fin 4096 => x (ix3 b s k)) d := by
  rw [pay7h, pay5_apply, pay4_apply]; rfl

theorem pay8_apply (x : Vec Ideal S16x2048x4096 .bf16) (w : Vec Ideal S4096x3584 .fp8e4m3) (b : Fin 16) (s : Fin 2048) (n : Fin 3584) :
    k0_pay8 x w (ix3 b s n) = (∑ d : Fin 4096, code (fun k : Fin 4096 => x (ix3 b s k)) d * w (ix2 d n)) * scale fun k : Fin 4096 => x (ix3 b s k) := by
  rw [← pay6_apply]
  simp only [← pay7_apply]
  pointwise [k0_pay8]

theorem pay9_apply (y : FVec Ideal S16x2048x3584 .f32) (w b' : Vec Ideal S3584 .f32) (v : Vec Ideal S16x2048x1 .i32) (b : Fin 16) (s : Fin 2048) (n : Fin 3584) :
    k0_pay9 y w b' v (ix3 b s n) = nrm (fun n : Fin 3584 => Scalar.select (IntOp.cmpi .sgt (v (ix3 b s 0)) 0#32) (y (ix3 b s n) * w (ix1 n) + b' (ix1 n)) 0) n := by
  unfold nrm epsn
  pointwise [k0_pay9]

theorem pay1_apply (y : FVec Ideal S16x2048x3584 .f32) (e : FVec Ideal S16x2048 .f32) (z : Ideal .f32) (b : Fin 16) (s : Fin 2048) (n : Fin 3584) :
    k0_pay1 y e z (ix3 b s n) = clampQ (y (ix3 b s n) * Ideal.exp2 (z - e (ix2 b s))) := by
  pointwise [k0_pay1]
  rfl
/-- The projected, masked row. -/
def yrow (x : Vec Ideal S16x2048x4096 .bf16) (v : Vec Ideal S16x2048x1 .i32) (w : Vec Ideal S4096x3584 .fp8e4m3) (sc b' : Vec Ideal S3584 .f32)
    (b : Fin 16) (s : Fin 2048) (n : Fin 3584) : EReal :=
  Scalar.select (IntOp.cmpi .sgt (v (ix3 b s 0)) 0#32)
    (lin (fun k : Fin 4096 => x (ix3 b s k)) (fun d => w (ix2 d n)) (sc (ix1 n)) (b' (ix1 n))) 0

theorem out5_apply (x : Vec Ideal S16x2048x4096 .bf16) (v : Vec Ideal S16x2048x1 .i32) (w : Vec Ideal S4096x3584 .fp8e4m3) (sc b' : Vec Ideal S3584 .f32)
    (b : Fin 16) (s : Fin 2048) (n : Fin 3584) :
    out0_5 x v w sc b' (ix3 b s n) = code (nrm (yrow x v w sc b' b s)) n := by
  have hy : (fun n => k0_pay9 (k0_pay8 x w) sc b' v (ix3 b s n)) = nrm (yrow x v w sc b' b s) := by
    funext n
    rw [pay9_apply]
    simp only [pay8_apply]
    rfl
  unfold out0_5 k0_pay12
  rw [canon5]
  rw [ld3 x, ldw w, ld1 sc, ld1 b', ldv v]
  rw [pay1_apply, pay10g, hy, congrFun hy n]
  show clampQ (_ * Ideal.exp2 (Ideal.ofBits .f32 0x00000000#32 - _)) = _
  rw [Ideal.ofBits_zero_f32]
  rfl

theorem out7_apply (x : Vec Ideal S16x2048x4096 .bf16) (v : Vec Ideal S16x2048x1 .i32) (w : Vec Ideal S4096x3584 .fp8e4m3) (sc b' : Vec Ideal S3584 .f32)
    (b : Fin 16) (s : Fin 2048) (d : Fin 4096) :
    out0_7 x v w sc b' (ix3 b s d) = code (fun k : Fin 4096 => x (ix3 b s k)) d := by
  unfold out0_7
  rw [canon7, ld3 x, pay7_apply]

theorem out6_apply (x : Vec Ideal S16x2048x4096 .bf16) (v : Vec Ideal S16x2048x1 .i32) (w : Vec Ideal S4096x3584 .fp8e4m3) (sc b' : Vec Ideal S3584 .f32)
    (b : Fin 16) (s : Fin 2047) :
    out0_6 x v w sc b' (ix2 b s) = Cert.Spec.scale (nrm (yrow x v w sc b' b ⟨s.val, by omega⟩)) := by
  have hy : (fun n => k0_pay9 (k0_pay8 x w) sc b' v (ix3 b ⟨s.val, by omega⟩ n)) = nrm (yrow x v w sc b' b ⟨s.val, by omega⟩) := by
    funext n
    rw [pay9_apply]
    simp only [pay8_apply]
    rfl
  unfold out0_6 k0_pay12
  rw [canon6]
  rw [ld3 x, ldw w, ld1 sc, ld1 b', ldv v]
  unfold Cert.Spec.scale
  rw [← hy, ← pay10g]
  rw [pay2g, pay11g]

theorem out8_apply (x : Vec Ideal S16x2048x4096 .bf16) (v : Vec Ideal S16x2048x1 .i32) (w : Vec Ideal S4096x3584 .fp8e4m3) (sc b' : Vec Ideal S3584 .f32)
    (b : Fin 16) (s : Fin 2047) :
    out0_8 x v w sc b' (ix2 b s) = Cert.Spec.scale (fun k : Fin 4096 => x (ix3 b ⟨s.val, by omega⟩ k)) := by
  unfold out0_8
  rw [canon6]
  rw [ld3 x]
  rw [← pay6_apply, pay3g]

end Cert.ReferenceIdeal.Value

end
-- ==== Proof.RefArr.lean ====
/- The arrays of the reference's kernel region, whose single block is the whole array, as functions of the arguments. -/
module

public import proofs.«01_k».proof.Proof.RefHost
public import proofs.«01_k».proof.Proof.RefValue
public import proofs.«01_k».proof.Proof.Common
public import Idealize.ShloMosaic.Lib.Pipeline.ValueKit.Geometry

@[expose] public section

set_option maxRecDepth 16384
set_option maxHeartbeats 1000000

noncomputable section

namespace Cert.ReferenceIdeal.Value

open Cert.ReferenceIdeal Cert.ReferenceIdeal.Gen Idealize.ShloMosaic Idealize.ShloMosaic.TcCoe Idealize.SL.Sem Cert.Spec
open Idealize.ShloMosaic.Pipeline (Dat Window)

variable (m : (l : Loc nD τ sig) → Buf (Elt Ideal) l)

/-- The region's only grid point. -/
def t0 : Fin cfg0.N := ⟨0, by decide⟩

theorem iblk0 (c : Dev nD) : iblk m c 0 t0 = V m c main_v44 := by
  funext i
  refine congrArg (V m c main_v44) (funext fun a => Fin.ext ?_)
  exact Window.rect_emb_val_of_index_zero win0_0 t0 a (by fin_cases a <;> rfl) i

theorem iblk1 (c : Dev nD) : iblk m c 1 t0 = V m c main_v54 := by
  funext i
  refine congrArg (V m c main_v54) (funext fun a => Fin.ext ?_)
  exact Window.rect_emb_val_of_index_zero win0_1 t0 a (by fin_cases a <;> rfl) i

theorem iblk2 (c : Dev nD) : iblk m c 2 t0 = V m c main_arg5 := by
  funext i
  refine congrArg (V m c main_arg5) (funext fun a => Fin.ext ?_)
  exact Window.rect_emb_val_of_index_zero win0_2 t0 a (by fin_cases a <;> rfl) i

theorem iblk3 (c : Dev nD) : iblk m c 3 t0 = V m c main_arg6 := by
  funext i
  refine congrArg (V m c main_arg6) (funext fun a => Fin.ext ?_)
  exact Window.rect_emb_val_of_index_zero win0_3 t0 a (by fin_cases a <;> rfl) i

theorem iblk4 (c : Dev nD) : iblk m c 4 t0 = V m c main_arg7 := by
  funext i
  refine congrArg (V m c main_arg7) (funext fun a => Fin.ext ?_)
  exact Window.rect_emb_val_of_index_zero win0_4 t0 a (by fin_cases a <;> rfl) i

theorem arr5 (c : Dev nD) : (dats m 0 c).arrAt 5 cfg0.N = out0_5 (V m c main_v44) (V m c main_v54) (V m c main_arg5) (V m c main_arg6) (V m c main_arg7) := by
  funext i
  refine ((dats m 0 c).arrAt_emb_eq_after_last 5 t0 (by decide +kernel) i).trans ?_
  rw [after0_5, iblk0, iblk1, iblk2, iblk3, iblk4]
  generalize out0_5 (V m c main_v44) (V m c main_v54) (V m c main_arg5) (V m c main_arg6) (V m c main_arg7) = z
  rfl

theorem arr6 (c : Dev nD) : (dats m 0 c).arrAt 6 cfg0.N = out0_6 (V m c main_v44) (V m c main_v54) (V m c main_arg5) (V m c main_arg6) (V m c main_arg7) := by
  funext i
  refine ((dats m 0 c).arrAt_emb_eq_after_last 6 t0 (by decide +kernel) i).trans ?_
  rw [after0_6, iblk0, iblk1, iblk2, iblk3, iblk4]
  generalize out0_6 (V m c main_v44) (V m c main_v54) (V m c main_arg5) (V m c main_arg6) (V m c main_arg7) = z
  rfl

theorem arr7 (c : Dev nD) : (dats m 0 c).arrAt 7 cfg0.N = out0_7 (V m c main_v44) (V m c main_v54) (V m c main_arg5) (V m c main_arg6) (V m c main_arg7) := by
  funext i
  refine ((dats m 0 c).arrAt_emb_eq_after_last 7 t0 (by decide +kernel) i).trans ?_
  rw [after0_7, iblk0, iblk1, iblk2, iblk3, iblk4]
  generalize out0_7 (V m c main_v44) (V m c main_v54) (V m c main_arg5) (V m c main_arg6) (V m c main_arg7) = z
  rfl

theorem arr8 (c : Dev nD) : (dats m 0 c).arrAt 8 cfg0.N = out0_8 (V m c main_v44) (V m c main_v54) (V m c main_arg5) (V m c main_arg6) (V m c main_arg7) := by
  funext i
  refine ((dats m 0 c).arrAt_emb_eq_after_last 8 t0 (by decide +kernel) i).trans ?_
  rw [after0_8, iblk0, iblk1, iblk2, iblk3, iblk4]
  generalize out0_8 (V m c main_v44) (V m c main_v54) (V m c main_arg5) (V m c main_arg6) (V m c main_arg7) = z
  rfl

/-- The reference's projected row. -/
abbrev rrow (c : Dev nD) (b : Fin 16) (s : Fin 2047) : Fin 3584 → EReal :=
  prow (m ((c : Thread nD τ).loc main_arg0)) (m ((c : Thread nD τ).loc main_arg1)) (m ((c : Thread nD τ).loc main_arg5)) (m ((c : Thread nD τ).loc main_arg6)) (m ((c : Thread nD τ).loc main_arg7)) b s

theorem xm_row (c : Dev nD) (b : Fin 16) (s : Fin 2047) :
    (fun k => V m c main_v44 (ix3 b ⟨s.val, by omega⟩ k)) = tok (m ((c : Thread nD τ).loc main_arg0)) b s :=
  funext fun k => xm_apply m c b ⟨s.val, by omega⟩ k s.isLt

theorem yrow_eq (c : Dev nD) (b : Fin 16) (s : Fin 2047) :
    yrow (V m c main_v44) (V m c main_v54) (V m c main_arg5) (V m c main_arg6) (V m c main_arg7) b ⟨s.val, by omega⟩ = rrow m c b s := by
  funext n
  unfold yrow rrow prow
  rw [valid_apply, xm_row, V_main_arg5, V_main_arg6, V_main_arg7]

theorem ref_mv (c : Dev nD) (b : Fin 16) (s : Fin 2047) (n : Fin 3584) :
    (dats m 0 c).arrAt 5 cfg0.N (ix3 b (⟨s.val, by omega⟩ : Fin 2048) n) = code (nrm (rrow m c b s)) n := by
  rw [arr5]
  refine (out5_apply _ _ _ _ _ b ⟨s.val, by omega⟩ n).trans ?_
  rw [yrow_eq]

theorem ref_mvs (c : Dev nD) (b : Fin 16) (s : Fin 2047) :
    (dats m 0 c).arrAt 6 cfg0.N (ix2 b s) = Cert.Spec.scale (nrm (rrow m c b s)) := by
  rw [arr6]
  refine (out6_apply _ _ _ _ _ b s).trans ?_
  rw [yrow_eq]

theorem ref_xc (c : Dev nD) (b : Fin 16) (s : Fin 2047) (d : Fin 4096) :
    (dats m 0 c).arrAt 7 cfg0.N (ix3 b (⟨s.val, by omega⟩ : Fin 2048) d) = code (tok (m ((c : Thread nD τ).loc main_arg0)) b s) d := by
  rw [arr7]
  refine (out7_apply _ _ _ _ _ b ⟨s.val, by omega⟩ d).trans ?_
  rw [xm_row]

theorem ref_xs (c : Dev nD) (b : Fin 16) (s : Fin 2047) :
    (dats m 0 c).arrAt 8 cfg0.N (ix2 b s) = Cert.Spec.scale (tok (m ((c : Thread nD τ).loc main_arg0)) b s) := by
  rw [arr8]
  refine (out8_apply _ _ _ _ _ b s).trans ?_
  rw [xm_row]

end Cert.ReferenceIdeal.Value

end
-- ==== Proof.RefHead.lean ====
/- What the reference computes before its kernel region of the other results: the dense result, the token weights and the lexical result. -/
module

public import proofs.«01_k».proof.Proof.RefHost
public import proofs.«01_k».proof.Proof.HeadSpec

@[expose] public section

set_option maxRecDepth 16384
set_option maxHeartbeats 1000000

noncomputable section

namespace Cert.ReferenceIdeal.Value

open Cert.ReferenceIdeal Cert.ReferenceIdeal.Gen Idealize.ShloMosaic Idealize.ShloMosaic.TcCoe Idealize.SL.Sem Cert.Spec
open Idealize.ShloMosaic.Pipeline (Dat)

variable (m : (l : Loc nD τ sig) → Buf (Elt Ideal) l)

theorem dense_apply (c : Dev nD) (b : Fin 16) (k : Fin 4096) : V m c main_v10 (ix2 b k) = dns (m ((c : Thread nD τ).loc main_arg0)) b k := by
  unfold V hostOps0 hostOps0_1 hostOps0_2 hostOps0_3 hostOps0_4
  simp only [List.flatten_cons, List.flatten_nil, List.append_nil, List.cons_append, List.nil_append]
  after_results
  generalize m ((c : Thread nD τ).loc main_arg0) = x
  pointwise
  rfl

theorem V31 (c : Dev nD) : V m c main_v31 = select (andi (broadcastInDim S16x2048 ![0, 1] bcast_S1x2048_S16x2048_0_1
          (cmpi .sge (broadcastInDim S1x2048 ![1] bcast_S2048_S1x2048_1 (iotaInDim S2048 32 0)) (broadcastInDim S1x2048 ![] bcast_S_S1x2048 (constantI S_ 32 1#32))))
        (cmpi .slt (broadcastInDim S16x2048 ![0, 1] bcast_S1x2048_S16x2048_0_1 (broadcastInDim S1x2048 ![1] bcast_S2048_S1x2048_1 (iotaInDim S2048 32 0)))
          (broadcastInDim S16x2048 ![0, 1] bcast_S16x1_S16x2048_0_1 (broadcastInDim S16x1 ![0] bcast_S16_S16x1_0 (m ((c : Thread nD τ).loc main_arg1))))))
      (maximumf (addf (Host.reduceAdd (mulf (extf .f32 (m ((c : Thread nD τ).loc main_arg0)) bitsLt_bf16_f32)
            (broadcastInDim S16x2048x4096 ![0, 1, 2] bcast_S1x1x4096_S16x2048x4096_0_1_2 (broadcastInDim S1x1x4096 ![2] bcast_S4096_S1x1x4096_2 (m ((c : Thread nD τ).loc main_arg3)))))
          (constant (F := Ideal) S_ .f32 0x00000000#32) reducesTo_S16x2048x4096_S16x2048_d2 h_S_)
          (broadcastInDim S16x2048 ![] bcast_S_S16x2048 (shapeCast S_ (m ((c : Thread nD τ).loc main_arg4)) shapeCasts_S1_S_)))
        (broadcastInDim S16x2048 ![] bcast_S_S16x2048 (constant (F := Ideal) S_ .f32 0x00000000#32)))
      (broadcastInDim S16x2048 ![] bcast_S_S16x2048 (constant (F := Ideal) S_ .f32 0x00000000#32)) := by
  unfold V hostOps0 hostOps0_1 hostOps0_2 hostOps0_3 hostOps0_4
  simp only [List.flatten_cons, List.flatten_nil, List.append_nil, List.cons_append, List.nil_append]
  after_results
  rfl

theorem tw_apply (c : Dev nD) (b : Fin 16) (s : Fin 2048) : V m c main_v31 (ix2 b s)
    = tww (m ((c : Thread nD τ).loc main_arg0)) (m ((c : Thread nD τ).loc main_arg1)) (m ((c : Thread nD τ).loc main_arg3)) (m ((c : Thread nD τ).loc main_arg4)) b s := by
  rw [V31]
  generalize m ((c : Thread nD τ).loc main_arg0) = x
  generalize m ((c : Thread nD τ).loc main_arg1) = len
  generalize m ((c : Thread nD τ).loc main_arg3) = ws
  generalize m ((c : Thread nD τ).loc main_arg4) = bs
  pointwise
  rfl

theorem V40 (c : Dev nD) : V m c main_v40 = Host.reduce FloatOps.maximumf (select
      (cmpi .eq (broadcastInDim S16x2048x2048 ![0, 1, 2] bcast_S16x2048x1_S16x2048x2048_0_1_2 (broadcastInDim S16x2048x1 ![0, 1] bcast_S16x2048_S16x2048x1_0_1 (m ((c : Thread nD τ).loc main_arg2))))
        (broadcastInDim S16x2048x2048 ![0, 1, 2] bcast_S1x1x2048_S16x2048x2048_0_1_2 (broadcastInDim S1x1x2048 ![2] bcast_S2048_S1x1x2048_2 (iotaInDim S2048 32 0))))
      (broadcastInDim S16x2048x2048 ![0, 1, 2] bcast_S16x2048x1_S16x2048x2048_0_1_2 (broadcastInDim S16x2048x1 ![0, 1] bcast_S16x2048_S16x2048x1_0_1 (V m c main_v31)))
      (broadcastInDim S16x2048x2048 ![] bcast_S_S16x2048x2048 (constant (F := Ideal) S_ .f32 0x00000000#32)))
      (constant (F := Ideal) S_ .f32 0xFF800000#32) reducesTo_S16x2048x2048_S16x2048_d1 h_S_ := by
  rw [V31]
  unfold V hostOps0 hostOps0_1 hostOps0_2 hostOps0_3 hostOps0_4
  simp only [List.flatten_cons, List.flatten_nil, List.append_nil, List.cons_append, List.nil_append]
  after_results
  rfl

theorem lex_apply (c : Dev nD) (b : Fin 16) (j : Fin 2048) : V m c main_v40 (ix2 b j)
    = lexv (m ((c : Thread nD τ).loc main_arg2)) (tww (m ((c : Thread nD τ).loc main_arg0)) (m ((c : Thread nD τ).loc main_arg1)) (m ((c : Thread nD τ).loc main_arg3)) (m ((c : Thread nD τ).loc main_arg4))) b j := by
  rw [V40]
  unfold lexv
  simp only [← tw_apply]
  generalize m ((c : Thread nD τ).loc main_arg2) = fp
  generalize V m c main_v31 = w
  pointwise
  rw [show Ideal.ofBits .f32 0xFF800000#32 = (⊥ : EReal) from by simp [Ideal.ofBits, Ideal.ieee]]
  rfl

variable (ρ : Dev nD → PrngReg)

/-- After the reference's run the dense result, the token weights and the lexical result are as the host computed them, beside what
    `run_blocks` says. -/
theorem run_all : θ_run defs (onTc (τ := τ) (main (F := Ideal))) ⟨m, fun _ => 0, ρ⟩ fun r => ∀ c : Dev nD,
      r.2.mem ((c : Thread nD τ).loc main_v10) = V m c main_v10
      ∧ r.2.mem ((c : Thread nD τ).loc main_v40) = V m c main_v40
      ∧ r.2.mem ((c : Thread nD τ).loc main_v31) = V m c main_v31
      ∧ r.2.mem ((c : Thread nD τ).loc main_v55_0) = (dats m 0 c).arrAt 5 cfg0.N
      ∧ r.2.mem ((c : Thread nD τ).loc main_v55_1) = (dats m 0 c).arrAt 6 cfg0.N
      ∧ r.2.mem ((c : Thread nD τ).loc main_v55_2) = (dats m 0 c).arrAt 7 cfg0.N
      ∧ r.2.mem ((c : Thread nD τ).loc main_v55_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).2 main_v10 (Pipeline.mem_restRefs_of main_v10 (by decide) (by decide)),
      (h c).2 main_v40 (Pipeline.mem_restRefs_of main_v40 (by decide) (by decide)),
      (h c).2 main_v31 (Pipeline.mem_restRefs_of main_v31 (by decide) (by decide)),
      post5 m r h c, post6 m r h c, post7 m r h c, post8 m r h c,
      kept_main_arg0 m r h c, kept_main_arg1 m r h c, kept_main_arg2 m r h c, kept_main_arg3 m r h c, kept_main_arg4 m r h c, kept_main_arg5 m r h c, kept_main_arg6 m r h c, kept_main_arg7 m r h c⟩)
    (run_main m ρ)

end Cert.ReferenceIdeal.Value

end
-- ==== Proof.Agree.lean ====
/- What the mask selects, and the values of equal arguments: used to show that the kernel and the reference agree. -/
module

public import proofs.«01_k».proof.Defs
public import proofs.«01_k».proof.Proof.HeadArr
public import proofs.«01_k».proof.Proof.RefArr
public import proofs.«01_k».proof.Proof.RefHead
public import proofs.«01_k».proof.Proof.Gen.On_in_sequence

@[expose] public section

set_option maxRecDepth 16384
set_option maxHeartbeats 1000000

noncomputable section

namespace Cert.Agree

open Idealize.ShloMosaic Idealize.ShloMosaic.TcCoe Idealize.SL.Sem
open Cert.Spec

section Masks

variable [Cert.On_in_sequence.Facts]
variable (a0 : FVec Ideal ⟨3, ![16, 2048, 4096]⟩ .bf16) (a1 : IVec ⟨1, ![16]⟩ 32) (a2 : IVec ⟨2, ![16, 2048]⟩ 32) (a3 : FVec Ideal ⟨1, ![4096]⟩ .f32)
  (a4 : FVec Ideal ⟨1, ![1]⟩ .f32) (a5 : FVec Ideal ⟨2, ![4096, 3584]⟩ .fp8e4m3) (a6 a7 : FVec Ideal ⟨1, ![3584]⟩ .f32)

theorem below_of : ∀ k : Fin 2048, Scalar.cmpi .slt (BitVec.ofNat 32 k.val) 2047#32 = 1#1 → k.val < 2047 := by decide +kernel

/-- The mask selects the rows of the vectors' codes that belong to a token. -/
theorem mask_mv (i : (⟨3, ![16, 2048, 3584]⟩ : Shape).Idx) (h : (Cert.On_in_sequence.fn (F := Ideal) a0 a1 a2 a3 a4 a5 a6 a7).2.2.2.1 i = 1#1) :
    (i 1).val < 2047 := below_of (i 1) h

/-- The mask selects the rows of the tokens' codes that belong to a token. -/
theorem mask_xc (i : (⟨3, ![16, 2048, 4096]⟩ : Shape).Idx) (h : (Cert.On_in_sequence.fn (F := Ideal) a0 a1 a2 a3 a4 a5 a6 a7).2.2.2.2.2.1 i = 1#1) :
    (i 1).val < 2047 := below_of (i 1) h

end Masks

theorem eta3 {k : ℕ} (i : (⟨3, ![16, 2048, k]⟩ : Shape).Idx) (h : (i 1).val < 2047) :
    i = ix3 (i 0) (⟨(⟨(i 1).val, h⟩ : Fin 2047).val, (i 1).isLt⟩ : Fin 2048) (i 2) := by
  funext a; fin_cases a <;> rfl

theorem eta2 (i : (⟨2, ![16, 2047]⟩ : Shape).Idx) : i = ix2 (i 0) (i 1) := by
  funext a; fin_cases a <;> rfl

theorem etaD (i : (⟨2, ![16, 4096]⟩ : Shape).Idx) : i = ix2 (i 0) (i 1) := by
  funext a; fin_cases a <;> rfl

theorem etaS (i : (⟨2, ![16, 2048]⟩ : Shape).Idx) : i = ix2 (i 0) (i 1) := by
  funext a; fin_cases a <;> rfl

theorem tww_congr {x x' : Vec Ideal ⟨3, ![16, 2048, 4096]⟩ .bf16} {len len' : Vec Ideal ⟨1, ![16]⟩ .i32} {ws ws' : Vec Ideal ⟨1, ![4096]⟩ .f32}
    {bs bs' : Vec Ideal ⟨1, ![1]⟩ .f32} (hx : x' = x) (hl : len' = len) (hw : ws' = ws) (hb : bs' = bs) : tww x' len' ws' bs' = tww x len ws bs := by
  rw [hx, hl, hw, hb]

theorem lexv_congr {fp fp' : Vec Ideal ⟨2, ![16, 2048]⟩ .i32} {w w' : Fin 16 → Fin 2048 → EReal} (hf : fp' = fp) (hw : w' = w) (b : Fin 16) (j : Fin 2048) :
    lexv fp' w' b j = lexv fp w b j := by
  rw [hf, hw]

theorem prow_congr {x x' : Vec Ideal ⟨3, ![16, 2048, 4096]⟩ .bf16} {len len' : Vec Ideal ⟨1, ![16]⟩ .i32} {w w' : Vec Ideal ⟨2, ![4096, 3584]⟩ .fp8e4m3}
    {sc sc' b b' : Vec Ideal ⟨1, ![3584]⟩ .f32} (hx : x' = x) (hl : len' = len) (hw : w' = w) (hs : sc' = sc) (hb : b' = b) (i : Fin 16) (s : Fin 2047) :
    prow x' len' w' sc' b' i s = prow x len w sc b i s := by
  rw [hx, hl, hw, hs, hb]

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.On_in_sequence
public import proofs.«01_k».proof.Proof.FrameIdeal
public import proofs.«01_k».proof.Proof.FrameKernel
public import proofs.«01_k».proof.Proof.Agree
public import Idealize.ShloMosaic.Adequacy
public import Idealize.ShloMosaic.Init

@[expose] public section

noncomputable section

namespace Cert.Proof

open Idealize.ShloMosaic Idealize.ShloMosaic.TcCoe Idealize.SL.Sem Cert.Spec Cert.Agree

/-- The dense result. -/
def denseVal (m : (l : Loc Cert.KernelIdeal.nD Cert.KernelIdeal.τ Cert.KernelIdeal.sig) → Buf (Elt Ideal) l) (i : (⟨2, ![16, 4096]⟩ : Shape).Idx) : EReal := Cert.KernelIdeal.Val.kdns m (i 0) (i 1)

/-- The lexical result. -/
def lexVal (m : (l : Loc Cert.KernelIdeal.nD Cert.KernelIdeal.τ Cert.KernelIdeal.sig) → Buf (Elt Ideal) l) (i : (⟨2, ![16, 2048]⟩ : Shape).Idx) : EReal := Cert.KernelIdeal.Val.klex m (i 0) (i 1)

/-- The token weights. -/
def twVal (m : (l : Loc Cert.KernelIdeal.nD Cert.KernelIdeal.τ Cert.KernelIdeal.sig) → Buf (Elt Ideal) l) (i : (⟨2, ![16, 2048]⟩ : Shape).Idx) : EReal := Cert.KernelIdeal.Val.ktw m (i 0) (i 1)

/-- The vectors' codes, of the tokens' rows. -/
def mvVal (m : (l : Loc Cert.KernelIdeal.nD Cert.KernelIdeal.τ Cert.KernelIdeal.sig) → Buf (Elt Ideal) l) (i : (⟨3, ![16, 2048, 3584]⟩ : Shape).Idx) : EReal :=
  if h : (i 1).val < 2047 then code (nrm (Cert.KernelIdeal.Val.krow m 0 (i 0) ⟨(i 1).val, h⟩)) (i 2) else 0

/-- The vectors' scales. -/
def mvsVal (m : (l : Loc Cert.KernelIdeal.nD Cert.KernelIdeal.τ Cert.KernelIdeal.sig) → Buf (Elt Ideal) l) (i : (⟨2, ![16, 2047]⟩ : Shape).Idx) : EReal :=
  scale (nrm (Cert.KernelIdeal.Val.krow m 0 (i 0) (i 1)))

/-- The tokens' codes, of the tokens' rows. -/
def xcVal (m : (l : Loc Cert.KernelIdeal.nD Cert.KernelIdeal.τ Cert.KernelIdeal.sig) → Buf (Elt Ideal) l) (i : (⟨3, ![16, 2048, 4096]⟩ : Shape).Idx) : EReal :=
  if h : (i 1).val < 2047 then code (tok (m (((0 : Dev Cert.KernelIdeal.nD) : Thread Cert.KernelIdeal.nD Cert.KernelIdeal.τ).loc Cert.KernelIdeal.main_arg0)) (i 0) ⟨(i 1).val, h⟩) (i 2) else 0

/-- The tokens' scales. -/
def xsVal (m : (l : Loc Cert.KernelIdeal.nD Cert.KernelIdeal.τ Cert.KernelIdeal.sig) → Buf (Elt Ideal) l) (i : (⟨2, ![16, 2047]⟩ : Shape).Idx) : EReal :=
  scale (tok (m (((0 : Dev Cert.KernelIdeal.nD) : Thread Cert.KernelIdeal.nD Cert.KernelIdeal.τ).loc Cert.KernelIdeal.main_arg0)) (i 0) (i 1))

theorem mvVal_eq (m : (l : Loc Cert.KernelIdeal.nD Cert.KernelIdeal.τ Cert.KernelIdeal.sig) → Buf (Elt Ideal) l) (i : (⟨3, ![16, 2048, 3584]⟩ : Shape).Idx) (h : (i 1).val < 2047) :
    mvVal m i = code (nrm (Cert.KernelIdeal.Val.krow m 0 (i 0) ⟨(i 1).val, h⟩)) (i 2) := dif_pos h

theorem xcVal_eq (m : (l : Loc Cert.KernelIdeal.nD Cert.KernelIdeal.τ Cert.KernelIdeal.sig) → Buf (Elt Ideal) l) (i : (⟨3, ![16, 2048, 4096]⟩ : Shape).Idx) (h : (i 1).val < 2047) :
    xcVal m i = code (tok (m (((0 : Dev Cert.KernelIdeal.nD) : Thread Cert.KernelIdeal.nD Cert.KernelIdeal.τ).loc Cert.KernelIdeal.main_arg0)) (i 0) ⟨(i 1).val, h⟩) (i 2) := dif_pos h

/-- From memories with the same arguments the kernel and the reference end with the same dense result, the same lexical result, the
    same token weights, the same vectors' codes and scales and the same tokens' codes and scales, wherever the mask selects. -/
theorem agree [hK : Cert.KernelIdeal.Facts] [hR : Cert.ReferenceIdeal.Facts] [hO : Cert.On_in_sequence.Facts] :
    Cert.algebraic_KernelIdeal_ReferenceIdeal_on_in_sequence := by
  intro m g m' g' _ hargs
  refine ⟨fun _ => denseVal m, fun _ => lexVal m, fun _ => twVal m,
    fun _ => mvVal m, fun _ => mvsVal m, fun _ => xcVal m, fun _ => xsVal m, ?_, ?_⟩
  · refine (θ_run _ _ _).mono ?_ (Cert.KernelIdeal.Hand.run_main (kn := Cert.KernelIdeal.Val.knV m) g (Cert.KernelIdeal.Val.bodyRuns_val m))
    intro r h c
    obtain rfl : c = 0 := Subsingleton.elim c 0
    refine ⟨fun i hi => ?_, fun i hi => ?_, fun i hi => ?_, fun i hi => ?_, fun i hi => ?_, fun i hi => ?_, fun i hi => ?_,
      Cert.KernelIdeal.Hand.args_kept h.1 0⟩
    · exact Eq.trans (congrArg (r.2.mem (((0 : Dev Cert.KernelIdeal.nD) : Thread Cert.KernelIdeal.nD Cert.KernelIdeal.τ).loc Cert.KernelIdeal.main_v4_0)) (etaD i))
        (Cert.KernelIdeal.Val.ker_dense h.1 (i 0) (i 1))
    · exact Eq.trans (congrArg (r.2.mem (((0 : Dev Cert.KernelIdeal.nD) : Thread Cert.KernelIdeal.nD Cert.KernelIdeal.τ).loc Cert.KernelIdeal.main_v4_1)) (etaS i))
        (Cert.KernelIdeal.Val.ker_lex h.1 (i 0) (i 1))
    · exact Eq.trans (congrArg (r.2.mem (((0 : Dev Cert.KernelIdeal.nD) : Thread Cert.KernelIdeal.nD Cert.KernelIdeal.τ).loc Cert.KernelIdeal.main_v4_2)) (etaS i))
        (Cert.KernelIdeal.Val.ker_tw h.1 (i 0) (i 1))
    · have hs := mask_mv _ _ _ _ _ _ _ _ i hi
      refine Eq.trans (congrArg (r.2.mem (((0 : Dev Cert.KernelIdeal.nD) : Thread Cert.KernelIdeal.nD Cert.KernelIdeal.τ).loc Cert.KernelIdeal.main_v4_3)) (eta3 i hs))
        ((Cert.KernelIdeal.Val.ker_mv h.1 (i 0) ⟨(i 1).val, hs⟩ (i 2)).trans ?_)
      exact (mvVal_eq m i hs).symm
    · exact Eq.trans (congrArg (r.2.mem (((0 : Dev Cert.KernelIdeal.nD) : Thread Cert.KernelIdeal.nD Cert.KernelIdeal.τ).loc Cert.KernelIdeal.main_v4_4)) (eta2 i))
        (Cert.KernelIdeal.Val.ker_mvs h.1 (i 0) (i 1))
    · have hs := mask_xc _ _ _ _ _ _ _ _ i hi
      refine Eq.trans (congrArg (r.2.mem (((0 : Dev Cert.KernelIdeal.nD) : Thread Cert.KernelIdeal.nD Cert.KernelIdeal.τ).loc Cert.KernelIdeal.main_v4_5)) (eta3 i hs))
        ((Cert.KernelIdeal.Val.ker_xc h.1 (i 0) ⟨(i 1).val, hs⟩ (i 2)).trans ?_)
      exact (xcVal_eq m i hs).symm
    · exact Eq.trans (congrArg (r.2.mem (((0 : Dev Cert.KernelIdeal.nD) : Thread Cert.KernelIdeal.nD Cert.KernelIdeal.τ).loc Cert.KernelIdeal.main_v4_6)) (eta2 i))
        (Cert.KernelIdeal.Val.ker_xs h.1 (i 0) (i 1))
  · refine (θ_run _ _ _).mono ?_ (Cert.ReferenceIdeal.Value.run_all m' g')
    intro r h c
    obtain rfl : c = 0 := Subsingleton.elim c 0
    obtain ⟨e10, e40, e31, e5, e6, e7, e8, hkeep⟩ := h 0
    obtain ⟨a0, a1, a2, a3, a4, a5, a6, a7⟩ := hargs 0
    have hrow : ∀ (b : Fin 16) (s : Fin 2047), Cert.ReferenceIdeal.Value.rrow m' 0 b s = Cert.KernelIdeal.Val.krow m 0 b s := fun b s =>
      prow_congr a0 a1 a5 a6 a7 b s
    have htok : ∀ (b : Fin 16) (s : Fin 2047), tok (m' (((0 : Dev Cert.ReferenceIdeal.nD) : Thread Cert.ReferenceIdeal.nD Cert.ReferenceIdeal.τ).loc Cert.ReferenceIdeal.main_arg0)) b s
        = tok (m (((0 : Dev Cert.KernelIdeal.nD) : Thread Cert.KernelIdeal.nD Cert.KernelIdeal.τ).loc Cert.KernelIdeal.main_arg0)) b s := fun b s =>
      congrArg (fun x => tok x b s) a0
    refine ⟨fun i hi => ?_, fun i hi => ?_, fun i hi => ?_, fun i hi => ?_, fun i hi => ?_, fun i hi => ?_, fun i hi => ?_, hkeep⟩
    · refine Eq.trans (congrFun e10 i) (Eq.trans (congrArg (Cert.ReferenceIdeal.Gen.V m' 0 Cert.ReferenceIdeal.main_v10) (etaD i)) ((Cert.ReferenceIdeal.Value.dense_apply m' 0 (i 0) (i 1)).trans ?_))
      exact congrArg (fun x => dns x (i 0) (i 1)) a0
    · refine Eq.trans (congrFun e40 i) (Eq.trans (congrArg (Cert.ReferenceIdeal.Gen.V m' 0 Cert.ReferenceIdeal.main_v40) (etaS i)) ((Cert.ReferenceIdeal.Value.lex_apply m' 0 (i 0) (i 1)).trans ?_))
      exact lexv_congr a2 (tww_congr a0 a1 a3 a4) (i 0) (i 1)
    · refine Eq.trans (congrFun e31 i) (Eq.trans (congrArg (Cert.ReferenceIdeal.Gen.V m' 0 Cert.ReferenceIdeal.main_v31) (etaS i)) ((Cert.ReferenceIdeal.Value.tw_apply m' 0 (i 0) (i 1)).trans ?_))
      exact congrFun (congrFun (tww_congr a0 a1 a3 a4) (i 0)) (i 1)
    · have hs := mask_mv _ _ _ _ _ _ _ _ i hi
      refine Eq.trans (congrFun e5 i) (Eq.trans (congrArg (((Cert.ReferenceIdeal.Gen.dats m' 0 0)).arrAt 5 Cert.ReferenceIdeal.cfg0.N) (eta3 i hs))
        ((Cert.ReferenceIdeal.Value.ref_mv m' 0 (i 0) ⟨(i 1).val, hs⟩ (i 2)).trans ?_))
      exact (congrArg (fun x => code (nrm x) (i 2)) (hrow (i 0) ⟨(i 1).val, hs⟩)).trans (mvVal_eq m i hs).symm
    · refine Eq.trans (congrFun e6 i) (Eq.trans (congrArg (((Cert.ReferenceIdeal.Gen.dats m' 0 0)).arrAt 6 Cert.ReferenceIdeal.cfg0.N) (eta2 i))
        ((Cert.ReferenceIdeal.Value.ref_mvs m' 0 (i 0) (i 1)).trans ?_))
      exact congrArg (fun x => scale (nrm x)) (hrow (i 0) (i 1))
    · have hs := mask_xc _ _ _ _ _ _ _ _ i hi
      refine Eq.trans (congrFun e7 i) (Eq.trans (congrArg (((Cert.ReferenceIdeal.Gen.dats m' 0 0)).arrAt 7 Cert.ReferenceIdeal.cfg0.N) (eta3 i hs))
        ((Cert.ReferenceIdeal.Value.ref_xc m' 0 (i 0) ⟨(i 1).val, hs⟩ (i 2)).trans ?_))
      exact (congrArg (fun x => code x (i 2)) (htok (i 0) ⟨(i 1).val, hs⟩)).trans (xcVal_eq m i hs).symm
    · refine Eq.trans (congrFun e8 i) (Eq.trans (congrArg (((Cert.ReferenceIdeal.Gen.dats m' 0 0)).arrAt 8 Cert.ReferenceIdeal.cfg0.N) (eta2 i))
        ((Cert.ReferenceIdeal.Value.ref_xs m' 0 (i 0) (i 1)).trans ?_))
      exact congrArg (fun x => scale x) (htok (i 0) (i 1))

theorem claim : Cert.Claim := ⟨Cert.Kernel.Gen.facts, Cert.KernelIdeal.Gen.facts, Cert.ReferenceIdeal.Gen.facts, Cert.On_in_sequence.Gen.facts,
  fun m g _ => Cert.Kernel.Hand.frame_any m g, fun m g _ => Cert.KernelIdeal.Hand.frame_any m g,
  fun m g _ => Cert.ReferenceIdeal.Gen.frame m g, trivial, agree⟩

end Cert.Proof

end
